-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![32768, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S32768x128 : Shape := ⟨2, ![32768, 128]⟩
abbrev S3x2 : Shape := ⟨2, ![3, 2]⟩
abbrev S4x2 : Shape := ⟨2, ![4, 2]⟩
abbrev S2 : Shape := ⟨1, ![2]⟩
abbrev S_ : Shape := ⟨0, ![]⟩
abbrev S1x1 : Shape := ⟨2, ![1, 1]⟩
abbrev S8192x128 : Shape := ⟨2, ![8192, 128]⟩
abbrev S1 : Shape := ⟨1, ![1]⟩
abbrev S512x1 : Shape := ⟨2, ![512, 1]⟩
abbrev S512x128 : Shape := ⟨2, ![512, 128]⟩
abbrev S256x2x1x128 : Shape := ⟨4, ![256, 2, 1, 128]⟩
abbrev S256x1x1x128 : Shape := ⟨4, ![256, 1, 1, 128]⟩
abbrev S256x1x128 : Shape := ⟨3, ![256, 1, 128]⟩
abbrev S128x2x2x128 : Shape := ⟨4, ![128, 2, 2, 128]⟩
abbrev S128x1x2x128 : Shape := ⟨4, ![128, 1, 2, 128]⟩
abbrev S128x2x128 : Shape := ⟨3, ![128, 2, 128]⟩
abbrev S64x2x4x128 : Shape := ⟨4, ![64, 2, 4, 128]⟩
abbrev S64x1x4x128 : Shape := ⟨4, ![64, 1, 4, 128]⟩
abbrev S64x4x128 : Shape := ⟨3, ![64, 4, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S1x2x256x128 : Shape := ⟨4, ![1, 2, 256, 128]⟩
abbrev S1x1x256x128 : Shape := ⟨4, ![1, 1, 256, 128]⟩
abbrev S1x256x128 : Shape := ⟨3, ![1, 256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S32768x128, .f32⟩
  | .local _ .vmem, ⟨1, _⟩ => ⟨S32768x128, .f32⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_36 : BitVec 32 := 0#32
  ![v2.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32 : BitVec 32 := 8192#32
  let v56 : BitVec 32 := Scalar.muli v2 c8192_i32
  let c0_i32_41 : BitVec 32 := 0#32
  ![v56.toNat, 0]
def k0_off3 (d0 : Dev nD) (c1_i32_28 : BitVec 32) (c0_i32_35 : BitVec 32) : Fin 2 → Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c256_i32 : BitVec 32 := 256#32
  let v54 : BitVec 32 := Scalar.muli v53 c256_i32
  let v55 : BitVec 32 := Scalar.addi v54 c0_i32_35
  ![0, v55.toNat]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_39 : BitVec 32 := 1#32
  let v57 : BitVec 32 := Scalar.muli v53 c1_i32_39
  let v58 : BitVec 32 := Scalar.addi c0_i32_40 v57
  v58.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v65 : BitVec 32 := Scalar.addi v2 c2_i32_43
  let c4_i32_44 : BitVec 32 := 4#32
  let c0_i32_45 : BitVec 32 := 0#32
  let v66 : BitVec 1 := Scalar.cmpi .eq c4_i32_44 c0_i32_45
  let c1_i32_46 : BitVec 32 := 1#32
  let v67 : BitVec 32 := Scalar.select v66 c1_i32_46 c4_i32_44
  let v68 : BitVec 32 := Scalar.remsi v65 v67
  let c0_i32_48 : BitVec 32 := 0#32
  let v70 : BitVec 1 := Scalar.cmpi .slt v68 c0_i32_48
  let c0_i32_49 : BitVec 32 := 0#32
  let v71 : BitVec 1 := Scalar.cmpi .slt v67 c0_i32_49
  let v72 : BitVec 1 := Scalar.xori v70 v71
  let c0_i32_47 : BitVec 32 := 0#32
  let v69 : BitVec 1 := Scalar.cmpi .ne v68 c0_i32_47
  let v73 : BitVec 1 := Scalar.andi v72 v69
  let v74 : BitVec 32 := Scalar.addi v68 v67
  let v75 : BitVec 32 := Scalar.select v73 v74 v68
  let c1_i32_56 : BitVec 32 := 1#32
  let v79 : BitVec 32 := Scalar.muli v75 c1_i32_56
  let v80 : BitVec 32 := Scalar.addi c0_i32_57 v79
  v80.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_60 : BitVec 32 := 3#32
  let v87 : BitVec 32 := Scalar.addi v2 c3_i32_60
  let c4_i32_61 : BitVec 32 := 4#32
  let c0_i32_62 : BitVec 32 := 0#32
  let v88 : BitVec 1 := Scalar.cmpi .eq c4_i32_61 c0_i32_62
  let c1_i32_63 : BitVec 32 := 1#32
  let v89 : BitVec 32 := Scalar.select v88 c1_i32_63 c4_i32_61
  let v90 : BitVec 32 := Scalar.remsi v87 v89
  let c0_i32_65 : BitVec 32 := 0#32
  let v92 : BitVec 1 := Scalar.cmpi .slt v90 c0_i32_65
  let c0_i32_66 : BitVec 32 := 0#32
  let v93 : BitVec 1 := Scalar.cmpi .slt v89 c0_i32_66
  let v94 : BitVec 1 := Scalar.xori v92 v93
  let c0_i32_64 : BitVec 32 := 0#32
  let v91 : BitVec 1 := Scalar.cmpi .ne v90 c0_i32_64
  let v95 : BitVec 1 := Scalar.andi v94 v91
  let v96 : BitVec 32 := Scalar.addi v90 v89
  let v97 : BitVec 32 := Scalar.select v95 v96 v90
  let c1_i32_73 : BitVec 32 := 1#32
  let v101 : BitVec 32 := Scalar.muli v97 c1_i32_73
  let v102 : BitVec 32 := Scalar.addi c0_i32_74 v101
  v102.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_86 : BitVec 32 := 1#32
  ![v2.toNat, 1]
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v109 : BitVec 32 := Scalar.addi v2 c1_i32_77
  let c4_i32_78 : BitVec 32 := 4#32
  let c0_i32_79 : BitVec 32 := 0#32
  let v110 : BitVec 1 := Scalar.cmpi .eq c4_i32_78 c0_i32_79
  let c1_i32_80 : BitVec 32 := 1#32
  let v111 : BitVec 32 := Scalar.select v110 c1_i32_80 c4_i32_78
  let v112 : BitVec 32 := Scalar.remsi v109 v111
  let c0_i32_82 : BitVec 32 := 0#32
  let v114 : BitVec 1 := Scalar.cmpi .slt v112 c0_i32_82
  let c0_i32_83 : BitVec 32 := 0#32
  let v115 : BitVec 1 := Scalar.cmpi .slt v111 c0_i32_83
  let v116 : BitVec 1 := Scalar.xori v114 v115
  let c0_i32_81 : BitVec 32 := 0#32
  let v113 : BitVec 1 := Scalar.cmpi .ne v112 c0_i32_81
  let v117 : BitVec 1 := Scalar.andi v116 v113
  let v118 : BitVec 32 := Scalar.addi v112 v111
  let v119 : BitVec 32 := Scalar.select v117 v118 v112
  let c1_i32_89 : BitVec 32 := 1#32
  let v123 : BitVec 32 := Scalar.muli v119 c1_i32_89
  let v124 : BitVec 32 := Scalar.addi c0_i32_90 v123
  v124.toNat
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_93 : BitVec 32 := 2#32
  let v131 : BitVec 32 := Scalar.addi v2 c2_i32_93
  let c4_i32_94 : BitVec 32 := 4#32
  let c0_i32_95 : BitVec 32 := 0#32
  let v132 : BitVec 1 := Scalar.cmpi .eq c4_i32_94 c0_i32_95
  let c1_i32_96 : BitVec 32 := 1#32
  let v133 : BitVec 32 := Scalar.select v132 c1_i32_96 c4_i32_94
  let v134 : BitVec 32 := Scalar.remsi v131 v133
  let c0_i32_98 : BitVec 32 := 0#32
  let v136 : BitVec 1 := Scalar.cmpi .slt v134 c0_i32_98
  let c0_i32_99 : BitVec 32 := 0#32
  let v137 : BitVec 1 := Scalar.cmpi .slt v133 c0_i32_99
  let v138 : BitVec 1 := Scalar.xori v136 v137
  let c0_i32_97 : BitVec 32 := 0#32
  let v135 : BitVec 1 := Scalar.cmpi .ne v134 c0_i32_97
  let v139 : BitVec 1 := Scalar.andi v138 v135
  let v140 : BitVec 32 := Scalar.addi v134 v133
  let v141 : BitVec 32 := Scalar.select v139 v140 v134
  let c1_i32_106 : BitVec 32 := 1#32
  let v145 : BitVec 32 := Scalar.muli v141 c1_i32_106
  let v146 : BitVec 32 := Scalar.addi c0_i32_107 v145
  v146.toNat
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_110 : BitVec 32 := 3#32
  let v153 : BitVec 32 := Scalar.addi v2 c3_i32_110
  let c4_i32_111 : BitVec 32 := 4#32
  let c0_i32_112 : BitVec 32 := 0#32
  let v154 : BitVec 1 := Scalar.cmpi .eq c4_i32_111 c0_i32_112
  let c1_i32_113 : BitVec 32 := 1#32
  let v155 : BitVec 32 := Scalar.select v154 c1_i32_113 c4_i32_111
  let v156 : BitVec 32 := Scalar.remsi v153 v155
  let c0_i32_115 : BitVec 32 := 0#32
  let v158 : BitVec 1 := Scalar.cmpi .slt v156 c0_i32_115
  let c0_i32_116 : BitVec 32 := 0#32
  let v159 : BitVec 1 := Scalar.cmpi .slt v155 c0_i32_116
  let v160 : BitVec 1 := Scalar.xori v158 v159
  let c0_i32_114 : BitVec 32 := 0#32
  let v157 : BitVec 1 := Scalar.cmpi .ne v156 c0_i32_114
  let v161 : BitVec 1 := Scalar.andi v160 v157
  let v162 : BitVec 32 := Scalar.addi v156 v155
  let v163 : BitVec 32 := Scalar.select v161 v162 v156
  let c1_i32_123 : BitVec 32 := 1#32
  let v167 : BitVec 32 := Scalar.muli v163 c1_i32_123
  let v168 : BitVec 32 := Scalar.addi c0_i32_124 v167
  v168.toNat
def k0_off5 (d0 : Dev nD) (c0_i32_128 : BitVec 32) : Fin 2 → Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_127 : BitVec 32 := 256#32
  let v175 : BitVec 32 := Scalar.muli v2 c256_i32_127
  let v176 : BitVec 32 := Scalar.addi v175 c0_i32_128
  ![0, v176.toNat]
def k0_off6 (d0 : Dev nD) (c1_i32_142 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v193 : BitVec 32 := Scalar.subi v2 c1_i32_142
  let c4_i32_143 : BitVec 32 := 4#32
  let c0_i32_144 : BitVec 32 := 0#32
  let v194 : BitVec 1 := Scalar.cmpi .eq c4_i32_143 c0_i32_144
  let c1_i32_145 : BitVec 32 := 1#32
  let v195 : BitVec 32 := Scalar.select v194 c1_i32_145 c4_i32_143
  let v196 : BitVec 32 := Scalar.remsi v193 v195
  let c0_i32_147 : BitVec 32 := 0#32
  let v198 : BitVec 1 := Scalar.cmpi .slt v196 c0_i32_147
  let c0_i32_148 : BitVec 32 := 0#32
  let v199 : BitVec 1 := Scalar.cmpi .slt v195 c0_i32_148
  let v200 : BitVec 1 := Scalar.xori v198 v199
  let c0_i32_146 : BitVec 32 := 0#32
  let v197 : BitVec 1 := Scalar.cmpi .ne v196 c0_i32_146
  let v201 : BitVec 1 := Scalar.andi v200 v197
  let v202 : BitVec 32 := Scalar.addi v196 v195
  let v203 : BitVec 32 := Scalar.select v201 v202 v196
  let c0_i32_152 : BitVec 32 := 0#32
  ![v203.toNat, 0]
def k0_off7 (d0 : Dev nD) (c1_i32_142 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v193 : BitVec 32 := Scalar.subi v2 c1_i32_142
  let c4_i32_143 : BitVec 32 := 4#32
  let c0_i32_144 : BitVec 32 := 0#32
  let v194 : BitVec 1 := Scalar.cmpi .eq c4_i32_143 c0_i32_144
  let c1_i32_145 : BitVec 32 := 1#32
  let v195 : BitVec 32 := Scalar.select v194 c1_i32_145 c4_i32_143
  let v196 : BitVec 32 := Scalar.remsi v193 v195
  let c0_i32_147 : BitVec 32 := 0#32
  let v198 : BitVec 1 := Scalar.cmpi .slt v196 c0_i32_147
  let c0_i32_148 : BitVec 32 := 0#32
  let v199 : BitVec 1 := Scalar.cmpi .slt v195 c0_i32_148
  let v200 : BitVec 1 := Scalar.xori v198 v199
  let c0_i32_146 : BitVec 32 := 0#32
  let v197 : BitVec 1 := Scalar.cmpi .ne v196 c0_i32_146
  let v201 : BitVec 1 := Scalar.andi v200 v197
  let v202 : BitVec 32 := Scalar.addi v196 v195
  let v203 : BitVec 32 := Scalar.select v201 v202 v196
  let c8192_i32_151 : BitVec 32 := 8192#32
  let v206 : BitVec 32 := Scalar.muli v203 c8192_i32_151
  let c0_i32_157 : BitVec 32 := 0#32
  ![v206.toNat, 0]
def k0_off8 (d0 : Dev nD) (c1_i32_142 : BitVec 32) (c0_i32_150 : BitVec 32) : Fin 2 → Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v193 : BitVec 32 := Scalar.subi v2 c1_i32_142
  let c4_i32_143 : BitVec 32 := 4#32
  let c0_i32_144 : BitVec 32 := 0#32
  let v194 : BitVec 1 := Scalar.cmpi .eq c4_i32_143 c0_i32_144
  let c1_i32_145 : BitVec 32 := 1#32
  let v195 : BitVec 32 := Scalar.select v194 c1_i32_145 c4_i32_143
  let v196 : BitVec 32 := Scalar.remsi v193 v195
  let c0_i32_147 : BitVec 32 := 0#32
  let v198 : BitVec 1 := Scalar.cmpi .slt v196 c0_i32_147
  let c0_i32_148 : BitVec 32 := 0#32
  let v199 : BitVec 1 := Scalar.cmpi .slt v195 c0_i32_148
  let v200 : BitVec 1 := Scalar.xori v198 v199
  let c0_i32_146 : BitVec 32 := 0#32
  let v197 : BitVec 1 := Scalar.cmpi .ne v196 c0_i32_146
  let v201 : BitVec 1 := Scalar.andi v200 v197
  let v202 : BitVec 32 := Scalar.addi v196 v195
  let v203 : BitVec 32 := Scalar.select v201 v202 v196
  let c256_i32_149 : BitVec 32 := 256#32
  let v204 : BitVec 32 := Scalar.muli v203 c256_i32_149
  let v205 : BitVec 32 := Scalar.addi v204 c0_i32_150
  ![0, v205.toNat]
@[reducible] def k0_t1_loop : Scf.Loop 32 :=
  let c0_i32_193 : BitVec 32 := 0#32
  let c64_i32 : BitVec 32 := 64#32
  let v254 : BitVec 32 := Scalar.addi c0_i32_193 c64_i32
  let c1_i32_194 : BitVec 32 := 1#32
  ⟨c0_i32_193, v254, c1_i32_194⟩
def k0_off9 (k0_t1 : Fin k0_t1_loop.trips) : Fin 2 → Nat :=
  let c0_i32_193 : BitVec 32 := 0#32
  let c1_i32_194 : BitVec 32 := 1#32
  let arg10 : BitVec 32 := Scf.iv c0_i32_193 c1_i32_194 k0_t1
  let c512_i32 : BitVec 32 := 512#32
  let v646 : BitVec 32 := Scalar.muli arg10 c512_i32
  let v647 : Index := Scalar.indexCast v646
  let c0 : Index := 0#32
  ![v647.toNat, 0]
@[reducible] def k0_t2_loop : Scf.Loop 32 :=
  let c0_i32_196 : BitVec 32 := 0#32
  let c32_i32 : BitVec 32 := 32#32
  let v255 : BitVec 32 := Scalar.addi c0_i32_196 c32_i32
  let c1_i32_197 : BitVec 32 := 1#32
  ⟨c0_i32_196, v255, c1_i32_197⟩
def k0_off10 (k0_t2 : Fin k0_t2_loop.trips) : Fin 2 → Nat :=
  let c0_i32_196 : BitVec 32 := 0#32
  let c1_i32_197 : BitVec 32 := 1#32
  let arg10 : BitVec 32 := Scf.iv c0_i32_196 c1_i32_197 k0_t2
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off11 (k0_t2 : Fin k0_t2_loop.trips) : Fin 2 → Nat :=
  let c0_i32_196 : BitVec 32 := 0#32
  let c1_i32_197 : BitVec 32 := 1#32
  let arg10 : BitVec 32 := Scf.iv c0_i32_196 c1_i32_197 k0_t2
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t3_loop : Scf.Loop 32 :=
  let c0_i32_199 : BitVec 32 := 0#32
  let c64_i32_200 : BitVec 32 := 64#32
  let v256 : BitVec 32 := Scalar.addi c0_i32_199 c64_i32_200
  let c1_i32_201 : BitVec 32 := 1#32
  ⟨c0_i32_199, v256, c1_i32_201⟩
def k0_off12 (k0_t3 : Fin k0_t3_loop.trips) : Fin 2 → Nat :=
  let c0_i32_199 : BitVec 32 := 0#32
  let c1_i32_201 : BitVec 32 := 1#32
  let arg10 : BitVec 32 := Scf.iv c0_i32_199 c1_i32_201 k0_t3
  let c512_i32 : BitVec 32 := 512#32
  let v646 : BitVec 32 := Scalar.muli arg10 c512_i32
  let v647 : Index := Scalar.indexCast v646
  let c0 : Index := 0#32
  ![v647.toNat, 0]
@[reducible] def k0_t4_loop : Scf.Loop 32 :=
  let c0_i32_203 : BitVec 32 := 0#32
  let c32_i32_204 : BitVec 32 := 32#32
  let v257 : BitVec 32 := Scalar.addi c0_i32_203 c32_i32_204
  let c1_i32_205 : BitVec 32 := 1#32
  ⟨c0_i32_203, v257, c1_i32_205⟩
def k0_off13 (k0_t4 : Fin k0_t4_loop.trips) : Fin 2 → Nat :=
  let c0_i32_203 : BitVec 32 := 0#32
  let c1_i32_205 : BitVec 32 := 1#32
  let arg10 : BitVec 32 := Scf.iv c0_i32_203 c1_i32_205 k0_t4
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off14 (k0_t4 : Fin k0_t4_loop.trips) : Fin 2 → Nat :=
  let c0_i32_203 : BitVec 32 := 0#32
  let c1_i32_205 : BitVec 32 := 1#32
  let arg10 : BitVec 32 := Scf.iv c0_i32_203 c1_i32_205 k0_t4
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t5_loop : Scf.Loop 32 :=
  let c0_i32_207 : BitVec 32 := 0#32
  let c32_i32_208 : BitVec 32 := 32#32
  let v258 : BitVec 32 := Scalar.addi c0_i32_207 c32_i32_208
  let c1_i32_209 : BitVec 32 := 1#32
  ⟨c0_i32_207, v258, c1_i32_209⟩
def k0_off15 (k0_t5 : Fin k0_t5_loop.trips) : Fin 2 → Nat :=
  let c0_i32_207 : BitVec 32 := 0#32
  let c1_i32_209 : BitVec 32 := 1#32
  let arg10 : BitVec 32 := Scf.iv c0_i32_207 c1_i32_209 k0_t5
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off16 (k0_t5 : Fin k0_t5_loop.trips) : Fin 2 → Nat :=
  let c0_i32_207 : BitVec 32 := 0#32
  let c1_i32_209 : BitVec 32 := 1#32
  let arg10 : BitVec 32 := Scf.iv c0_i32_207 c1_i32_209 k0_t5
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t6_loop : Scf.Loop 32 :=
  let c0_i32_211 : BitVec 32 := 0#32
  let c64_i32_212 : BitVec 32 := 64#32
  let v259 : BitVec 32 := Scalar.addi c0_i32_211 c64_i32_212
  let c1_i32_213 : BitVec 32 := 1#32
  ⟨c0_i32_211, v259, c1_i32_213⟩
def k0_off17 (k0_t6 : Fin k0_t6_loop.trips) : Fin 2 → Nat :=
  let c0_i32_211 : BitVec 32 := 0#32
  let c1_i32_213 : BitVec 32 := 1#32
  let arg10 : BitVec 32 := Scf.iv c0_i32_211 c1_i32_213 k0_t6
  let c512_i32 : BitVec 32 := 512#32
  let v646 : BitVec 32 := Scalar.muli arg10 c512_i32
  let v647 : Index := Scalar.indexCast v646
  let c0 : Index := 0#32
  ![v647.toNat, 0]
@[reducible] def k0_t7_loop : Scf.Loop 32 :=
  let c0_i32_215 : BitVec 32 := 0#32
  let c32_i32_216 : BitVec 32 := 32#32
  let v260 : BitVec 32 := Scalar.addi c0_i32_215 c32_i32_216
  let c1_i32_217 : BitVec 32 := 1#32
  ⟨c0_i32_215, v260, c1_i32_217⟩
def k0_off18 (k0_t7 : Fin k0_t7_loop.trips) : Fin 2 → Nat :=
  let c0_i32_215 : BitVec 32 := 0#32
  let c1_i32_217 : BitVec 32 := 1#32
  let arg10 : BitVec 32 := Scf.iv c0_i32_215 c1_i32_217 k0_t7
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off19 (k0_t7 : Fin k0_t7_loop.trips) : Fin 2 → Nat :=
  let c0_i32_215 : BitVec 32 := 0#32
  let c1_i32_217 : BitVec 32 := 1#32
  let arg10 : BitVec 32 := Scf.iv c0_i32_215 c1_i32_217 k0_t7
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t8_loop : Scf.Loop 32 :=
  let c0_i32_219 : BitVec 32 := 0#32
  let c32_i32_220 : BitVec 32 := 32#32
  let v261 : BitVec 32 := Scalar.addi c0_i32_219 c32_i32_220
  let c1_i32_221 : BitVec 32 := 1#32
  ⟨c0_i32_219, v261, c1_i32_221⟩
def k0_off20 (k0_t8 : Fin k0_t8_loop.trips) : Fin 2 → Nat :=
  let c0_i32_219 : BitVec 32 := 0#32
  let c1_i32_221 : BitVec 32 := 1#32
  let arg10 : BitVec 32 := Scf.iv c0_i32_219 c1_i32_221 k0_t8
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off21 (k0_t8 : Fin k0_t8_loop.trips) : Fin 2 → Nat :=
  let c0_i32_219 : BitVec 32 := 0#32
  let c1_i32_221 : BitVec 32 := 1#32
  let arg10 : BitVec 32 := Scf.iv c0_i32_219 c1_i32_221 k0_t8
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t9_loop : Scf.Loop 32 :=
  let c0_i32_223 : BitVec 32 := 0#32
  let c32_i32_224 : BitVec 32 := 32#32
  let v262 : BitVec 32 := Scalar.addi c0_i32_223 c32_i32_224
  let c1_i32_225 : BitVec 32 := 1#32
  ⟨c0_i32_223, v262, c1_i32_225⟩
def k0_off22 (k0_t9 : Fin k0_t9_loop.trips) : Fin 2 → Nat :=
  let c0_i32_223 : BitVec 32 := 0#32
  let c1_i32_225 : BitVec 32 := 1#32
  let arg10 : BitVec 32 := Scf.iv c0_i32_223 c1_i32_225 k0_t9
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off23 (k0_t9 : Fin k0_t9_loop.trips) : Fin 2 → Nat :=
  let c0_i32_223 : BitVec 32 := 0#32
  let c1_i32_225 : BitVec 32 := 1#32
  let arg10 : BitVec 32 := Scf.iv c0_i32_223 c1_i32_225 k0_t9
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t10_loop : Scf.Loop 32 :=
  let c0_i32_227 : BitVec 32 := 0#32
  let c64_i32_228 : BitVec 32 := 64#32
  let v263 : BitVec 32 := Scalar.addi c0_i32_227 c64_i32_228
  let c1_i32_229 : BitVec 32 := 1#32
  ⟨c0_i32_227, v263, c1_i32_229⟩
def k0_off24 (k0_t10 : Fin k0_t10_loop.trips) : Fin 2 → Nat :=
  let c0_i32_227 : BitVec 32 := 0#32
  let c1_i32_229 : BitVec 32 := 1#32
  let arg10 : BitVec 32 := Scf.iv c0_i32_227 c1_i32_229 k0_t10
  let c512_i32 : BitVec 32 := 512#32
  let v646 : BitVec 32 := Scalar.muli arg10 c512_i32
  let v647 : Index := Scalar.indexCast v646
  let c0 : Index := 0#32
  ![v647.toNat, 0]
@[reducible] def k0_t11_loop : Scf.Loop 32 :=
  let c0_i32_231 : BitVec 32 := 0#32
  let c32_i32_232 : BitVec 32 := 32#32
  let v264 : BitVec 32 := Scalar.addi c0_i32_231 c32_i32_232
  let c1_i32_233 : BitVec 32 := 1#32
  ⟨c0_i32_231, v264, c1_i32_233⟩
def k0_off25 (k0_t11 : Fin k0_t11_loop.trips) : Fin 2 → Nat :=
  let c0_i32_231 : BitVec 32 := 0#32
  let c1_i32_233 : BitVec 32 := 1#32
  let arg10 : BitVec 32 := Scf.iv c0_i32_231 c1_i32_233 k0_t11
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off26 (k0_t11 : Fin k0_t11_loop.trips) : Fin 2 → Nat :=
  let c0_i32_231 : BitVec 32 := 0#32
  let c1_i32_233 : BitVec 32 := 1#32
  let arg10 : BitVec 32 := Scf.iv c0_i32_231 c1_i32_233 k0_t11
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let c4096_i32 : BitVec 32 := 4096#32
  let v652 : BitVec 32 := Scalar.addi v651 c4096_i32
  let v655 : Index := Scalar.indexCast v652
  let c0_732 : Index := 0#32
  ![v655.toNat, 0]
@[reducible] def k0_t12_loop : Scf.Loop 32 :=
  let c0_i32_235 : BitVec 32 := 0#32
  let c32_i32_236 : BitVec 32 := 32#32
  let v265 : BitVec 32 := Scalar.addi c0_i32_235 c32_i32_236
  let c1_i32_237 : BitVec 32 := 1#32
  ⟨c0_i32_235, v265, c1_i32_237⟩
def k0_off27 (k0_t12 : Fin k0_t12_loop.trips) : Fin 2 → Nat :=
  let c0_i32_235 : BitVec 32 := 0#32
  let c1_i32_237 : BitVec 32 := 1#32
  let arg10 : BitVec 32 := Scf.iv c0_i32_235 c1_i32_237 k0_t12
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off28 (k0_t12 : Fin k0_t12_loop.trips) : Fin 2 → Nat :=
  let c0_i32_235 : BitVec 32 := 0#32
  let c1_i32_237 : BitVec 32 := 1#32
  let arg10 : BitVec 32 := Scf.iv c0_i32_235 c1_i32_237 k0_t12
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t13_loop : Scf.Loop 32 :=
  let c0_i32_239 : BitVec 32 := 0#32
  let c32_i32_240 : BitVec 32 := 32#32
  let v266 : BitVec 32 := Scalar.addi c0_i32_239 c32_i32_240
  let c1_i32_241 : BitVec 32 := 1#32
  ⟨c0_i32_239, v266, c1_i32_241⟩
def k0_off29 (k0_t13 : Fin k0_t13_loop.trips) : Fin 2 → Nat :=
  let c0_i32_239 : BitVec 32 := 0#32
  let c1_i32_241 : BitVec 32 := 1#32
  let arg10 : BitVec 32 := Scf.iv c0_i32_239 c1_i32_241 k0_t13
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off30 (k0_t13 : Fin k0_t13_loop.trips) : Fin 2 → Nat :=
  let c0_i32_239 : BitVec 32 := 0#32
  let c1_i32_241 : BitVec 32 := 1#32
  let arg10 : BitVec 32 := Scf.iv c0_i32_239 c1_i32_241 k0_t13
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t14_loop : Scf.Loop 32 :=
  let c0_i32_243 : BitVec 32 := 0#32
  let c32_i32_244 : BitVec 32 := 32#32
  let v267 : BitVec 32 := Scalar.addi c0_i32_243 c32_i32_244
  let c1_i32_245 : BitVec 32 := 1#32
  ⟨c0_i32_243, v267, c1_i32_245⟩
def k0_off31 (k0_t14 : Fin k0_t14_loop.trips) : Fin 2 → Nat :=
  let c0_i32_243 : BitVec 32 := 0#32
  let c1_i32_245 : BitVec 32 := 1#32
  let arg10 : BitVec 32 := Scf.iv c0_i32_243 c1_i32_245 k0_t14
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off32 (k0_t14 : Fin k0_t14_loop.trips) : Fin 2 → Nat :=
  let c0_i32_243 : BitVec 32 := 0#32
  let c1_i32_245 : BitVec 32 := 1#32
  let arg10 : BitVec 32 := Scf.iv c0_i32_243 c1_i32_245 k0_t14
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t15_loop : Scf.Loop 32 :=
  let c0_i32_247 : BitVec 32 := 0#32
  let c64_i32_248 : BitVec 32 := 64#32
  let v268 : BitVec 32 := Scalar.addi c0_i32_247 c64_i32_248
  let c1_i32_249 : BitVec 32 := 1#32
  ⟨c0_i32_247, v268, c1_i32_249⟩
def k0_off33 (k0_t15 : Fin k0_t15_loop.trips) : Fin 2 → Nat :=
  let c0_i32_247 : BitVec 32 := 0#32
  let c1_i32_249 : BitVec 32 := 1#32
  let arg10 : BitVec 32 := Scf.iv c0_i32_247 c1_i32_249 k0_t15
  let c512_i32 : BitVec 32 := 512#32
  let v646 : BitVec 32 := Scalar.muli arg10 c512_i32
  let v647 : Index := Scalar.indexCast v646
  let c0 : Index := 0#32
  ![v647.toNat, 0]
@[reducible] def k0_t16_loop : Scf.Loop 32 :=
  let c0_i32_251 : BitVec 32 := 0#32
  let c32_i32_252 : BitVec 32 := 32#32
  let v269 : BitVec 32 := Scalar.addi c0_i32_251 c32_i32_252
  let c1_i32_253 : BitVec 32 := 1#32
  ⟨c0_i32_251, v269, c1_i32_253⟩
def k0_off34 (k0_t16 : Fin k0_t16_loop.trips) : Fin 2 → Nat :=
  let c0_i32_251 : BitVec 32 := 0#32
  let c1_i32_253 : BitVec 32 := 1#32
  let arg10 : BitVec 32 := Scf.iv c0_i32_251 c1_i32_253 k0_t16
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off35 (k0_t16 : Fin k0_t16_loop.trips) : Fin 2 → Nat :=
  let c0_i32_251 : BitVec 32 := 0#32
  let c1_i32_253 : BitVec 32 := 1#32
  let arg10 : BitVec 32 := Scf.iv c0_i32_251 c1_i32_253 k0_t16
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let c8192_i32_732 : BitVec 32 := 8192#32
  let v652 : BitVec 32 := Scalar.addi v651 c8192_i32_732
  let v655 : Index := Scalar.indexCast v652
  let c0_733 : Index := 0#32
  ![v655.toNat, 0]
@[reducible] def k0_t17_loop : Scf.Loop 32 :=
  let c0_i32_255 : BitVec 32 := 0#32
  let c32_i32_256 : BitVec 32 := 32#32
  let v270 : BitVec 32 := Scalar.addi c0_i32_255 c32_i32_256
  let c1_i32_257 : BitVec 32 := 1#32
  ⟨c0_i32_255, v270, c1_i32_257⟩
def k0_off36 (k0_t17 : Fin k0_t17_loop.trips) : Fin 2 → Nat :=
  let c0_i32_255 : BitVec 32 := 0#32
  let c1_i32_257 : BitVec 32 := 1#32
  let arg10 : BitVec 32 := Scf.iv c0_i32_255 c1_i32_257 k0_t17
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off37 (k0_t17 : Fin k0_t17_loop.trips) : Fin 2 → Nat :=
  let c0_i32_255 : BitVec 32 := 0#32
  let c1_i32_257 : BitVec 32 := 1#32
  let arg10 : BitVec 32 := Scf.iv c0_i32_255 c1_i32_257 k0_t17
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let c4096_i32 : BitVec 32 := 4096#32
  let v652 : BitVec 32 := Scalar.addi v651 c4096_i32
  let v655 : Index := Scalar.indexCast v652
  let c0_732 : Index := 0#32
  ![v655.toNat, 0]
@[reducible] def k0_t18_loop : Scf.Loop 32 :=
  let c0_i32_259 : BitVec 32 := 0#32
  let c32_i32_260 : BitVec 32 := 32#32
  let v271 : BitVec 32 := Scalar.addi c0_i32_259 c32_i32_260
  let c1_i32_261 : BitVec 32 := 1#32
  ⟨c0_i32_259, v271, c1_i32_261⟩
def k0_off38 (k0_t18 : Fin k0_t18_loop.trips) : Fin 2 → Nat :=
  let c0_i32_259 : BitVec 32 := 0#32
  let c1_i32_261 : BitVec 32 := 1#32
  let arg10 : BitVec 32 := Scf.iv c0_i32_259 c1_i32_261 k0_t18
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off39 (k0_t18 : Fin k0_t18_loop.trips) : Fin 2 → Nat :=
  let c0_i32_259 : BitVec 32 := 0#32
  let c1_i32_261 : BitVec 32 := 1#32
  let arg10 : BitVec 32 := Scf.iv c0_i32_259 c1_i32_261 k0_t18
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t19_loop : Scf.Loop 32 :=
  let c0_i32_263 : BitVec 32 := 0#32
  let c32_i32_264 : BitVec 32 := 32#32
  let v272 : BitVec 32 := Scalar.addi c0_i32_263 c32_i32_264
  let c1_i32_265 : BitVec 32 := 1#32
  ⟨c0_i32_263, v272, c1_i32_265⟩
def k0_off40 (k0_t19 : Fin k0_t19_loop.trips) : Fin 2 → Nat :=
  let c0_i32_263 : BitVec 32 := 0#32
  let c1_i32_265 : BitVec 32 := 1#32
  let arg10 : BitVec 32 := Scf.iv c0_i32_263 c1_i32_265 k0_t19
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off41 (k0_t19 : Fin k0_t19_loop.trips) : Fin 2 → Nat :=
  let c0_i32_263 : BitVec 32 := 0#32
  let c1_i32_265 : BitVec 32 := 1#32
  let arg10 : BitVec 32 := Scf.iv c0_i32_263 c1_i32_265 k0_t19
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t20_loop : Scf.Loop 32 :=
  let c0_i32_267 : BitVec 32 := 0#32
  let c32_i32_268 : BitVec 32 := 32#32
  let v273 : BitVec 32 := Scalar.addi c0_i32_267 c32_i32_268
  let c1_i32_269 : BitVec 32 := 1#32
  ⟨c0_i32_267, v273, c1_i32_269⟩
def k0_off42 (k0_t20 : Fin k0_t20_loop.trips) : Fin 2 → Nat :=
  let c0_i32_267 : BitVec 32 := 0#32
  let c1_i32_269 : BitVec 32 := 1#32
  let arg10 : BitVec 32 := Scf.iv c0_i32_267 c1_i32_269 k0_t20
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off43 (k0_t20 : Fin k0_t20_loop.trips) : Fin 2 → Nat :=
  let c0_i32_267 : BitVec 32 := 0#32
  let c1_i32_269 : BitVec 32 := 1#32
  let arg10 : BitVec 32 := Scf.iv c0_i32_267 c1_i32_269 k0_t20
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t21_loop : Scf.Loop 32 :=
  let c0_i32_271 : BitVec 32 := 0#32
  let c64_i32_272 : BitVec 32 := 64#32
  let v274 : BitVec 32 := Scalar.addi c0_i32_271 c64_i32_272
  let c1_i32_273 : BitVec 32 := 1#32
  ⟨c0_i32_271, v274, c1_i32_273⟩
def k0_off44 (k0_t21 : Fin k0_t21_loop.trips) : Fin 2 → Nat :=
  let c0_i32_271 : BitVec 32 := 0#32
  let c1_i32_273 : BitVec 32 := 1#32
  let arg10 : BitVec 32 := Scf.iv c0_i32_271 c1_i32_273 k0_t21
  let c512_i32 : BitVec 32 := 512#32
  let v646 : BitVec 32 := Scalar.muli arg10 c512_i32
  let v647 : Index := Scalar.indexCast v646
  let c0 : Index := 0#32
  ![v647.toNat, 0]
@[reducible] def k0_t22_loop : Scf.Loop 32 :=
  let c0_i32_275 : BitVec 32 := 0#32
  let c32_i32_276 : BitVec 32 := 32#32
  let v275 : BitVec 32 := Scalar.addi c0_i32_275 c32_i32_276
  let c1_i32_277 : BitVec 32 := 1#32
  ⟨c0_i32_275, v275, c1_i32_277⟩
def k0_off45 (k0_t22 : Fin k0_t22_loop.trips) : Fin 2 → Nat :=
  let c0_i32_275 : BitVec 32 := 0#32
  let c1_i32_277 : BitVec 32 := 1#32
  let arg10 : BitVec 32 := Scf.iv c0_i32_275 c1_i32_277 k0_t22
  let c5_i32 : BitVec 32 := 5#32
  let v646 : BitVec 32 := Scalar.shrsi arg10 c5_i32
  let c2_i32_730 : BitVec 32 := 2#32
  let v648 : BitVec 32 := Scalar.muli v646 c2_i32_730
  let c32_i32_731 : BitVec 32 := 32#32
  let v649 : BitVec 32 := Scalar.muli v648 c32_i32_731
  let c31_i32 : BitVec 32 := 31#32
  let v647 : BitVec 32 := Scalar.andi arg10 c31_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off46 (k0_t22 : Fin k0_t22_loop.trips) : Fin 2 → Nat :=
  let c0_i32_275 : BitVec 32 := 0#32
  let c1_i32_277 : BitVec 32 := 1#32
  let arg10 : BitVec 32 := Scf.iv c0_i32_275 c1_i32_277 k0_t22
  let c5_i32 : BitVec 32 := 5#32
  let v646 : BitVec 32 := Scalar.shrsi arg10 c5_i32
  let c2_i32_730 : BitVec 32 := 2#32
  let v648 : BitVec 32 := Scalar.muli v646 c2_i32_730
  let c32_i32_731 : BitVec 32 := 32#32
  let v649 : BitVec 32 := Scalar.muli v648 c32_i32_731
  let c31_i32 : BitVec 32 := 31#32
  let v647 : BitVec 32 := Scalar.andi arg10 c31_i32
  let v650 : BitVec 32 := Scalar.addi v649 v647
  let c512_i32 : BitVec 32 := 512#32
  let v651 : BitVec 32 := Scalar.muli v650 c512_i32
  let c16384_i32 : BitVec 32 := 16384#32
  let v652 : BitVec 32 := Scalar.addi v651 c16384_i32
  let v655 : Index := Scalar.indexCast v652
  let c0_732 : Index := 0#32
  ![v655.toNat, 0]
@[reducible] def k0_t23_loop : Scf.Loop 32 :=
  let c0_i32_279 : BitVec 32 := 0#32
  let c32_i32_280 : BitVec 32 := 32#32
  let v276 : BitVec 32 := Scalar.addi c0_i32_279 c32_i32_280
  let c1_i32_281 : BitVec 32 := 1#32
  ⟨c0_i32_279, v276, c1_i32_281⟩
def k0_off47 (k0_t23 : Fin k0_t23_loop.trips) : Fin 2 → Nat :=
  let c0_i32_279 : BitVec 32 := 0#32
  let c1_i32_281 : BitVec 32 := 1#32
  let arg10 : BitVec 32 := Scf.iv c0_i32_279 c1_i32_281 k0_t23
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off48 (k0_t23 : Fin k0_t23_loop.trips) : Fin 2 → Nat :=
  let c0_i32_279 : BitVec 32 := 0#32
  let c1_i32_281 : BitVec 32 := 1#32
  let arg10 : BitVec 32 := Scf.iv c0_i32_279 c1_i32_281 k0_t23
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let c8192_i32_732 : BitVec 32 := 8192#32
  let v652 : BitVec 32 := Scalar.addi v651 c8192_i32_732
  let v655 : Index := Scalar.indexCast v652
  let c0_733 : Index := 0#32
  ![v655.toNat, 0]
@[reducible] def k0_t24_loop : Scf.Loop 32 :=
  let c0_i32_283 : BitVec 32 := 0#32
  let c32_i32_284 : BitVec 32 := 32#32
  let v277 : BitVec 32 := Scalar.addi c0_i32_283 c32_i32_284
  let c1_i32_285 : BitVec 32 := 1#32
  ⟨c0_i32_283, v277, c1_i32_285⟩
def k0_off49 (k0_t24 : Fin k0_t24_loop.trips) : Fin 2 → Nat :=
  let c0_i32_283 : BitVec 32 := 0#32
  let c1_i32_285 : BitVec 32 := 1#32
  let arg10 : BitVec 32 := Scf.iv c0_i32_283 c1_i32_285 k0_t24
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off50 (k0_t24 : Fin k0_t24_loop.trips) : Fin 2 → Nat :=
  let c0_i32_283 : BitVec 32 := 0#32
  let c1_i32_285 : BitVec 32 := 1#32
  let arg10 : BitVec 32 := Scf.iv c0_i32_283 c1_i32_285 k0_t24
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let c4096_i32 : BitVec 32 := 4096#32
  let v652 : BitVec 32 := Scalar.addi v651 c4096_i32
  let v655 : Index := Scalar.indexCast v652
  let c0_732 : Index := 0#32
  ![v655.toNat, 0]
@[reducible] def k0_t25_loop : Scf.Loop 32 :=
  let c0_i32_287 : BitVec 32 := 0#32
  let c32_i32_288 : BitVec 32 := 32#32
  let v278 : BitVec 32 := Scalar.addi c0_i32_287 c32_i32_288
  let c1_i32_289 : BitVec 32 := 1#32
  ⟨c0_i32_287, v278, c1_i32_289⟩
def k0_off51 (k0_t25 : Fin k0_t25_loop.trips) : Fin 2 → Nat :=
  let c0_i32_287 : BitVec 32 := 0#32
  let c1_i32_289 : BitVec 32 := 1#32
  let arg10 : BitVec 32 := Scf.iv c0_i32_287 c1_i32_289 k0_t25
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off52 (k0_t25 : Fin k0_t25_loop.trips) : Fin 2 → Nat :=
  let c0_i32_287 : BitVec 32 := 0#32
  let c1_i32_289 : BitVec 32 := 1#32
  let arg10 : BitVec 32 := Scf.iv c0_i32_287 c1_i32_289 k0_t25
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t26_loop : Scf.Loop 32 :=
  let c0_i32_291 : BitVec 32 := 0#32
  let c32_i32_292 : BitVec 32 := 32#32
  let v279 : BitVec 32 := Scalar.addi c0_i32_291 c32_i32_292
  let c1_i32_293 : BitVec 32 := 1#32
  ⟨c0_i32_291, v279, c1_i32_293⟩
def k0_off53 (k0_t26 : Fin k0_t26_loop.trips) : Fin 2 → Nat :=
  let c0_i32_291 : BitVec 32 := 0#32
  let c1_i32_293 : BitVec 32 := 1#32
  let arg10 : BitVec 32 := Scf.iv c0_i32_291 c1_i32_293 k0_t26
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off54 (k0_t26 : Fin k0_t26_loop.trips) : Fin 2 → Nat :=
  let c0_i32_291 : BitVec 32 := 0#32
  let c1_i32_293 : BitVec 32 := 1#32
  let arg10 : BitVec 32 := Scf.iv c0_i32_291 c1_i32_293 k0_t26
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t27_loop : Scf.Loop 32 :=
  let c0_i32_295 : BitVec 32 := 0#32
  let c32_i32_296 : BitVec 32 := 32#32
  let v280 : BitVec 32 := Scalar.addi c0_i32_295 c32_i32_296
  let c1_i32_297 : BitVec 32 := 1#32
  ⟨c0_i32_295, v280, c1_i32_297⟩
def k0_off55 (k0_t27 : Fin k0_t27_loop.trips) : Fin 2 → Nat :=
  let c0_i32_295 : BitVec 32 := 0#32
  let c1_i32_297 : BitVec 32 := 1#32
  let arg10 : BitVec 32 := Scf.iv c0_i32_295 c1_i32_297 k0_t27
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off56 (k0_t27 : Fin k0_t27_loop.trips) : Fin 2 → Nat :=
  let c0_i32_295 : BitVec 32 := 0#32
  let c1_i32_297 : BitVec 32 := 1#32
  let arg10 : BitVec 32 := Scf.iv c0_i32_295 c1_i32_297 k0_t27
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t28_loop : Scf.Loop 32 :=
  let c0_i32_299 : BitVec 32 := 0#32
  let c64_i32_300 : BitVec 32 := 64#32
  let v281 : BitVec 32 := Scalar.addi c0_i32_299 c64_i32_300
  let c1_i32_301 : BitVec 32 := 1#32
  ⟨c0_i32_299, v281, c1_i32_301⟩
def k0_off57 (k0_t28 : Fin k0_t28_loop.trips) : Fin 2 → Nat :=
  let c0_i32_299 : BitVec 32 := 0#32
  let c1_i32_301 : BitVec 32 := 1#32
  let arg10 : BitVec 32 := Scf.iv c0_i32_299 c1_i32_301 k0_t28
  let c512_i32 : BitVec 32 := 512#32
  let v646 : BitVec 32 := Scalar.muli arg10 c512_i32
  let v647 : Index := Scalar.indexCast v646
  let c0 : Index := 0#32
  ![v647.toNat, 0]
def k0_off58 (d0 : Dev nD) (c1_i32_305 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v284 : BitVec 32 := Scalar.addi v2 c1_i32_305
  let c4_i32_306 : BitVec 32 := 4#32
  let c0_i32_307 : BitVec 32 := 0#32
  let v285 : BitVec 1 := Scalar.cmpi .eq c4_i32_306 c0_i32_307
  let c1_i32_308 : BitVec 32 := 1#32
  let v286 : BitVec 32 := Scalar.select v285 c1_i32_308 c4_i32_306
  let v287 : BitVec 32 := Scalar.remsi v284 v286
  let c0_i32_310 : BitVec 32 := 0#32
  let v289 : BitVec 1 := Scalar.cmpi .slt v287 c0_i32_310
  let c0_i32_311 : BitVec 32 := 0#32
  let v290 : BitVec 1 := Scalar.cmpi .slt v286 c0_i32_311
  let v291 : BitVec 1 := Scalar.xori v289 v290
  let c0_i32_309 : BitVec 32 := 0#32
  let v288 : BitVec 1 := Scalar.cmpi .ne v287 c0_i32_309
  let v292 : BitVec 1 := Scalar.andi v291 v288
  let v293 : BitVec 32 := Scalar.addi v287 v286
  let v294 : BitVec 32 := Scalar.select v292 v293 v287
  let c8192_i32_312 : BitVec 32 := 8192#32
  let v295 : BitVec 32 := Scalar.muli v294 c8192_i32_312
  let c0_i32_319 : BitVec 32 := 0#32
  ![v295.toNat, 0]
def k0_dev10 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_305 : BitVec 32 := 1#32
  let v284 : BitVec 32 := Scalar.addi v2 c1_i32_305
  let c4_i32_306 : BitVec 32 := 4#32
  let c0_i32_307 : BitVec 32 := 0#32
  let v285 : BitVec 1 := Scalar.cmpi .eq c4_i32_306 c0_i32_307
  let c1_i32_308 : BitVec 32 := 1#32
  let v286 : BitVec 32 := Scalar.select v285 c1_i32_308 c4_i32_306
  let v287 : BitVec 32 := Scalar.remsi v284 v286
  let c0_i32_310 : BitVec 32 := 0#32
  let v289 : BitVec 1 := Scalar.cmpi .slt v287 c0_i32_310
  let c0_i32_311 : BitVec 32 := 0#32
  let v290 : BitVec 1 := Scalar.cmpi .slt v286 c0_i32_311
  let v291 : BitVec 1 := Scalar.xori v289 v290
  let c0_i32_309 : BitVec 32 := 0#32
  let v288 : BitVec 1 := Scalar.cmpi .ne v287 c0_i32_309
  let v292 : BitVec 1 := Scalar.andi v291 v288
  let v293 : BitVec 32 := Scalar.addi v287 v286
  let v294 : BitVec 32 := Scalar.select v292 v293 v287
  let c1_i32_316 : BitVec 32 := 1#32
  let v296 : BitVec 32 := Scalar.muli v294 c1_i32_316
  let v297 : BitVec 32 := Scalar.addi c0_i32_317 v296
  v297.toNat
def k0_dev11 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_320 : BitVec 32 := 2#32
  let v304 : BitVec 32 := Scalar.addi v2 c2_i32_320
  let c4_i32_321 : BitVec 32 := 4#32
  let c0_i32_322 : BitVec 32 := 0#32
  let v305 : BitVec 1 := Scalar.cmpi .eq c4_i32_321 c0_i32_322
  let c1_i32_323 : BitVec 32 := 1#32
  let v306 : BitVec 32 := Scalar.select v305 c1_i32_323 c4_i32_321
  let v307 : BitVec 32 := Scalar.remsi v304 v306
  let c0_i32_325 : BitVec 32 := 0#32
  let v309 : BitVec 1 := Scalar.cmpi .slt v307 c0_i32_325
  let c0_i32_326 : BitVec 32 := 0#32
  let v310 : BitVec 1 := Scalar.cmpi .slt v306 c0_i32_326
  let v311 : BitVec 1 := Scalar.xori v309 v310
  let c0_i32_324 : BitVec 32 := 0#32
  let v308 : BitVec 1 := Scalar.cmpi .ne v307 c0_i32_324
  let v312 : BitVec 1 := Scalar.andi v311 v308
  let v313 : BitVec 32 := Scalar.addi v307 v306
  let v314 : BitVec 32 := Scalar.select v312 v313 v307
  let c1_i32_331 : BitVec 32 := 1#32
  let v316 : BitVec 32 := Scalar.muli v314 c1_i32_331
  let v317 : BitVec 32 := Scalar.addi c0_i32_332 v316
  v317.toNat
def k0_dev12 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_335 : BitVec 32 := 3#32
  let v324 : BitVec 32 := Scalar.addi v2 c3_i32_335
  let c4_i32_336 : BitVec 32 := 4#32
  let c0_i32_337 : BitVec 32 := 0#32
  let v325 : BitVec 1 := Scalar.cmpi .eq c4_i32_336 c0_i32_337
  let c1_i32_338 : BitVec 32 := 1#32
  let v326 : BitVec 32 := Scalar.select v325 c1_i32_338 c4_i32_336
  let v327 : BitVec 32 := Scalar.remsi v324 v326
  let c0_i32_340 : BitVec 32 := 0#32
  let v329 : BitVec 1 := Scalar.cmpi .slt v327 c0_i32_340
  let c0_i32_341 : BitVec 32 := 0#32
  let v330 : BitVec 1 := Scalar.cmpi .slt v326 c0_i32_341
  let v331 : BitVec 1 := Scalar.xori v329 v330
  let c0_i32_339 : BitVec 32 := 0#32
  let v328 : BitVec 1 := Scalar.cmpi .ne v327 c0_i32_339
  let v332 : BitVec 1 := Scalar.andi v331 v328
  let v333 : BitVec 32 := Scalar.addi v327 v326
  let v334 : BitVec 32 := Scalar.select v332 v333 v327
  let c1_i32_346 : BitVec 32 := 1#32
  let v336 : BitVec 32 := Scalar.muli v334 c1_i32_346
  let v337 : BitVec 32 := Scalar.addi c0_i32_347 v336
  v337.toNat
def k0_off59 (d0 : Dev nD) (c1_i32_357 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v353 : BitVec 32 := Scalar.subi v2 c1_i32_357
  let c4_i32_358 : BitVec 32 := 4#32
  let c0_i32_359 : BitVec 32 := 0#32
  let v354 : BitVec 1 := Scalar.cmpi .eq c4_i32_358 c0_i32_359
  let c1_i32_360 : BitVec 32 := 1#32
  let v355 : BitVec 32 := Scalar.select v354 c1_i32_360 c4_i32_358
  let v356 : BitVec 32 := Scalar.remsi v353 v355
  let c0_i32_362 : BitVec 32 := 0#32
  let v358 : BitVec 1 := Scalar.cmpi .slt v356 c0_i32_362
  let c0_i32_363 : BitVec 32 := 0#32
  let v359 : BitVec 1 := Scalar.cmpi .slt v355 c0_i32_363
  let v360 : BitVec 1 := Scalar.xori v358 v359
  let c0_i32_361 : BitVec 32 := 0#32
  let v357 : BitVec 1 := Scalar.cmpi .ne v356 c0_i32_361
  let v361 : BitVec 1 := Scalar.andi v360 v357
  let v362 : BitVec 32 := Scalar.addi v356 v355
  let v363 : BitVec 32 := Scalar.select v361 v362 v356
  let c1_i32_367 : BitVec 32 := 1#32
  ![v363.toNat, 1]
@[reducible] def k0_t29_loop : Scf.Loop 32 :=
  let c0_i32_408 : BitVec 32 := 0#32
  let c64_i32_409 : BitVec 32 := 64#32
  let v414 : BitVec 32 := Scalar.addi c0_i32_408 c64_i32_409
  let c1_i32_410 : BitVec 32 := 1#32
  ⟨c0_i32_408, v414, c1_i32_410⟩
def k0_off60 (k0_t29 : Fin k0_t29_loop.trips) : Fin 2 → Nat :=
  let c0_i32_408 : BitVec 32 := 0#32
  let c1_i32_410 : BitVec 32 := 1#32
  let arg10 : BitVec 32 := Scf.iv c0_i32_408 c1_i32_410 k0_t29
  let c512_i32 : BitVec 32 := 512#32
  let v646 : BitVec 32 := Scalar.muli arg10 c512_i32
  let v647 : Index := Scalar.indexCast v646
  let c0 : Index := 0#32
  ![v647.toNat, 0]
@[reducible] def k0_t30_loop : Scf.Loop 32 :=
  let c0_i32_412 : BitVec 32 := 0#32
  let c32_i32_413 : BitVec 32 := 32#32
  let v415 : BitVec 32 := Scalar.addi c0_i32_412 c32_i32_413
  let c1_i32_414 : BitVec 32 := 1#32
  ⟨c0_i32_412, v415, c1_i32_414⟩
def k0_off61 (k0_t30 : Fin k0_t30_loop.trips) : Fin 2 → Nat :=
  let c0_i32_412 : BitVec 32 := 0#32
  let c1_i32_414 : BitVec 32 := 1#32
  let arg10 : BitVec 32 := Scf.iv c0_i32_412 c1_i32_414 k0_t30
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off62 (k0_t30 : Fin k0_t30_loop.trips) : Fin 2 → Nat :=
  let c0_i32_412 : BitVec 32 := 0#32
  let c1_i32_414 : BitVec 32 := 1#32
  let arg10 : BitVec 32 := Scf.iv c0_i32_412 c1_i32_414 k0_t30
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t31_loop : Scf.Loop 32 :=
  let c0_i32_416 : BitVec 32 := 0#32
  let c64_i32_417 : BitVec 32 := 64#32
  let v416 : BitVec 32 := Scalar.addi c0_i32_416 c64_i32_417
  let c1_i32_418 : BitVec 32 := 1#32
  ⟨c0_i32_416, v416, c1_i32_418⟩
def k0_off63 (k0_t31 : Fin k0_t31_loop.trips) : Fin 2 → Nat :=
  let c0_i32_416 : BitVec 32 := 0#32
  let c1_i32_418 : BitVec 32 := 1#32
  let arg10 : BitVec 32 := Scf.iv c0_i32_416 c1_i32_418 k0_t31
  let c512_i32 : BitVec 32 := 512#32
  let v646 : BitVec 32 := Scalar.muli arg10 c512_i32
  let v647 : Index := Scalar.indexCast v646
  let c0 : Index := 0#32
  ![v647.toNat, 0]
@[reducible] def k0_t32_loop : Scf.Loop 32 :=
  let c0_i32_420 : BitVec 32 := 0#32
  let c32_i32_421 : BitVec 32 := 32#32
  let v417 : BitVec 32 := Scalar.addi c0_i32_420 c32_i32_421
  let c1_i32_422 : BitVec 32 := 1#32
  ⟨c0_i32_420, v417, c1_i32_422⟩
def k0_off64 (k0_t32 : Fin k0_t32_loop.trips) : Fin 2 → Nat :=
  let c0_i32_420 : BitVec 32 := 0#32
  let c1_i32_422 : BitVec 32 := 1#32
  let arg10 : BitVec 32 := Scf.iv c0_i32_420 c1_i32_422 k0_t32
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off65 (k0_t32 : Fin k0_t32_loop.trips) : Fin 2 → Nat :=
  let c0_i32_420 : BitVec 32 := 0#32
  let c1_i32_422 : BitVec 32 := 1#32
  let arg10 : BitVec 32 := Scf.iv c0_i32_420 c1_i32_422 k0_t32
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t33_loop : Scf.Loop 32 :=
  let c0_i32_424 : BitVec 32 := 0#32
  let c32_i32_425 : BitVec 32 := 32#32
  let v418 : BitVec 32 := Scalar.addi c0_i32_424 c32_i32_425
  let c1_i32_426 : BitVec 32 := 1#32
  ⟨c0_i32_424, v418, c1_i32_426⟩
def k0_off66 (k0_t33 : Fin k0_t33_loop.trips) : Fin 2 → Nat :=
  let c0_i32_424 : BitVec 32 := 0#32
  let c1_i32_426 : BitVec 32 := 1#32
  let arg10 : BitVec 32 := Scf.iv c0_i32_424 c1_i32_426 k0_t33
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off67 (k0_t33 : Fin k0_t33_loop.trips) : Fin 2 → Nat :=
  let c0_i32_424 : BitVec 32 := 0#32
  let c1_i32_426 : BitVec 32 := 1#32
  let arg10 : BitVec 32 := Scf.iv c0_i32_424 c1_i32_426 k0_t33
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t34_loop : Scf.Loop 32 :=
  let c0_i32_428 : BitVec 32 := 0#32
  let c64_i32_429 : BitVec 32 := 64#32
  let v419 : BitVec 32 := Scalar.addi c0_i32_428 c64_i32_429
  let c1_i32_430 : BitVec 32 := 1#32
  ⟨c0_i32_428, v419, c1_i32_430⟩
def k0_off68 (k0_t34 : Fin k0_t34_loop.trips) : Fin 2 → Nat :=
  let c0_i32_428 : BitVec 32 := 0#32
  let c1_i32_430 : BitVec 32 := 1#32
  let arg10 : BitVec 32 := Scf.iv c0_i32_428 c1_i32_430 k0_t34
  let c512_i32 : BitVec 32 := 512#32
  let v646 : BitVec 32 := Scalar.muli arg10 c512_i32
  let v647 : Index := Scalar.indexCast v646
  let c0 : Index := 0#32
  ![v647.toNat, 0]
@[reducible] def k0_t35_loop : Scf.Loop 32 :=
  let c0_i32_432 : BitVec 32 := 0#32
  let c32_i32_433 : BitVec 32 := 32#32
  let v420 : BitVec 32 := Scalar.addi c0_i32_432 c32_i32_433
  let c1_i32_434 : BitVec 32 := 1#32
  ⟨c0_i32_432, v420, c1_i32_434⟩
def k0_off69 (k0_t35 : Fin k0_t35_loop.trips) : Fin 2 → Nat :=
  let c0_i32_432 : BitVec 32 := 0#32
  let c1_i32_434 : BitVec 32 := 1#32
  let arg10 : BitVec 32 := Scf.iv c0_i32_432 c1_i32_434 k0_t35
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off70 (k0_t35 : Fin k0_t35_loop.trips) : Fin 2 → Nat :=
  let c0_i32_432 : BitVec 32 := 0#32
  let c1_i32_434 : BitVec 32 := 1#32
  let arg10 : BitVec 32 := Scf.iv c0_i32_432 c1_i32_434 k0_t35
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t36_loop : Scf.Loop 32 :=
  let c0_i32_436 : BitVec 32 := 0#32
  let c32_i32_437 : BitVec 32 := 32#32
  let v421 : BitVec 32 := Scalar.addi c0_i32_436 c32_i32_437
  let c1_i32_438 : BitVec 32 := 1#32
  ⟨c0_i32_436, v421, c1_i32_438⟩
def k0_off71 (k0_t36 : Fin k0_t36_loop.trips) : Fin 2 → Nat :=
  let c0_i32_436 : BitVec 32 := 0#32
  let c1_i32_438 : BitVec 32 := 1#32
  let arg10 : BitVec 32 := Scf.iv c0_i32_436 c1_i32_438 k0_t36
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off72 (k0_t36 : Fin k0_t36_loop.trips) : Fin 2 → Nat :=
  let c0_i32_436 : BitVec 32 := 0#32
  let c1_i32_438 : BitVec 32 := 1#32
  let arg10 : BitVec 32 := Scf.iv c0_i32_436 c1_i32_438 k0_t36
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t37_loop : Scf.Loop 32 :=
  let c0_i32_440 : BitVec 32 := 0#32
  let c32_i32_441 : BitVec 32 := 32#32
  let v422 : BitVec 32 := Scalar.addi c0_i32_440 c32_i32_441
  let c1_i32_442 : BitVec 32 := 1#32
  ⟨c0_i32_440, v422, c1_i32_442⟩
def k0_off73 (k0_t37 : Fin k0_t37_loop.trips) : Fin 2 → Nat :=
  let c0_i32_440 : BitVec 32 := 0#32
  let c1_i32_442 : BitVec 32 := 1#32
  let arg10 : BitVec 32 := Scf.iv c0_i32_440 c1_i32_442 k0_t37
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off74 (k0_t37 : Fin k0_t37_loop.trips) : Fin 2 → Nat :=
  let c0_i32_440 : BitVec 32 := 0#32
  let c1_i32_442 : BitVec 32 := 1#32
  let arg10 : BitVec 32 := Scf.iv c0_i32_440 c1_i32_442 k0_t37
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t38_loop : Scf.Loop 32 :=
  let c0_i32_444 : BitVec 32 := 0#32
  let c64_i32_445 : BitVec 32 := 64#32
  let v423 : BitVec 32 := Scalar.addi c0_i32_444 c64_i32_445
  let c1_i32_446 : BitVec 32 := 1#32
  ⟨c0_i32_444, v423, c1_i32_446⟩
def k0_off75 (k0_t38 : Fin k0_t38_loop.trips) : Fin 2 → Nat :=
  let c0_i32_444 : BitVec 32 := 0#32
  let c1_i32_446 : BitVec 32 := 1#32
  let arg10 : BitVec 32 := Scf.iv c0_i32_444 c1_i32_446 k0_t38
  let c512_i32 : BitVec 32 := 512#32
  let v646 : BitVec 32 := Scalar.muli arg10 c512_i32
  let v647 : Index := Scalar.indexCast v646
  let c0 : Index := 0#32
  ![v647.toNat, 0]
@[reducible] def k0_t39_loop : Scf.Loop 32 :=
  let c0_i32_448 : BitVec 32 := 0#32
  let c32_i32_449 : BitVec 32 := 32#32
  let v424 : BitVec 32 := Scalar.addi c0_i32_448 c32_i32_449
  let c1_i32_450 : BitVec 32 := 1#32
  ⟨c0_i32_448, v424, c1_i32_450⟩
def k0_off76 (k0_t39 : Fin k0_t39_loop.trips) : Fin 2 → Nat :=
  let c0_i32_448 : BitVec 32 := 0#32
  let c1_i32_450 : BitVec 32 := 1#32
  let arg10 : BitVec 32 := Scf.iv c0_i32_448 c1_i32_450 k0_t39
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off77 (k0_t39 : Fin k0_t39_loop.trips) : Fin 2 → Nat :=
  let c0_i32_448 : BitVec 32 := 0#32
  let c1_i32_450 : BitVec 32 := 1#32
  let arg10 : BitVec 32 := Scf.iv c0_i32_448 c1_i32_450 k0_t39
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let c4096_i32 : BitVec 32 := 4096#32
  let v652 : BitVec 32 := Scalar.addi v651 c4096_i32
  let v655 : Index := Scalar.indexCast v652
  let c0_732 : Index := 0#32
  ![v655.toNat, 0]
@[reducible] def k0_t40_loop : Scf.Loop 32 :=
  let c0_i32_452 : BitVec 32 := 0#32
  let c32_i32_453 : BitVec 32 := 32#32
  let v425 : BitVec 32 := Scalar.addi c0_i32_452 c32_i32_453
  let c1_i32_454 : BitVec 32 := 1#32
  ⟨c0_i32_452, v425, c1_i32_454⟩
def k0_off78 (k0_t40 : Fin k0_t40_loop.trips) : Fin 2 → Nat :=
  let c0_i32_452 : BitVec 32 := 0#32
  let c1_i32_454 : BitVec 32 := 1#32
  let arg10 : BitVec 32 := Scf.iv c0_i32_452 c1_i32_454 k0_t40
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off79 (k0_t40 : Fin k0_t40_loop.trips) : Fin 2 → Nat :=
  let c0_i32_452 : BitVec 32 := 0#32
  let c1_i32_454 : BitVec 32 := 1#32
  let arg10 : BitVec 32 := Scf.iv c0_i32_452 c1_i32_454 k0_t40
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t41_loop : Scf.Loop 32 :=
  let c0_i32_456 : BitVec 32 := 0#32
  let c32_i32_457 : BitVec 32 := 32#32
  let v426 : BitVec 32 := Scalar.addi c0_i32_456 c32_i32_457
  let c1_i32_458 : BitVec 32 := 1#32
  ⟨c0_i32_456, v426, c1_i32_458⟩
def k0_off80 (k0_t41 : Fin k0_t41_loop.trips) : Fin 2 → Nat :=
  let c0_i32_456 : BitVec 32 := 0#32
  let c1_i32_458 : BitVec 32 := 1#32
  let arg10 : BitVec 32 := Scf.iv c0_i32_456 c1_i32_458 k0_t41
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off81 (k0_t41 : Fin k0_t41_loop.trips) : Fin 2 → Nat :=
  let c0_i32_456 : BitVec 32 := 0#32
  let c1_i32_458 : BitVec 32 := 1#32
  let arg10 : BitVec 32 := Scf.iv c0_i32_456 c1_i32_458 k0_t41
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t42_loop : Scf.Loop 32 :=
  let c0_i32_460 : BitVec 32 := 0#32
  let c32_i32_461 : BitVec 32 := 32#32
  let v427 : BitVec 32 := Scalar.addi c0_i32_460 c32_i32_461
  let c1_i32_462 : BitVec 32 := 1#32
  ⟨c0_i32_460, v427, c1_i32_462⟩
def k0_off82 (k0_t42 : Fin k0_t42_loop.trips) : Fin 2 → Nat :=
  let c0_i32_460 : BitVec 32 := 0#32
  let c1_i32_462 : BitVec 32 := 1#32
  let arg10 : BitVec 32 := Scf.iv c0_i32_460 c1_i32_462 k0_t42
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off83 (k0_t42 : Fin k0_t42_loop.trips) : Fin 2 → Nat :=
  let c0_i32_460 : BitVec 32 := 0#32
  let c1_i32_462 : BitVec 32 := 1#32
  let arg10 : BitVec 32 := Scf.iv c0_i32_460 c1_i32_462 k0_t42
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t43_loop : Scf.Loop 32 :=
  let c0_i32_464 : BitVec 32 := 0#32
  let c64_i32_465 : BitVec 32 := 64#32
  let v428 : BitVec 32 := Scalar.addi c0_i32_464 c64_i32_465
  let c1_i32_466 : BitVec 32 := 1#32
  ⟨c0_i32_464, v428, c1_i32_466⟩
def k0_off84 (k0_t43 : Fin k0_t43_loop.trips) : Fin 2 → Nat :=
  let c0_i32_464 : BitVec 32 := 0#32
  let c1_i32_466 : BitVec 32 := 1#32
  let arg10 : BitVec 32 := Scf.iv c0_i32_464 c1_i32_466 k0_t43
  let c512_i32 : BitVec 32 := 512#32
  let v646 : BitVec 32 := Scalar.muli arg10 c512_i32
  let v647 : Index := Scalar.indexCast v646
  let c0 : Index := 0#32
  ![v647.toNat, 0]
@[reducible] def k0_t44_loop : Scf.Loop 32 :=
  let c0_i32_468 : BitVec 32 := 0#32
  let c32_i32_469 : BitVec 32 := 32#32
  let v429 : BitVec 32 := Scalar.addi c0_i32_468 c32_i32_469
  let c1_i32_470 : BitVec 32 := 1#32
  ⟨c0_i32_468, v429, c1_i32_470⟩
def k0_off85 (k0_t44 : Fin k0_t44_loop.trips) : Fin 2 → Nat :=
  let c0_i32_468 : BitVec 32 := 0#32
  let c1_i32_470 : BitVec 32 := 1#32
  let arg10 : BitVec 32 := Scf.iv c0_i32_468 c1_i32_470 k0_t44
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off86 (k0_t44 : Fin k0_t44_loop.trips) : Fin 2 → Nat :=
  let c0_i32_468 : BitVec 32 := 0#32
  let c1_i32_470 : BitVec 32 := 1#32
  let arg10 : BitVec 32 := Scf.iv c0_i32_468 c1_i32_470 k0_t44
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let c8192_i32_732 : BitVec 32 := 8192#32
  let v652 : BitVec 32 := Scalar.addi v651 c8192_i32_732
  let v655 : Index := Scalar.indexCast v652
  let c0_733 : Index := 0#32
  ![v655.toNat, 0]
@[reducible] def k0_t45_loop : Scf.Loop 32 :=
  let c0_i32_472 : BitVec 32 := 0#32
  let c32_i32_473 : BitVec 32 := 32#32
  let v430 : BitVec 32 := Scalar.addi c0_i32_472 c32_i32_473
  let c1_i32_474 : BitVec 32 := 1#32
  ⟨c0_i32_472, v430, c1_i32_474⟩
def k0_off87 (k0_t45 : Fin k0_t45_loop.trips) : Fin 2 → Nat :=
  let c0_i32_472 : BitVec 32 := 0#32
  let c1_i32_474 : BitVec 32 := 1#32
  let arg10 : BitVec 32 := Scf.iv c0_i32_472 c1_i32_474 k0_t45
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off88 (k0_t45 : Fin k0_t45_loop.trips) : Fin 2 → Nat :=
  let c0_i32_472 : BitVec 32 := 0#32
  let c1_i32_474 : BitVec 32 := 1#32
  let arg10 : BitVec 32 := Scf.iv c0_i32_472 c1_i32_474 k0_t45
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let c4096_i32 : BitVec 32 := 4096#32
  let v652 : BitVec 32 := Scalar.addi v651 c4096_i32
  let v655 : Index := Scalar.indexCast v652
  let c0_732 : Index := 0#32
  ![v655.toNat, 0]
@[reducible] def k0_t46_loop : Scf.Loop 32 :=
  let c0_i32_476 : BitVec 32 := 0#32
  let c32_i32_477 : BitVec 32 := 32#32
  let v431 : BitVec 32 := Scalar.addi c0_i32_476 c32_i32_477
  let c1_i32_478 : BitVec 32 := 1#32
  ⟨c0_i32_476, v431, c1_i32_478⟩
def k0_off89 (k0_t46 : Fin k0_t46_loop.trips) : Fin 2 → Nat :=
  let c0_i32_476 : BitVec 32 := 0#32
  let c1_i32_478 : BitVec 32 := 1#32
  let arg10 : BitVec 32 := Scf.iv c0_i32_476 c1_i32_478 k0_t46
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off90 (k0_t46 : Fin k0_t46_loop.trips) : Fin 2 → Nat :=
  let c0_i32_476 : BitVec 32 := 0#32
  let c1_i32_478 : BitVec 32 := 1#32
  let arg10 : BitVec 32 := Scf.iv c0_i32_476 c1_i32_478 k0_t46
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t47_loop : Scf.Loop 32 :=
  let c0_i32_480 : BitVec 32 := 0#32
  let c32_i32_481 : BitVec 32 := 32#32
  let v432 : BitVec 32 := Scalar.addi c0_i32_480 c32_i32_481
  let c1_i32_482 : BitVec 32 := 1#32
  ⟨c0_i32_480, v432, c1_i32_482⟩
def k0_off91 (k0_t47 : Fin k0_t47_loop.trips) : Fin 2 → Nat :=
  let c0_i32_480 : BitVec 32 := 0#32
  let c1_i32_482 : BitVec 32 := 1#32
  let arg10 : BitVec 32 := Scf.iv c0_i32_480 c1_i32_482 k0_t47
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off92 (k0_t47 : Fin k0_t47_loop.trips) : Fin 2 → Nat :=
  let c0_i32_480 : BitVec 32 := 0#32
  let c1_i32_482 : BitVec 32 := 1#32
  let arg10 : BitVec 32 := Scf.iv c0_i32_480 c1_i32_482 k0_t47
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t48_loop : Scf.Loop 32 :=
  let c0_i32_484 : BitVec 32 := 0#32
  let c32_i32_485 : BitVec 32 := 32#32
  let v433 : BitVec 32 := Scalar.addi c0_i32_484 c32_i32_485
  let c1_i32_486 : BitVec 32 := 1#32
  ⟨c0_i32_484, v433, c1_i32_486⟩
def k0_off93 (k0_t48 : Fin k0_t48_loop.trips) : Fin 2 → Nat :=
  let c0_i32_484 : BitVec 32 := 0#32
  let c1_i32_486 : BitVec 32 := 1#32
  let arg10 : BitVec 32 := Scf.iv c0_i32_484 c1_i32_486 k0_t48
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off94 (k0_t48 : Fin k0_t48_loop.trips) : Fin 2 → Nat :=
  let c0_i32_484 : BitVec 32 := 0#32
  let c1_i32_486 : BitVec 32 := 1#32
  let arg10 : BitVec 32 := Scf.iv c0_i32_484 c1_i32_486 k0_t48
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t49_loop : Scf.Loop 32 :=
  let c0_i32_488 : BitVec 32 := 0#32
  let c64_i32_489 : BitVec 32 := 64#32
  let v434 : BitVec 32 := Scalar.addi c0_i32_488 c64_i32_489
  let c1_i32_490 : BitVec 32 := 1#32
  ⟨c0_i32_488, v434, c1_i32_490⟩
def k0_off95 (k0_t49 : Fin k0_t49_loop.trips) : Fin 2 → Nat :=
  let c0_i32_488 : BitVec 32 := 0#32
  let c1_i32_490 : BitVec 32 := 1#32
  let arg10 : BitVec 32 := Scf.iv c0_i32_488 c1_i32_490 k0_t49
  let c512_i32 : BitVec 32 := 512#32
  let v646 : BitVec 32 := Scalar.muli arg10 c512_i32
  let v647 : Index := Scalar.indexCast v646
  let c0 : Index := 0#32
  ![v647.toNat, 0]
@[reducible] def k0_t50_loop : Scf.Loop 32 :=
  let c0_i32_492 : BitVec 32 := 0#32
  let c32_i32_493 : BitVec 32 := 32#32
  let v435 : BitVec 32 := Scalar.addi c0_i32_492 c32_i32_493
  let c1_i32_494 : BitVec 32 := 1#32
  ⟨c0_i32_492, v435, c1_i32_494⟩
def k0_off96 (k0_t50 : Fin k0_t50_loop.trips) : Fin 2 → Nat :=
  let c0_i32_492 : BitVec 32 := 0#32
  let c1_i32_494 : BitVec 32 := 1#32
  let arg10 : BitVec 32 := Scf.iv c0_i32_492 c1_i32_494 k0_t50
  let c5_i32 : BitVec 32 := 5#32
  let v646 : BitVec 32 := Scalar.shrsi arg10 c5_i32
  let c2_i32_730 : BitVec 32 := 2#32
  let v648 : BitVec 32 := Scalar.muli v646 c2_i32_730
  let c32_i32_731 : BitVec 32 := 32#32
  let v649 : BitVec 32 := Scalar.muli v648 c32_i32_731
  let c31_i32 : BitVec 32 := 31#32
  let v647 : BitVec 32 := Scalar.andi arg10 c31_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off97 (k0_t50 : Fin k0_t50_loop.trips) : Fin 2 → Nat :=
  let c0_i32_492 : BitVec 32 := 0#32
  let c1_i32_494 : BitVec 32 := 1#32
  let arg10 : BitVec 32 := Scf.iv c0_i32_492 c1_i32_494 k0_t50
  let c5_i32 : BitVec 32 := 5#32
  let v646 : BitVec 32 := Scalar.shrsi arg10 c5_i32
  let c2_i32_730 : BitVec 32 := 2#32
  let v648 : BitVec 32 := Scalar.muli v646 c2_i32_730
  let c32_i32_731 : BitVec 32 := 32#32
  let v649 : BitVec 32 := Scalar.muli v648 c32_i32_731
  let c31_i32 : BitVec 32 := 31#32
  let v647 : BitVec 32 := Scalar.andi arg10 c31_i32
  let v650 : BitVec 32 := Scalar.addi v649 v647
  let c512_i32 : BitVec 32 := 512#32
  let v651 : BitVec 32 := Scalar.muli v650 c512_i32
  let c16384_i32 : BitVec 32 := 16384#32
  let v652 : BitVec 32 := Scalar.addi v651 c16384_i32
  let v655 : Index := Scalar.indexCast v652
  let c0_732 : Index := 0#32
  ![v655.toNat, 0]
@[reducible] def k0_t51_loop : Scf.Loop 32 :=
  let c0_i32_496 : BitVec 32 := 0#32
  let c32_i32_497 : BitVec 32 := 32#32
  let v436 : BitVec 32 := Scalar.addi c0_i32_496 c32_i32_497
  let c1_i32_498 : BitVec 32 := 1#32
  ⟨c0_i32_496, v436, c1_i32_498⟩
def k0_off98 (k0_t51 : Fin k0_t51_loop.trips) : Fin 2 → Nat :=
  let c0_i32_496 : BitVec 32 := 0#32
  let c1_i32_498 : BitVec 32 := 1#32
  let arg10 : BitVec 32 := Scf.iv c0_i32_496 c1_i32_498 k0_t51
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off99 (k0_t51 : Fin k0_t51_loop.trips) : Fin 2 → Nat :=
  let c0_i32_496 : BitVec 32 := 0#32
  let c1_i32_498 : BitVec 32 := 1#32
  let arg10 : BitVec 32 := Scf.iv c0_i32_496 c1_i32_498 k0_t51
  let c4_i32_730 : BitVec 32 := 4#32
  let v646 : BitVec 32 := Scalar.shrsi arg10 c4_i32_730
  let c2_i32_731 : BitVec 32 := 2#32
  let v648 : BitVec 32 := Scalar.muli v646 c2_i32_731
  let c16_i32 : BitVec 32 := 16#32
  let v649 : BitVec 32 := Scalar.muli v648 c16_i32
  let c15_i32 : BitVec 32 := 15#32
  let v647 : BitVec 32 := Scalar.andi arg10 c15_i32
  let v650 : BitVec 32 := Scalar.addi v649 v647
  let c512_i32 : BitVec 32 := 512#32
  let v651 : BitVec 32 := Scalar.muli v650 c512_i32
  let c8192_i32_732 : BitVec 32 := 8192#32
  let v652 : BitVec 32 := Scalar.addi v651 c8192_i32_732
  let v655 : Index := Scalar.indexCast v652
  let c0_733 : Index := 0#32
  ![v655.toNat, 0]
@[reducible] def k0_t52_loop : Scf.Loop 32 :=
  let c0_i32_500 : BitVec 32 := 0#32
  let c32_i32_501 : BitVec 32 := 32#32
  let v437 : BitVec 32 := Scalar.addi c0_i32_500 c32_i32_501
  let c1_i32_502 : BitVec 32 := 1#32
  ⟨c0_i32_500, v437, c1_i32_502⟩
def k0_off100 (k0_t52 : Fin k0_t52_loop.trips) : Fin 2 → Nat :=
  let c0_i32_500 : BitVec 32 := 0#32
  let c1_i32_502 : BitVec 32 := 1#32
  let arg10 : BitVec 32 := Scf.iv c0_i32_500 c1_i32_502 k0_t52
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off101 (k0_t52 : Fin k0_t52_loop.trips) : Fin 2 → Nat :=
  let c0_i32_500 : BitVec 32 := 0#32
  let c1_i32_502 : BitVec 32 := 1#32
  let arg10 : BitVec 32 := Scf.iv c0_i32_500 c1_i32_502 k0_t52
  let c3_i32_730 : BitVec 32 := 3#32
  let v646 : BitVec 32 := Scalar.shrsi arg10 c3_i32_730
  let c2_i32_731 : BitVec 32 := 2#32
  let v648 : BitVec 32 := Scalar.muli v646 c2_i32_731
  let c8_i32 : BitVec 32 := 8#32
  let v649 : BitVec 32 := Scalar.muli v648 c8_i32
  let c7_i32 : BitVec 32 := 7#32
  let v647 : BitVec 32 := Scalar.andi arg10 c7_i32
  let v650 : BitVec 32 := Scalar.addi v649 v647
  let c512_i32 : BitVec 32 := 512#32
  let v651 : BitVec 32 := Scalar.muli v650 c512_i32
  let c4096_i32 : BitVec 32 := 4096#32
  let v652 : BitVec 32 := Scalar.addi v651 c4096_i32
  let v655 : Index := Scalar.indexCast v652
  let c0_732 : Index := 0#32
  ![v655.toNat, 0]
@[reducible] def k0_t53_loop : Scf.Loop 32 :=
  let c0_i32_504 : BitVec 32 := 0#32
  let c32_i32_505 : BitVec 32 := 32#32
  let v438 : BitVec 32 := Scalar.addi c0_i32_504 c32_i32_505
  let c1_i32_506 : BitVec 32 := 1#32
  ⟨c0_i32_504, v438, c1_i32_506⟩
def k0_off102 (k0_t53 : Fin k0_t53_loop.trips) : Fin 2 → Nat :=
  let c0_i32_504 : BitVec 32 := 0#32
  let c1_i32_506 : BitVec 32 := 1#32
  let arg10 : BitVec 32 := Scf.iv c0_i32_504 c1_i32_506 k0_t53
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off103 (k0_t53 : Fin k0_t53_loop.trips) : Fin 2 → Nat :=
  let c0_i32_504 : BitVec 32 := 0#32
  let c1_i32_506 : BitVec 32 := 1#32
  let arg10 : BitVec 32 := Scf.iv c0_i32_504 c1_i32_506 k0_t53
  let c2_i32_730 : BitVec 32 := 2#32
  let v646 : BitVec 32 := Scalar.shrsi arg10 c2_i32_730
  let c2_i32_732 : BitVec 32 := 2#32
  let v648 : BitVec 32 := Scalar.muli v646 c2_i32_732
  let c4_i32_733 : BitVec 32 := 4#32
  let v649 : BitVec 32 := Scalar.muli v648 c4_i32_733
  let c3_i32_731 : BitVec 32 := 3#32
  let v647 : BitVec 32 := Scalar.andi arg10 c3_i32_731
  let v650 : BitVec 32 := Scalar.addi v649 v647
  let c512_i32 : BitVec 32 := 512#32
  let v651 : BitVec 32 := Scalar.muli v650 c512_i32
  let c2048_i32 : BitVec 32 := 2048#32
  let v652 : BitVec 32 := Scalar.addi v651 c2048_i32
  let v655 : Index := Scalar.indexCast v652
  let c0_734 : Index := 0#32
  ![v655.toNat, 0]
@[reducible] def k0_t54_loop : Scf.Loop 32 :=
  let c0_i32_508 : BitVec 32 := 0#32
  let c32_i32_509 : BitVec 32 := 32#32
  let v439 : BitVec 32 := Scalar.addi c0_i32_508 c32_i32_509
  let c1_i32_510 : BitVec 32 := 1#32
  ⟨c0_i32_508, v439, c1_i32_510⟩
def k0_off104 (k0_t54 : Fin k0_t54_loop.trips) : Fin 2 → Nat :=
  let c0_i32_508 : BitVec 32 := 0#32
  let c1_i32_510 : BitVec 32 := 1#32
  let arg10 : BitVec 32 := Scf.iv c0_i32_508 c1_i32_510 k0_t54
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off105 (k0_t54 : Fin k0_t54_loop.trips) : Fin 2 → Nat :=
  let c0_i32_508 : BitVec 32 := 0#32
  let c1_i32_510 : BitVec 32 := 1#32
  let arg10 : BitVec 32 := Scf.iv c0_i32_508 c1_i32_510 k0_t54
  let c1_i32_730 : BitVec 32 := 1#32
  let v646 : BitVec 32 := Scalar.shrsi arg10 c1_i32_730
  let c2_i32_732 : BitVec 32 := 2#32
  let v648 : BitVec 32 := Scalar.muli v646 c2_i32_732
  let c2_i32_733 : BitVec 32 := 2#32
  let v649 : BitVec 32 := Scalar.muli v648 c2_i32_733
  let c1_i32_731 : BitVec 32 := 1#32
  let v647 : BitVec 32 := Scalar.andi arg10 c1_i32_731
  let v650 : BitVec 32 := Scalar.addi v649 v647
  let c512_i32 : BitVec 32 := 512#32
  let v651 : BitVec 32 := Scalar.muli v650 c512_i32
  let c1024_i32 : BitVec 32 := 1024#32
  let v652 : BitVec 32 := Scalar.addi v651 c1024_i32
  let v655 : Index := Scalar.indexCast v652
  let c0_734 : Index := 0#32
  ![v655.toNat, 0]
@[reducible] def k0_t55_loop : Scf.Loop 32 :=
  let c0_i32_512 : BitVec 32 := 0#32
  let c32_i32_513 : BitVec 32 := 32#32
  let v440 : BitVec 32 := Scalar.addi c0_i32_512 c32_i32_513
  let c1_i32_514 : BitVec 32 := 1#32
  ⟨c0_i32_512, v440, c1_i32_514⟩
def k0_off106 (k0_t55 : Fin k0_t55_loop.trips) : Fin 2 → Nat :=
  let c0_i32_512 : BitVec 32 := 0#32
  let c1_i32_514 : BitVec 32 := 1#32
  let arg10 : BitVec 32 := Scf.iv c0_i32_512 c1_i32_514 k0_t55
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let v653 : Index := Scalar.indexCast v651
  let c0 : Index := 0#32
  ![v653.toNat, 0]
def k0_off107 (k0_t55 : Fin k0_t55_loop.trips) : Fin 2 → Nat :=
  let c0_i32_512 : BitVec 32 := 0#32
  let c1_i32_514 : BitVec 32 := 1#32
  let arg10 : BitVec 32 := Scf.iv c0_i32_512 c1_i32_514 k0_t55
  let c0_i32_730 : BitVec 32 := 0#32
  let v646 : BitVec 32 := Scalar.shrsi arg10 c0_i32_730
  let c2_i32_732 : BitVec 32 := 2#32
  let v648 : BitVec 32 := Scalar.muli v646 c2_i32_732
  let c1_i32_733 : BitVec 32 := 1#32
  let v649 : BitVec 32 := Scalar.muli v648 c1_i32_733
  let c0_i32_731 : BitVec 32 := 0#32
  let v647 : BitVec 32 := Scalar.andi arg10 c0_i32_731
  let v650 : BitVec 32 := Scalar.addi v649 v647
  let c512_i32 : BitVec 32 := 512#32
  let v651 : BitVec 32 := Scalar.muli v650 c512_i32
  let c512_i32_734 : BitVec 32 := 512#32
  let v652 : BitVec 32 := Scalar.addi v651 c512_i32_734
  let v655 : Index := Scalar.indexCast v652
  let c0_735 : Index := 0#32
  ![v655.toNat, 0]
@[reducible] def k0_t56_loop : Scf.Loop 32 :=
  let c0_i32_516 : BitVec 32 := 0#32
  let c64_i32_517 : BitVec 32 := 64#32
  let v441 : BitVec 32 := Scalar.addi c0_i32_516 c64_i32_517
  let c1_i32_518 : BitVec 32 := 1#32
  ⟨c0_i32_516, v441, c1_i32_518⟩
def k0_off108 (k0_t56 : Fin k0_t56_loop.trips) : Fin 2 → Nat :=
  let c0_i32_516 : BitVec 32 := 0#32
  let c1_i32_518 : BitVec 32 := 1#32
  let arg10 : BitVec 32 := Scf.iv c0_i32_516 c1_i32_518 k0_t56
  let c512_i32 : BitVec 32 := 512#32
  let v646 : BitVec 32 := Scalar.muli arg10 c512_i32
  let v647 : Index := Scalar.indexCast v646
  let c0 : Index := 0#32
  ![v647.toNat, 0]
def k0_dev13 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_522 : BitVec 32 := 1#32
  let v444 : BitVec 32 := Scalar.addi v2 c1_i32_522
  let c4_i32_523 : BitVec 32 := 4#32
  let c0_i32_524 : BitVec 32 := 0#32
  let v445 : BitVec 1 := Scalar.cmpi .eq c4_i32_523 c0_i32_524
  let c1_i32_525 : BitVec 32 := 1#32
  let v446 : BitVec 32 := Scalar.select v445 c1_i32_525 c4_i32_523
  let v447 : BitVec 32 := Scalar.remsi v444 v446
  let c0_i32_527 : BitVec 32 := 0#32
  let v449 : BitVec 1 := Scalar.cmpi .slt v447 c0_i32_527
  let c0_i32_528 : BitVec 32 := 0#32
  let v450 : BitVec 1 := Scalar.cmpi .slt v446 c0_i32_528
  let v451 : BitVec 1 := Scalar.xori v449 v450
  let c0_i32_526 : BitVec 32 := 0#32
  let v448 : BitVec 1 := Scalar.cmpi .ne v447 c0_i32_526
  let v452 : BitVec 1 := Scalar.andi v451 v448
  let v453 : BitVec 32 := Scalar.addi v447 v446
  let v454 : BitVec 32 := Scalar.select v452 v453 v447
  let c1_i32_533 : BitVec 32 := 1#32
  let v456 : BitVec 32 := Scalar.muli v454 c1_i32_533
  let v457 : BitVec 32 := Scalar.addi c0_i32_534 v456
  v457.toNat
def k0_dev14 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_537 : BitVec 32 := 2#32
  let v464 : BitVec 32 := Scalar.addi v2 c2_i32_537
  let c4_i32_538 : BitVec 32 := 4#32
  let c0_i32_539 : BitVec 32 := 0#32
  let v465 : BitVec 1 := Scalar.cmpi .eq c4_i32_538 c0_i32_539
  let c1_i32_540 : BitVec 32 := 1#32
  let v466 : BitVec 32 := Scalar.select v465 c1_i32_540 c4_i32_538
  let v467 : BitVec 32 := Scalar.remsi v464 v466
  let c0_i32_542 : BitVec 32 := 0#32
  let v469 : BitVec 1 := Scalar.cmpi .slt v467 c0_i32_542
  let c0_i32_543 : BitVec 32 := 0#32
  let v470 : BitVec 1 := Scalar.cmpi .slt v466 c0_i32_543
  let v471 : BitVec 1 := Scalar.xori v469 v470
  let c0_i32_541 : BitVec 32 := 0#32
  let v468 : BitVec 1 := Scalar.cmpi .ne v467 c0_i32_541
  let v472 : BitVec 1 := Scalar.andi v471 v468
  let v473 : BitVec 32 := Scalar.addi v467 v466
  let v474 : BitVec 32 := Scalar.select v472 v473 v467
  let c1_i32_548 : BitVec 32 := 1#32
  let v476 : BitVec 32 := Scalar.muli v474 c1_i32_548
  let v477 : BitVec 32 := Scalar.addi c0_i32_549 v476
  v477.toNat
def k0_dev15 (d0 : Dev nD) : Nat :=
  let c0_i32_564 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_552 : BitVec 32 := 3#32
  let v484 : BitVec 32 := Scalar.addi v2 c3_i32_552
  let c4_i32_553 : BitVec 32 := 4#32
  let c0_i32_554 : BitVec 32 := 0#32
  let v485 : BitVec 1 := Scalar.cmpi .eq c4_i32_553 c0_i32_554
  let c1_i32_555 : BitVec 32 := 1#32
  let v486 : BitVec 32 := Scalar.select v485 c1_i32_555 c4_i32_553
  let v487 : BitVec 32 := Scalar.remsi v484 v486
  let c0_i32_557 : BitVec 32 := 0#32
  let v489 : BitVec 1 := Scalar.cmpi .slt v487 c0_i32_557
  let c0_i32_558 : BitVec 32 := 0#32
  let v490 : BitVec 1 := Scalar.cmpi .slt v486 c0_i32_558
  let v491 : BitVec 1 := Scalar.xori v489 v490
  let c0_i32_556 : BitVec 32 := 0#32
  let v488 : BitVec 1 := Scalar.cmpi .ne v487 c0_i32_556
  let v492 : BitVec 1 := Scalar.andi v491 v488
  let v493 : BitVec 32 := Scalar.addi v487 v486
  let v494 : BitVec 32 := Scalar.select v492 v493 v487
  let c1_i32_563 : BitVec 32 := 1#32
  let v496 : BitVec 32 := Scalar.muli v494 c1_i32_563
  let v497 : BitVec 32 := Scalar.addi c0_i32_564 v496
  v497.toNat
-- ==== ReferenceIdeal.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Chunk.lean ====
/-
  The values one loop trip of the sort computes, and the trips themselves, written once.

  A column buffer is 64 blocks of 512 rows. The loops of the sort come in three kinds:
  a trip that sorts one block on its own (`chunkF`), a trip that merges one block on its own
  (`intraF`), and a trip that compares two blocks row by row (`minF`, `maxF`). Each is stated
  here over any interpretation of the floats.
-/
module

public import proofs.«01_k».proof.Proof.Gen.KernelIdeal.Skeleton

@[expose] public section

set_option maxRecDepth 16384
set_option synthInstance.maxSize 4096

noncomputable section

namespace Cert.Proof

open Idealize.ShloMosaic Idealize.SL.Sem
open Cert.KernelIdeal Cert.KernelIdeal.Gen

variable {F : FTy → Type} [FloatOps F]

/-- A block of 512 rows seen as `R` runs of two halves of `s` rows. -/
abbrev Sh (R s : ℕ) : Shape := ⟨4, ![R, 2, s, 128]⟩
/-- One of the two halves of every run, with its axis of size one. -/
abbrev Sh1 (R s : ℕ) : Shape := ⟨4, ![R, 1, s, 128]⟩
/-- One of the two halves of every run. -/
abbrev Sh0 (R s : ℕ) : Shape := ⟨3, ![R, s, 128]⟩

/-- The block splits into `R` runs of two halves of `s` rows. -/
structure Fits (R s : ℕ) : Prop where
  split : S512x128.ShapeCasts (Sh R s)
  lo : (Sh R s).Slices ![0, 0, 0, 0] (Sh1 R s)
  hi : (Sh R s).Slices ![0, 1, 0, 0] (Sh1 R s)
  drop : (Sh1 R s).ShapeCasts (Sh0 R s)
  add : (Sh0 R s).ShapeCasts (Sh1 R s)
  cat : Shape.Concatenates [Sh1 R s, Sh1 R s] (Sh R s) 1
  join : (Sh R s).ShapeCasts S512x128

/-- The low half of every run. -/
def loF {R s : ℕ} (h : Fits R s) (w : FVec F (Sh R s) .f32) : FVec F (Sh0 R s) .f32 :=
  shapeCast (Sh0 R s) (extractStridedSlice (Sh1 R s) ![0, 0, 0, 0] w h.lo) h.drop
/-- The high half of every run. -/
def hiF {R s : ℕ} (h : Fits R s) (w : FVec F (Sh R s) .f32) : FVec F (Sh0 R s) .f32 :=
  shapeCast (Sh0 R s) (extractStridedSlice (Sh1 R s) ![0, 1, 0, 0] w h.hi) h.drop
/-- Two halves put together again. -/
def joinF {R s : ℕ} (h : Fits R s) (a b : FVec F (Sh0 R s) .f32) : FVec F S512x128 .f32 :=
  shapeCast S512x128 (concatenate (Sh R s) 1
    [⟨Sh1 R s, shapeCast (Sh1 R s) a h.add⟩, ⟨Sh1 R s, shapeCast (Sh1 R s) b h.add⟩] h.cat) h.join

/-- One comparison stage at stride `s` inside a block: in every run the smaller of each pair goes
    to the low half, the larger to the high half. -/
def cmpx {R s : ℕ} (h : Fits R s) (v : FVec F S512x128 .f32) : FVec F S512x128 .f32 :=
  joinF h (minimumf (loF h (shapeCast (Sh R s) v h.split)) (hiF h (shapeCast (Sh R s) v h.split)))
    (maximumf (loF h (shapeCast (Sh R s) v h.split)) (hiF h (shapeCast (Sh R s) v h.split)))

theorem fits0 : Fits 256 1 := ⟨shapeCasts_S512x128_S256x2x1x128, slices_S256x2x1x128_o0_0_0_0_S256x1x1x128,
  slices_S256x2x1x128_o0_1_0_0_S256x1x1x128, shapeCasts_S256x1x1x128_S256x1x128, shapeCasts_S256x1x128_S256x1x1x128,
  concatenates_S256x1x1x128_S256x1x1x128_S256x2x1x128_d1, shapeCasts_S256x2x1x128_S512x128⟩
theorem fits1 : Fits 128 2 := ⟨shapeCasts_S512x128_S128x2x2x128, slices_S128x2x2x128_o0_0_0_0_S128x1x2x128,
  slices_S128x2x2x128_o0_1_0_0_S128x1x2x128, shapeCasts_S128x1x2x128_S128x2x128, shapeCasts_S128x2x128_S128x1x2x128,
  concatenates_S128x1x2x128_S128x1x2x128_S128x2x2x128_d1, shapeCasts_S128x2x2x128_S512x128⟩
theorem fits2 : Fits 64 4 := ⟨shapeCasts_S512x128_S64x2x4x128, slices_S64x2x4x128_o0_0_0_0_S64x1x4x128,
  slices_S64x2x4x128_o0_1_0_0_S64x1x4x128, shapeCasts_S64x1x4x128_S64x4x128, shapeCasts_S64x4x128_S64x1x4x128,
  concatenates_S64x1x4x128_S64x1x4x128_S64x2x4x128_d1, shapeCasts_S64x2x4x128_S512x128⟩
theorem fits3 : Fits 32 8 := ⟨shapeCasts_S512x128_S32x2x8x128, slices_S32x2x8x128_o0_0_0_0_S32x1x8x128,
  slices_S32x2x8x128_o0_1_0_0_S32x1x8x128, shapeCasts_S32x1x8x128_S32x8x128, shapeCasts_S32x8x128_S32x1x8x128,
  concatenates_S32x1x8x128_S32x1x8x128_S32x2x8x128_d1, shapeCasts_S32x2x8x128_S512x128⟩
theorem fits4 : Fits 16 16 := ⟨shapeCasts_S512x128_S16x2x16x128, slices_S16x2x16x128_o0_0_0_0_S16x1x16x128,
  slices_S16x2x16x128_o0_1_0_0_S16x1x16x128, shapeCasts_S16x1x16x128_S16x16x128, shapeCasts_S16x16x128_S16x1x16x128,
  concatenates_S16x1x16x128_S16x1x16x128_S16x2x16x128_d1, shapeCasts_S16x2x16x128_S512x128⟩
theorem fits5 : Fits 8 32 := ⟨shapeCasts_S512x128_S8x2x32x128, slices_S8x2x32x128_o0_0_0_0_S8x1x32x128,
  slices_S8x2x32x128_o0_1_0_0_S8x1x32x128, shapeCasts_S8x1x32x128_S8x32x128, shapeCasts_S8x32x128_S8x1x32x128,
  concatenates_S8x1x32x128_S8x1x32x128_S8x2x32x128_d1, shapeCasts_S8x2x32x128_S512x128⟩
theorem fits6 : Fits 4 64 := ⟨shapeCasts_S512x128_S4x2x64x128, slices_S4x2x64x128_o0_0_0_0_S4x1x64x128,
  slices_S4x2x64x128_o0_1_0_0_S4x1x64x128, shapeCasts_S4x1x64x128_S4x64x128, shapeCasts_S4x64x128_S4x1x64x128,
  concatenates_S4x1x64x128_S4x1x64x128_S4x2x64x128_d1, shapeCasts_S4x2x64x128_S512x128⟩
theorem fits7 : Fits 2 128 := ⟨shapeCasts_S512x128_S2x2x128x128, slices_S2x2x128x128_o0_0_0_0_S2x1x128x128,
  slices_S2x2x128x128_o0_1_0_0_S2x1x128x128, shapeCasts_S2x1x128x128_S2x128x128, shapeCasts_S2x128x128_S2x1x128x128,
  concatenates_S2x1x128x128_S2x1x128x128_S2x2x128x128_d1, shapeCasts_S2x2x128x128_S512x128⟩
theorem fits8 : Fits 1 256 := ⟨shapeCasts_S512x128_S1x2x256x128, slices_S1x2x256x128_o0_0_0_0_S1x1x256x128,
  slices_S1x2x256x128_o0_1_0_0_S1x1x256x128, shapeCasts_S1x1x256x128_S1x256x128, shapeCasts_S1x256x128_S1x1x256x128,
  concatenates_S1x1x256x128_S1x1x256x128_S1x2x256x128_d1, shapeCasts_S1x2x256x128_S512x128⟩

/-- The block with every element subtracted from zero. -/
def negF (v : FVec F S512x128 .f32) : FVec F S512x128 .f32 :=
  subf (broadcast S512x128 (Scalar.ofBits .f32 0x00000000#32)) v

/-- The row numbers of a block. -/
def rowsV : IVec S512x1 32 := iota .tc S512x1 32 [0] iota_S512x1_d0_w32

/-- Negate the rows whose number has the bit `K` set. -/
def flipRows (K : BitVec 32) (v : FVec F S512x128 .f32) : FVec F S512x128 .f32 :=
  select (broadcastTo S512x128 (shapeCast S512x1 (cmpi .ne (andi rowsV (broadcast S512x1 K)) (broadcast S512x1 0#32))
    shapeCasts_S512x1_S512x1) broadcasts_S512x1_S512x128) (negF v) v

/-- Negate the whole block if the bit is set. -/
def flipAll (b : BitVec 1) (v : FVec F S512x128 .f32) : FVec F S512x128 .f32 :=
  Scalar.select b (negF v) v

/-- The merging stages at strides `2 ^ (n - 1)`, …, `1`. -/
def merge1 (v : FVec F S512x128 .f32) : FVec F S512x128 .f32 := cmpx fits0 v
@[inherit_doc merge1] def merge2 (v : FVec F S512x128 .f32) : FVec F S512x128 .f32 := merge1 (cmpx fits1 v)
@[inherit_doc merge1] def merge3 (v : FVec F S512x128 .f32) : FVec F S512x128 .f32 := merge2 (cmpx fits2 v)
@[inherit_doc merge1] def merge4 (v : FVec F S512x128 .f32) : FVec F S512x128 .f32 := merge3 (cmpx fits3 v)
@[inherit_doc merge1] def merge5 (v : FVec F S512x128 .f32) : FVec F S512x128 .f32 := merge4 (cmpx fits4 v)
@[inherit_doc merge1] def merge6 (v : FVec F S512x128 .f32) : FVec F S512x128 .f32 := merge5 (cmpx fits5 v)
@[inherit_doc merge1] def merge7 (v : FVec F S512x128 .f32) : FVec F S512x128 .f32 := merge6 (cmpx fits6 v)
@[inherit_doc merge1] def merge8 (v : FVec F S512x128 .f32) : FVec F S512x128 .f32 := merge7 (cmpx fits7 v)
@[inherit_doc merge1] def merge9 (v : FVec F S512x128 .f32) : FVec F S512x128 .f32 := merge8 (cmpx fits8 v)

/-- Is the bit `K` set in the number of the first row of block `c`? -/
def blockBit (c K : BitVec 32) : BitVec 1 :=
  Scalar.cmpi .ne (Scalar.andi (Scalar.muli c 512#32) K) 0#32
/-- Is block `c` an odd one? -/
def oddBit (c : BitVec 32) : BitVec 1 := Scalar.cmpi .ne (Scalar.andi c 1#32) 0#32

/-- The first eight rounds of sorting a block on its own, alternate runs in opposite directions. -/
def chunk8 (v : FVec F S512x128 .f32) : FVec F S512x128 .f32 :=
  flipRows 256#32 (merge8 (flipRows 256#32 (flipRows 128#32 (merge7 (flipRows 128#32
  (flipRows 64#32 (merge6 (flipRows 64#32 (flipRows 32#32 (merge5 (flipRows 32#32
  (flipRows 16#32 (merge4 (flipRows 16#32 (flipRows 8#32 (merge3 (flipRows 8#32
  (flipRows 4#32 (merge2 (flipRows 4#32 (flipRows 2#32 (merge1 (flipRows 2#32 v)))))))))))))))))))))))

/-- What the first loop makes of block `c`. -/
def chunkF (c : BitVec 32) (v : FVec F S512x128 .f32) : FVec F S512x128 .f32 :=
  shapeCast S512x128 (flipAll (Scalar.xori (oddBit c) (blockBit c 1024#32))
    (merge9 (flipAll (oddBit c) (chunk8 v)))) shapeCasts_S512x128_S512x128

/-- What a merging loop makes of block `c`, between the rounds of bits `K` and `K'`. -/
def intraF (K K' : BitVec 32) (c : BitVec 32) (v : FVec F S512x128 .f32) : FVec F S512x128 .f32 :=
  shapeCast S512x128 (flipAll (Scalar.xori (blockBit c K) (blockBit c K')) (merge9 v)) shapeCasts_S512x128_S512x128

/-- What the last merging loop makes of a block. -/
def lastF (v : FVec F S512x128 .f32) : FVec F S512x128 .f32 :=
  shapeCast S512x128 (merge9 v) shapeCasts_S512x128_S512x128

/-- The row by row smaller of two blocks. -/
def minF (a b : FVec F S512x128 .f32) : FVec F S512x128 .f32 :=
  shapeCast S512x128 (minimumf a b) shapeCasts_S512x128_S512x128
/-- The row by row larger of two blocks. -/
def maxF (a b : FVec F S512x128 .f32) : FVec F S512x128 .f32 :=
  shapeCast S512x128 (maximumf a b) shapeCasts_S512x128_S512x128

/-- A trip that rewrites the block at `off` by `f`. -/
def blockTrip (M : Memref sig .tc .vmem S32768x128 .f32) (off : Fin 2 → ℕ)
    (h : ∀ a, off a + S512x128.size a ≤ S32768x128.size a)
    (f : FVec F S512x128 .f32 → FVec F S512x128 .f32) :
    Prog (TpuEff nD τ sig (Elt F) Λ₀ .tc) Unit := do
  let v : Vec F S512x128 .f32 ← Prog.lift (.load M (Rect.unit (s := S32768x128) off S512x128.size h).toLoadRect (View.loadsAt_vmem h_S512x128))
  let _ : Vec F S512x128 .f32 ← Prog.lift (.load M (Rect.unit (s := S32768x128) off S512x128.size h).toLoadRect (View.loadsAt_vmem h_S512x128))
  Prog.lift (.store M (Rect.unit (s := S32768x128) off S512x128.size h) (f v) Finset.univ (View.stores_vmem_bits_univ h_S512x128 rfl) (.inl rfl))
  pure ⟨⟩

/-- A trip that puts the row by row smaller of the blocks at `o₀` and `o₁` at `o₀`, the larger at
    `o₁`. -/
def pairTrip (M : Memref sig .tc .vmem S32768x128 .f32) (o₀ o₁ : Fin 2 → ℕ)
    (h₀ : ∀ a, o₀ a + S512x128.size a ≤ S32768x128.size a)
    (h₁ : ∀ a, o₁ a + S512x128.size a ≤ S32768x128.size a) :
    Prog (TpuEff nD τ sig (Elt F) Λ₀ .tc) Unit := do
  let a : Vec F S512x128 .f32 ← Prog.lift (.load M (Rect.unit (s := S32768x128) o₀ S512x128.size h₀).toLoadRect (View.loadsAt_vmem h_S512x128))
  let b : Vec F S512x128 .f32 ← Prog.lift (.load M (Rect.unit (s := S32768x128) o₁ S512x128.size h₁).toLoadRect (View.loadsAt_vmem h_S512x128))
  let _ : Vec F S512x128 .f32 ← Prog.lift (.load M (Rect.unit (s := S32768x128) o₀ S512x128.size h₀).toLoadRect (View.loadsAt_vmem h_S512x128))
  Prog.lift (.store M (Rect.unit (s := S32768x128) o₀ S512x128.size h₀) (minF a b) Finset.univ (View.stores_vmem_bits_univ h_S512x128 rfl) (.inl rfl))
  let _ : Vec F S512x128 .f32 ← Prog.lift (.load M (Rect.unit (s := S32768x128) o₁ S512x128.size h₁).toLoadRect (View.loadsAt_vmem h_S512x128))
  Prog.lift (.store M (Rect.unit (s := S32768x128) o₁ S512x128.size h₁) (maxF a b) Finset.univ (View.stores_vmem_bits_univ h_S512x128 rfl) (.inl rfl))
  pure ⟨⟩

end Cert.Proof

end
-- ==== Proof.Stage.lean ====
/-
  The sort of one column buffer as a list of stages, and what a loop of trips does to the buffer.

  A stage rewrites the whole buffer at once: every block on its own (`blockStage`), or every pair of
  blocks a power of two apart (`pairStage`). The loop that carries a stage out visits the blocks in
  order; before trip `k` the buffer is the stage's result on what the first `k` trips have written and
  the old contents elsewhere.
-/
module

public import proofs.«01_k».proof.Proof.Chunk
public import Mathlib.Tactic.Ring
public import Mathlib.Tactic.Linarith
public import Idealize.ShloMosaic.Lib.Tactic
public import Idealize.ShloMosaic.Lib.Rounds
public import Idealize.ShloMosaic.Lib.ValueIdxCore
public import Idealize.ShloMosaic.Lib.Pipeline.Kit
public import Idealize.ShloMosaic.Lib.Pipeline.ValueKit.Geometry
public import Idealize.ShloMosaic.Lib.Pipeline.Regions

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

/-- The contents of a column buffer. -/
abbrev Col (F : FTy → Type) [FloatOps F] : Type := S32768x128.Idx → Elt F .f32
/-- The contents of one block of it. -/
abbrev Blk (F : FTy → Type) [FloatOps F] : Type := S512x128.Idx → Elt F .f32

/-- The block a row lies in. -/
def qOf (x : S32768x128.Idx) : Fin 64 := ⟨(x 0).val / 512, by have := idx2_lt0 x; omega⟩
/-- The place of a row within its block. -/
def inBlk (x : S32768x128.Idx) : S512x128.Idx := ix2 ⟨(x 0).val % 512, Nat.mod_lt _ (by decide)⟩ (x 1)
/-- The row of block `q` at a place. -/
def ofBlk (q : Fin 64) (y : S512x128.Idx) : S32768x128.Idx :=
  ix2 ⟨512 * q.val + (y 0).val, by have := idx2_lt0 y; have := q.isLt; omega⟩ (y 1)

theorem ofBlk_qOf (x : S32768x128.Idx) : ofBlk (qOf x) (inBlk x) = x := by
  rw [eq_ix2 x]; unfold ofBlk qOf inBlk; congr 1; apply Fin.ext
  show 512 * ((x 0).val / 512) + (x 0).val % 512 = (x 0).val
  omega
theorem qOf_ofBlk (q : Fin 64) (y : S512x128.Idx) : qOf (ofBlk q y) = q := by
  apply Fin.ext; have := idx2_lt0 y
  show (512 * q.val + (y 0).val) / 512 = q.val
  omega
theorem inBlk_ofBlk (q : Fin 64) (y : S512x128.Idx) : inBlk (ofBlk q y) = y := by
  have := idx2_lt0 y
  rw [eq_ix2 y]; unfold ofBlk inBlk; congr 1; apply Fin.ext
  show (512 * q.val + (y 0).val) % 512 = (y 0).val
  omega

/-- Block `q` of a buffer. -/
def blk (g : Col F) (q : Fin 64) : Blk F := fun y => g (ofBlk q y)
/-- The buffer with block `q` replaced. -/
def put (g : Col F) (q : Fin 64) (w : Blk F) : Col F := fun x => if qOf x = q then w (inBlk x) else g x

theorem blk_put_ne (g : Col F) {q q' : Fin 64} (h : q' ≠ q) (w : Blk F) : blk (put g q w) q' = blk g q' := by
  funext y; unfold blk put; rw [qOf_ofBlk, if_neg h]

/-- Every block `q` rewritten by `f q`. -/
def blockStage (f : Fin 64 → Blk F → Blk F) (g : Col F) : Col F := fun x => f (qOf x) (blk g (qOf x)) (inBlk x)

/-- The first `k` blocks rewritten. -/
def blockTo (f : Fin 64 → Blk F → Blk F) (g : Col F) (k : ℕ) : Col F :=
  fun x => if (qOf x).val < k then blockStage f g x else g x

theorem blockTo_zero (f : Fin 64 → Blk F → Blk F) (g : Col F) : blockTo f g 0 = g := by
  funext x; unfold blockTo; rw [if_neg (Nat.not_lt_zero _)]
theorem blockTo_last (f : Fin 64 → Blk F → Blk F) (g : Col F) : blockTo f g 64 = blockStage f g := by
  funext x; unfold blockTo; rw [if_pos (qOf x).isLt]

theorem blockTo_succ (f : Fin 64 → Blk F → Blk F) (g : Col F) (q : Fin 64) :
    put (blockTo f g q.val) q (f q (blk (blockTo f g q.val) q)) = blockTo f g (q.val + 1) := by
  have hb : blk (blockTo f g q.val) q = blk g q := by
    funext y; unfold blk blockTo; rw [qOf_ofBlk, if_neg (Nat.lt_irrefl _)]
  rw [hb]; funext x; unfold put
  by_cases h : qOf x = q
  · rw [if_pos h]; unfold blockTo; rw [if_pos (by rw [h]; exact Nat.lt_succ_self _)]
    unfold blockStage; rw [h]
  · rw [if_neg h]; unfold blockTo
    have h' : (qOf x).val ≠ q.val := fun e => h (Fin.ext e)
    by_cases hk : (qOf x).val < q.val
    · rw [if_pos hk, if_pos (Nat.lt_succ_of_lt hk)]
    · rw [if_neg hk, if_neg (by omega)]

/-! ## Pairs of blocks -/

/-- The lower block of pair `k` at distance `t`. -/
def loIx (t k : ℕ) : ℕ := k / t * (2 * t) + k % t
/-- Which pair at distance `t` block `q` belongs to. -/
def pairIx (t q : ℕ) : ℕ := q / (2 * t) * t + q % t
/-- Is block `q` the upper one of its pair? -/
def isHi (t q : ℕ) : Prop := q / t % 2 = 1

instance (t q : ℕ) : Decidable (isHi t q) := inferInstanceAs (Decidable (_ = _))

section PairIx
variable {t : ℕ} (ht : 0 < t)
include ht

theorem pair_split (q : ℕ) : q = q / (2 * t) * (2 * t) + (q / t % 2) * t + q % t := by
  have h1 := Nat.div_add_mod q t
  have h2 := Nat.div_add_mod (q / t) 2
  have h3 : q / (2 * t) = q / t / 2 := by rw [Nat.div_div_eq_div_mul, Nat.mul_comm]
  rw [h3]; nlinarith

theorem lo_div (k : ℕ) : loIx t k / (2 * t) = k / t := by
  unfold loIx
  have h := Nat.mod_lt k ht
  rw [show k / t * (2 * t) + k % t = (2 * t) * (k / t) + k % t by ring, Nat.mul_add_div (by omega),
    Nat.div_eq_of_lt (show k % t < 2 * t by omega), Nat.add_zero]
theorem lo_mod (k : ℕ) : loIx t k % t = k % t := by
  unfold loIx
  rw [show k / t * (2 * t) + k % t = k % t + t * (k / t * 2) by ring, Nat.add_mul_mod_self_left, Nat.mod_mod]
theorem lo_side (k : ℕ) : loIx t k / t % 2 = 0 := by
  unfold loIx
  rw [show k / t * (2 * t) + k % t = k % t + t * (k / t * 2) by ring, Nat.add_mul_div_left _ _ ht,
    Nat.div_eq_of_lt (Nat.mod_lt k ht), Nat.zero_add, Nat.mul_mod_left]
theorem hi_div (k : ℕ) : (loIx t k + t) / (2 * t) = k / t := by
  unfold loIx
  have h := Nat.mod_lt k ht
  rw [show k / t * (2 * t) + k % t + t = (2 * t) * (k / t) + (k % t + t) by ring, Nat.mul_add_div (by omega),
    Nat.div_eq_of_lt (show k % t + t < 2 * t by omega), Nat.add_zero]
theorem hi_mod (k : ℕ) : (loIx t k + t) % t = k % t := by rw [Nat.add_mod_right, lo_mod ht]
theorem hi_side (k : ℕ) : (loIx t k + t) / t % 2 = 1 := by
  have := lo_side ht k
  rw [Nat.add_div_right _ ht]; omega

theorem pairIx_lo (k : ℕ) : pairIx t (loIx t k) = k := by
  unfold pairIx; rw [lo_div ht, lo_mod ht, Nat.mul_comm]; exact Nat.div_add_mod k t
theorem pairIx_hi (k : ℕ) : pairIx t (loIx t k + t) = k := by
  unfold pairIx; rw [hi_div ht, hi_mod ht, Nat.mul_comm]; exact Nat.div_add_mod k t

theorem of_pairIx (q : ℕ) : q = loIx t (pairIx t q) + (q / t % 2) * t := by
  have h := pair_split ht q
  unfold loIx pairIx
  have h1 : (q / (2 * t) * t + q % t) / t = q / (2 * t) := by
    rw [Nat.mul_comm, Nat.mul_add_div ht, Nat.div_eq_of_lt (Nat.mod_lt q ht), Nat.add_zero]
  have h2 : (q / (2 * t) * t + q % t) % t = q % t := by
    rw [Nat.mul_comm, Nat.mul_add_mod, Nat.mod_mod]
  rw [h1, h2]; omega
end PairIx

/-- The block at distance `t` above, -/
def upB (t : ℕ) (q : Fin 64) : Fin 64 := ⟨(q.val + t) % 64, Nat.mod_lt _ (by decide)⟩
/-- and below. -/
def downB (t : ℕ) (q : Fin 64) : Fin 64 := ⟨q.val - t, by have := q.isLt; omega⟩

/-- Every pair of blocks at distance `t` rewritten: the row by row smaller below, the larger above. -/
def pairStage (t : ℕ) (g : Col F) : Col F := fun x =>
  if isHi t (qOf x).val then maxF (blk g (downB t (qOf x))) (blk g (qOf x)) (inBlk x)
  else minF (blk g (qOf x)) (blk g (upB t (qOf x))) (inBlk x)

/-- The first `k` pairs rewritten. -/
def pairTo (t : ℕ) (g : Col F) (k : ℕ) : Col F :=
  fun x => if pairIx t (qOf x).val < k then pairStage t g x else g x

theorem pairTo_zero (t : ℕ) (g : Col F) : pairTo t g 0 = g := by
  funext x; unfold pairTo; rw [if_neg (Nat.not_lt_zero _)]

theorem pairTo_last {t : ℕ} (ht : 0 < t) (hd : t ∣ 32) (g : Col F) : pairTo t g 32 = pairStage t g := by
  funext x; unfold pairTo; rw [if_pos]
  obtain ⟨n, hn⟩ := hd
  have hq := (qOf x).isLt
  have h1 : (qOf x).val / (2 * t) < n := by
    rw [Nat.div_lt_iff_lt_mul (by omega)]
    calc (qOf x).val < 2 * 32 := hq
      _ = n * (2 * t) := by rw [hn]; ring
  unfold pairIx
  have h2 := Nat.mod_lt (qOf x).val ht
  calc (qOf x).val / (2 * t) * t + (qOf x).val % t < (qOf x).val / (2 * t) * t + t := by omega
    _ = ((qOf x).val / (2 * t) + 1) * t := by ring
    _ ≤ n * t := Nat.mul_le_mul_right _ h1
    _ = 32 := by rw [hn, Nat.mul_comm]

theorem pairTo_succ {t : ℕ} (ht : 0 < t) (g : Col F) (k : ℕ) (a b : Fin 64) (ha : a.val = loIx t k) (hb : b.val = loIx t k + t) :
    put (put (pairTo t g k) a (minF (blk (pairTo t g k) a) (blk (pairTo t g k) b))) b
      (maxF (blk (pairTo t g k) a) (blk (pairTo t g k) b)) = pairTo t g (k + 1) := by
  have hpa : pairIx t a.val = k := by rw [ha, pairIx_lo ht]
  have hpb : pairIx t b.val = k := by rw [hb, pairIx_hi ht]
  have hna : ¬ isHi t a.val := by unfold isHi; rw [ha, lo_side ht]; decide
  have hnb : isHi t b.val := by unfold isHi; rw [hb, hi_side ht]
  have hua : upB t a = b := by apply Fin.ext; show (a.val + t) % 64 = b.val; rw [ha, ← hb, Nat.mod_eq_of_lt b.isLt]
  have hdb : downB t b = a := by apply Fin.ext; show b.val - t = a.val; omega
  have hba : blk (pairTo t g k) a = blk g a := by
    funext y; unfold blk pairTo; rw [qOf_ofBlk, if_neg (by omega)]
  have hbb : blk (pairTo t g k) b = blk g b := by
    funext y; unfold blk pairTo; rw [qOf_ofBlk, if_neg (by omega)]
  rw [hba, hbb]; funext x
  by_cases h : qOf x = b
  · unfold put; rw [if_pos h]; unfold pairTo pairStage
    rw [if_pos (by rw [h]; omega), h, if_pos hnb, hdb]
  · by_cases h' : qOf x = a
    · unfold put; rw [if_neg h, if_pos h']; unfold pairTo pairStage
      rw [if_pos (by rw [h']; omega), h', if_neg hna, hua]
    · unfold put; rw [if_neg h, if_neg h']; unfold pairTo
      have hne : pairIx t (qOf x).val ≠ k := by
        intro e
        have := of_pairIx ht (qOf x).val
        rw [e] at this
        rcases Nat.mod_two_eq_zero_or_one ((qOf x).val / t) with h0 | h1
        · rw [h0, Nat.zero_mul, Nat.add_zero, ← ha] at this; exact h' (Fin.ext this)
        · rw [h1, Nat.one_mul, ← hb] at this; exact h (Fin.ext this)
      by_cases hk : pairIx t (qOf x).val < k
      · rw [if_pos hk, if_pos (by omega)]
      · rw [if_neg hk, if_neg (by omega)]

end Cert.Proof

end
-- ==== Proof.Ghost.lean ====
/-
  The resources the proof works over, and a column buffer held at known contents.
-/
module

public import proofs.«01_k».proof.Proof.Stage
public import proofs.«01_k».proof.Proof.Gen.KernelIdeal.Frame

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal Cert.KernelIdeal.Gen

variable {F : FTy → Type} [FloatOps F]

/-- The exchange's own rounds: a duty is named by the device that pays it. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-- No loop of the program needs a variant. -/
abbrev 𝒱₀ : Variants := Variants.none

variable (c : Dev nD) (M : Memref sig .tc .vmem S32768x128 .f32)

/-- Device `c` holds the buffer `M` whole, and it reads `g`. -/
def holds (g : Col F) : sProp 𝕄 :=
  iprop(∃ f : Buf (Elt F) (M.view.loc (c : Thread nD τ)), (M.view.loc (c : Thread nD τ) ↦{fullShare} f) ∗ ⌜M.view.read (Elt F) f = g⌝)

variable {c M}

omit [FloatOps F] in
theorem emb_off {off : Fin 2 → ℕ} (h : ∀ a, off a + S512x128.size a ≤ S32768x128.size a) (q : Fin 64)
    (hoff : off = ![512 * q.val, 0]) (y : S512x128.Idx) :
    (Rect.unit (s := S32768x128) off S512x128.size h).emb y = ofBlk q y := by
  subst hoff
  funext a; apply Fin.ext
  rw [ValueKit.rect_emb_unit_val]
  match a with
  | ⟨0, _⟩ => rfl
  | ⟨1, _⟩ => exact Nat.zero_add _

/-- Loading the block at `off` reads block `q`. -/
theorem wp_loadBlk {off : Fin 2 → ℕ} {h : ∀ a, off a + S512x128.size a ≤ S32768x128.size a} (q : Fin 64)
    (hoff : off = ![512 * q.val, 0]) {g : Col F} {α : Type} {Q : α → sProp 𝕄}
    {hl : M.view.LoadsAt (Rect.unit (s := S32768x128) off S512x128.size h).toLoadRect}
    {k : Blk F → Prog (TpuEff nD τ sig (Elt F) Λ₀ .tc) α} :
    holds (F := F) c M g ⊢ iprop((holds (F := F) c M g -∗ wp frame (wpE (defs₀ (F := F)) 𝒱₀ (c : Thread nD τ) none) Set.univ (k (blk g q)) Q)
      -∗ wp frame (wpE (defs₀ (F := F)) 𝒱₀ (c : Thread nD τ) none) Set.univ
        (.op (.load M (Rect.unit (s := S32768x128) off S512x128.size h).toLoadRect hl) k) Q) := by
  unfold holds
  iintro ⟨%f, Hf, %hf⟩ HK
  ihave HK' := (wp_load 𝒱₀ (c : Thread nD τ) none Set.univ (m := M) (hl := hl) (k := k) (Q := Q) (f := f) (Finset.subset_univ _)) $$ Hf
  iapply HK'
  iintro Hf
  have e : M.view.readAt (Elt F) (Rect.unit (s := S32768x128) off S512x128.size h).toLoadRect f = blk g q := by
    funext y
    show M.view.read (Elt F) f ((Rect.unit (s := S32768x128) off S512x128.size h).emb y) = _
    rw [emb_off h q hoff, hf]; rfl
  rw [e]
  iapply HK
  iexists f
  isplitl [Hf]
  · iexact Hf
  · ipureintro; exact hf

/-- Storing at `off` replaces block `q`. -/
theorem wp_storeBlk {off : Fin 2 → ℕ} {h : ∀ a, off a + S512x128.size a ≤ S32768x128.size a} (q : Fin 64)
    (hoff : off = ![512 * q.val, 0]) {g : Col F} {w : Blk F} {α : Type} {Q : α → sProp 𝕄}
    {hx : (M.access (Rect.unit (s := S32768x128) off S512x128.size h)).Stores Finset.univ}
    {hm : (Finset.univ : Finset S512x128.Idx) = Finset.univ ∨ ∀ a, (Rect.unit (s := S32768x128) off S512x128.size h).stride a = 1}
    {k : PUnit → Prog (TpuEff nD τ sig (Elt F) Λ₀ .tc) α} :
    holds (F := F) c M g ⊢ iprop((holds (F := F) c M (put g q w) -∗ wp frame (wpE (defs₀ (F := F)) 𝒱₀ (c : Thread nD τ) none) Set.univ (k ⟨⟩) Q)
      -∗ wp frame (wpE (defs₀ (F := F)) 𝒱₀ (c : Thread nD τ) none) Set.univ
        (.op (.store M (Rect.unit (s := S32768x128) off S512x128.size h) w Finset.univ hx hm) k) Q) := by
  unfold holds
  iintro ⟨%f, Hf, %hf⟩ HK
  ihave HK' := (wp_store 𝒱₀ (c : Thread nD τ) none Set.univ (m := M) (hx := hx) (hm := hm) (k := k) (Q := Q) (f := f) (Finset.subset_univ _)) $$ Hf
  iapply HK'
  iintro Hf
  iapply HK
  iexists _
  isplitl [Hf]
  · iexact Hf
  · ipureintro
    funext x
    unfold put
    by_cases hq : qOf x = q
    · rw [if_pos hq]
      have := View.read_slice_write_emb (v := M.view) (Rect.unit (s := S32768x128) off S512x128.size h) f w (Finset.mem_univ (inBlk x))
      rw [emb_off h q hoff, ← hq, ofBlk_qOf] at this
      exact this
    · rw [if_neg hq, ← hf]
      refine View.read_slice_write_of_not_mem (v := M.view) (Rect.unit (s := S32768x128) off S512x128.size h) f w Finset.univ ?_
      intro hm
      obtain ⟨y, -, hy⟩ := Finset.mem_map.mp hm
      rw [emb_off h q hoff] at hy
      exact hq (by rw [← hy, qOf_ofBlk])

/-- A trip on one block. -/
theorem wp_blockTrip {off : Fin 2 → ℕ} {h : ∀ a, off a + S512x128.size a ≤ S32768x128.size a} (q : Fin 64)
    (hoff : off = ![512 * q.val, 0]) {g : Col F} {f : Blk F → Blk F} :
    holds (F := F) c M g ⊢ wp frame (wpE (defs₀ (F := F)) 𝒱₀ (c : Thread nD τ) none) Set.univ (blockTrip M off h f)
      (fun _ => holds (F := F) c M (put g q (f (blk g q)))) := by
  unfold blockTrip
  simp only [Prog.lift, Prog.bind_op, Prog.bind_ret, Prog.pure_eq_ret]
  iintro H
  iapply (wp_loadBlk q hoff) $$ H
  iintro H
  iapply (wp_loadBlk q hoff) $$ H
  iintro H
  iapply (wp_storeBlk q hoff) $$ H
  iintro H
  rw [wp_ret]
  imodintro; iexact H

/-- A trip on a pair of blocks. -/
theorem wp_pairTrip {o₀ o₁ : Fin 2 → ℕ} {h₀ : ∀ a, o₀ a + S512x128.size a ≤ S32768x128.size a}
    {h₁ : ∀ a, o₁ a + S512x128.size a ≤ S32768x128.size a} (a b : Fin 64)
    (ha : o₀ = ![512 * a.val, 0]) (hb : o₁ = ![512 * b.val, 0]) {g : Col F} :
    holds (F := F) c M g ⊢ wp frame (wpE (defs₀ (F := F)) 𝒱₀ (c : Thread nD τ) none) Set.univ (pairTrip M o₀ o₁ h₀ h₁)
      (fun _ => holds (F := F) c M (put (put g a (minF (blk g a) (blk g b))) b (maxF (blk g a) (blk g b)))) := by
  unfold pairTrip
  simp only [Prog.lift, Prog.bind_op, Prog.bind_ret, Prog.pure_eq_ret]
  iintro H
  iapply (wp_loadBlk a ha) $$ H
  iintro H
  iapply (wp_loadBlk b hb) $$ H
  iintro H
  iapply (wp_loadBlk a ha) $$ H
  iintro H
  iapply (wp_storeBlk a ha) $$ H
  iintro H
  iapply (wp_loadBlk b hb) $$ H
  iintro H
  iapply (wp_storeBlk b hb) $$ H
  iintro H
  rw [wp_ret]
  imodintro; iexact H

/-- `p` takes the buffer `M` from any contents `g` to `T g`. -/
def Carries (M : Memref sig .tc .vmem S32768x128 .f32) (p : Prog (TpuEff nD τ sig (Elt F) Λ₀ .tc) Unit) (T : Col F → Col F) : Prop :=
  ∀ (c : Dev nD) (g : Col F), holds (F := F) c M g ⊢ wp frame (wpE (defs₀ (F := F)) 𝒱₀ (c : Thread nD τ) none) Set.univ p (fun _ => holds (F := F) c M (T g))

/-- `p` at the head of a program. -/
theorem Carries.bind {p : Prog (TpuEff nD τ sig (Elt F) Λ₀ .tc) Unit} {T : Col F → Col F} (h : Carries M p T)
    {α : Type} {Q : α → sProp 𝕄} {k : Unit → Prog (TpuEff nD τ sig (Elt F) Λ₀ .tc) α} {g : Col F} :
    holds (F := F) c M g ⊢ iprop((holds (F := F) c M (T g) -∗ wp frame (wpE (defs₀ (F := F)) 𝒱₀ (c : Thread nD τ) none) Set.univ (k ()) Q)
      -∗ wp frame (wpE (defs₀ (F := F)) 𝒱₀ (c : Thread nD τ) none) Set.univ (p >>= k) Q) := by
  rw [wp_bind]
  iintro H HK
  iapply (wp_wand_r frame (wpE (defs₀ (F := F)) 𝒱₀ (c : Thread nD τ) none) Set.univ)
  isplitl [H]
  · iapply (h c g); iexact H
  · iintro %_ H
    iapply HK; iexact H

/-- A loop over the blocks, each trip rewriting its own. -/
theorem carries_blocks {M : Memref sig .tc .vmem S32768x128 .f32} (L : Scf.Loop 32) (ok : L.OK) (f : BitVec 32 → Blk F → Blk F)
    (off : Fin L.trips → Fin 2 → ℕ) (inb : ∀ k a, off k a + S512x128.size a ≤ S32768x128.size a)
    (body : Fin L.trips → Unit → Prog (TpuEff nD τ sig (Elt F) Λ₀ .tc) Unit)
    (hbody : body = fun k _ => blockTrip M (off k) (inb k) (f (Scf.iv 0#32 1#32 k)))
    (htr : L.trips = 64) (hoff : ∀ k, off k = ![512 * k.val, 0]) :
    Carries M (Scf.Loop.for L ok ⟨⟩ body) (blockStage fun q => f (Scf.iv 0#32 1#32 q)) := by
  subst hbody
  intro c g
  refine BIBase.Entails.trans ?_ (Scf.wp_for frame (wpE (defs₀ (F := F)) 𝒱₀ (c : Thread nD τ) none) Set.univ L.lb L.ub L.st ok () _
    (fun k _ => holds (F := F) c M (blockTo (fun q => f (Scf.iv 0#32 1#32 q)) g k)) ?_)
  · iintro H
    isplitl [H]
    · rw [blockTo_zero]; iexact H
    · iintro %_ H
      rw [show Scf.trips L.lb L.ub L.st = 64 from htr, blockTo_last]
      iexact H
  · intro k _
    have hk : k.val < 64 := lt_of_lt_of_eq k.isLt htr
    rw [← blockTo_succ (fun q => f (Scf.iv 0#32 1#32 q)) g ⟨k.val, hk⟩]
    exact wp_blockTrip ⟨k.val, hk⟩ (hoff k)

/-- A loop over the pairs of blocks at distance `t`. -/
theorem carries_pairs {M : Memref sig .tc .vmem S32768x128 .f32} (L : Scf.Loop 32) (ok : L.OK) (t : ℕ)
    (o₀ o₁ : Fin L.trips → Fin 2 → ℕ) (h₀ : ∀ k a, o₀ k a + S512x128.size a ≤ S32768x128.size a)
    (h₁ : ∀ k a, o₁ k a + S512x128.size a ≤ S32768x128.size a)
    (body : Fin L.trips → Unit → Prog (TpuEff nD τ sig (Elt F) Λ₀ .tc) Unit)
    (hbody : body = fun k _ => pairTrip M (o₀ k) (o₁ k) (h₀ k) (h₁ k))
    (htr : L.trips = 32) (ht : 0 < t) (hd : t ∣ 32)
    (hoff : ∀ k, o₀ k = ![512 * loIx t k.val, 0] ∧ o₁ k = ![512 * (loIx t k.val + t), 0]) :
    Carries (F := F) M (Scf.Loop.for L ok ⟨⟩ body) (pairStage t) := by
  subst hbody
  intro c g
  refine BIBase.Entails.trans ?_ (Scf.wp_for frame (wpE (defs₀ (F := F)) 𝒱₀ (c : Thread nD τ) none) Set.univ L.lb L.ub L.st ok () _
    (fun k _ => holds (F := F) c M (pairTo t g k)) ?_)
  · iintro H
    isplitl [H]
    · rw [pairTo_zero]; iexact H
    · iintro %_ H
      rw [show Scf.trips L.lb L.ub L.st = 32 from htr, pairTo_last ht hd]
      iexact H
  · intro k _
    obtain ⟨e₀, e₁⟩ := hoff k
    have b₁ : 512 * (loIx t k.val + t) + 512 ≤ 32768 := by
      have := h₁ k 0; rw [e₁] at this; exact this
    rw [← pairTo_succ ht g k.val ⟨loIx t k.val, by omega⟩ ⟨loIx t k.val + t, by omega⟩ rfl rfl]
    exact wp_pairTrip ⟨loIx t k.val, by omega⟩ ⟨loIx t k.val + t, by omega⟩ e₀ e₁

end Cert.Proof

end
-- ==== Proof.Loops.lean ====
/-
  Each loop of the two sorts carries its stage out.

  The first buffer is sorted by loops 1 to 28, the second by loops 29 to 56, through the same stages.
-/
module

public import proofs.«01_k».proof.Proof.Ghost

@[expose] public section

set_option maxRecDepth 16384
set_option synthInstance.maxSize 4096

noncomputable section

namespace Cert.Proof

open Idealize.ShloMosaic Idealize.SL.Sem
open Idealize.ShloMosaic.Pipeline
open Cert.KernelIdeal Cert.KernelIdeal.Gen

variable {F : FTy → Type} [FloatOps F]

/-- The stage of the first loop: every block sorted, alternate blocks in opposite directions. -/
def chunkStage : Col F → Col F := blockStage fun q => chunkF (Scf.iv 0#32 1#32 q)
/-- The stage of a merging loop inside blocks. -/
def mergeStage (K K' : BitVec 32) : Col F → Col F := blockStage fun q => intraF K K' (Scf.iv 0#32 1#32 q)
/-- The stage of the last loop. -/
def lastStage : Col F → Col F := blockStage fun _ => lastF

/-- One round: the stages across blocks at the distances `ts`, then the stage inside blocks. -/
def roundStage (ts : List ℕ) (inner : Col F → Col F) (g : Col F) : Col F := inner (ts.foldl (fun g t => pairStage t g) g)

/-- The whole sort of a column buffer. -/
def sortCol (g : Col F) : Col F :=
  roundStage [32, 16, 8, 4, 2, 1] lastStage
  (roundStage [16, 8, 4, 2, 1] (mergeStage 16384#32 32768#32)
  (roundStage [8, 4, 2, 1] (mergeStage 8192#32 16384#32)
  (roundStage [4, 2, 1] (mergeStage 4096#32 8192#32)
  (roundStage [2, 1] (mergeStage 2048#32 4096#32)
  (roundStage [1] (mergeStage 1024#32 2048#32)
  (chunkStage g))))))

section
variable (arg0 : Memref sig .tc .hbm S8192x1024 .f32) (harg0 : arg0.IsWhole) (arg1 : Memref sig .tc .hbm S8192x1024 .f32) (harg1 : arg1.IsWhole) (arg2 : Memref sig .tc .vmem S32768x128 .f32) (harg2 : arg2.IsWhole) (arg3 : Memref sig .tc .vmem S32768x128 .f32) (harg3 : arg3.IsWhole) (arg4 : DmaSems sig S3x2) (arg5 : DmaSems sig S4x2) (arg6 : DmaSems sig S3x2) (arg7 : DmaSems sig S4x2) (arg8 : DmaSems sig S2) (arg9 : DmaSems sig S2)

theorem loop1 (d0 : Dev nD) (v2 : BitVec 32) (v223 : BitVec 32) :
    Carries (F := F) arg2 (Scf.Loop.for k0_t1_loop k0_t1_ok ⟨⟩ (k0_t1_body arg0 harg0 arg1 harg1 arg2 harg2 arg3 harg3 arg4 arg5 arg6 arg7 arg8 arg9 d0 v2 v223 rowsV)) chunkStage :=
  carries_blocks _ _ chunkF k0_off9 k0_off9_inb _ (by chain_rfl) (by decide) (by decide +kernel)
theorem loop2 (c0_i32_196 : BitVec 32) :
    Carries (F := F) arg2 (Scf.Loop.for k0_t2_loop k0_t2_ok ⟨⟩ (k0_t2_body arg0 harg0 arg1 harg1 arg2 harg2 arg3 harg3 arg4 arg5 arg6 arg7 arg8 arg9 c0_i32_196)) (pairStage 1) :=
  carries_pairs _ _ 1 k0_off10 k0_off11 k0_off10_inb k0_off11_inb _ (by chain_rfl) (by decide) (by decide) (by decide) (by decide +kernel)
theorem loop3 (c0_i32_196 : BitVec 32) :
    Carries (F := F) arg2 (Scf.Loop.for k0_t3_loop k0_t3_ok ⟨⟩ (k0_t3_body arg0 harg0 arg1 harg1 arg2 harg2 arg3 harg3 arg4 arg5 arg6 arg7 arg8 arg9 c0_i32_196)) (mergeStage 1024#32 2048#32) :=
  carries_blocks _ _ (intraF 1024#32 2048#32) k0_off12 k0_off12_inb _ (by chain_rfl) (by decide) (by decide +kernel)
theorem loop4 (c0_i32_196 : BitVec 32) :
    Carries (F := F) arg2 (Scf.Loop.for k0_t4_loop k0_t4_ok ⟨⟩ (k0_t4_body arg0 harg0 arg1 harg1 arg2 harg2 arg3 harg3 arg4 arg5 arg6 arg7 arg8 arg9 c0_i32_196)) (pairStage 2) :=
  carries_pairs _ _ 2 k0_off13 k0_off14 k0_off13_inb k0_off14_inb _ (by chain_rfl) (by decide) (by decide) (by decide) (by decide +kernel)
theorem loop5 (c0_i32_196 : BitVec 32) :
    Carries (F := F) arg2 (Scf.Loop.for k0_t5_loop k0_t5_ok ⟨⟩ (k0_t5_body arg0 harg0 arg1 harg1 arg2 harg2 arg3 harg3 arg4 arg5 arg6 arg7 arg8 arg9 c0_i32_196)) (pairStage 1) :=
  carries_pairs _ _ 1 k0_off15 k0_off16 k0_off15_inb k0_off16_inb _ (by chain_rfl) (by decide) (by decide) (by decide) (by decide +kernel)
theorem loop6 (c0_i32_196 : BitVec 32) :
    Carries (F := F) arg2 (Scf.Loop.for k0_t6_loop k0_t6_ok ⟨⟩ (k0_t6_body arg0 harg0 arg1 harg1 arg2 harg2 arg3 harg3 arg4 arg5 arg6 arg7 arg8 arg9 c0_i32_196)) (mergeStage 2048#32 4096#32) :=
  carries_blocks _ _ (intraF 2048#32 4096#32) k0_off17 k0_off17_inb _ (by chain_rfl) (by decide) (by decide +kernel)
theorem loop7 (c0_i32_196 : BitVec 32) :
    Carries (F := F) arg2 (Scf.Loop.for k0_t7_loop k0_t7_ok ⟨⟩ (k0_t7_body arg0 harg0 arg1 harg1 arg2 harg2 arg3 harg3 arg4 arg5 arg6 arg7 arg8 arg9 c0_i32_196)) (pairStage 4) :=
  carries_pairs _ _ 4 k0_off18 k0_off19 k0_off18_inb k0_off19_inb _ (by chain_rfl) (by decide) (by decide) (by decide) (by decide +kernel)
theorem loop8 (c0_i32_196 : BitVec 32) :
    Carries (F := F) arg2 (Scf.Loop.for k0_t8_loop k0_t8_ok ⟨⟩ (k0_t8_body arg0 harg0 arg1 harg1 arg2 harg2 arg3 harg3 arg4 arg5 arg6 arg7 arg8 arg9 c0_i32_196)) (pairStage 2) :=
  carries_pairs _ _ 2 k0_off20 k0_off21 k0_off20_inb k0_off21_inb _ (by chain_rfl) (by decide) (by decide) (by decide) (by decide +kernel)
theorem loop9 (c0_i32_196 : BitVec 32) :
    Carries (F := F) arg2 (Scf.Loop.for k0_t9_loop k0_t9_ok ⟨⟩ (k0_t9_body arg0 harg0 arg1 harg1 arg2 harg2 arg3 harg3 arg4 arg5 arg6 arg7 arg8 arg9 c0_i32_196)) (pairStage 1) :=
  carries_pairs _ _ 1 k0_off22 k0_off23 k0_off22_inb k0_off23_inb _ (by chain_rfl) (by decide) (by decide) (by decide) (by decide +kernel)
theorem loop10 (c0_i32_196 : BitVec 32) :
    Carries (F := F) arg2 (Scf.Loop.for k0_t10_loop k0_t10_ok ⟨⟩ (k0_t10_body arg0 harg0 arg1 harg1 arg2 harg2 arg3 harg3 arg4 arg5 arg6 arg7 arg8 arg9 c0_i32_196)) (mergeStage 4096#32 8192#32) :=
  carries_blocks _ _ (intraF 4096#32 8192#32) k0_off24 k0_off24_inb _ (by chain_rfl) (by decide) (by decide +kernel)
theorem loop11 (c0_i32_196 : BitVec 32) :
    Carries (F := F) arg2 (Scf.Loop.for k0_t11_loop k0_t11_ok ⟨⟩ (k0_t11_body arg0 harg0 arg1 harg1 arg2 harg2 arg3 harg3 arg4 arg5 arg6 arg7 arg8 arg9 c0_i32_196)) (pairStage 8) :=
  carries_pairs _ _ 8 k0_off25 k0_off26 k0_off25_inb k0_off26_inb _ (by chain_rfl) (by decide) (by decide) (by decide) (by decide +kernel)
theorem loop12 (c0_i32_235 : BitVec 32) :
    Carries (F := F) arg2 (Scf.Loop.for k0_t12_loop k0_t12_ok ⟨⟩ (k0_t12_body arg0 harg0 arg1 harg1 arg2 harg2 arg3 harg3 arg4 arg5 arg6 arg7 arg8 arg9 c0_i32_235)) (pairStage 4) :=
  carries_pairs _ _ 4 k0_off27 k0_off28 k0_off27_inb k0_off28_inb _ (by chain_rfl) (by decide) (by decide) (by decide) (by decide +kernel)
theorem loop13 (c0_i32_235 : BitVec 32) :
    Carries (F := F) arg2 (Scf.Loop.for k0_t13_loop k0_t13_ok ⟨⟩ (k0_t13_body arg0 harg0 arg1 harg1 arg2 harg2 arg3 harg3 arg4 arg5 arg6 arg7 arg8 arg9 c0_i32_235)) (pairStage 2) :=
  carries_pairs _ _ 2 k0_off29 k0_off30 k0_off29_inb k0_off30_inb _ (by chain_rfl) (by decide) (by decide) (by decide) (by decide +kernel)
theorem loop14 (c0_i32_235 : BitVec 32) :
    Carries (F := F) arg2 (Scf.Loop.for k0_t14_loop k0_t14_ok ⟨⟩ (k0_t14_body arg0 harg0 arg1 harg1 arg2 harg2 arg3 harg3 arg4 arg5 arg6 arg7 arg8 arg9 c0_i32_235)) (pairStage 1) :=
  carries_pairs _ _ 1 k0_off31 k0_off32 k0_off31_inb k0_off32_inb _ (by chain_rfl) (by decide) (by decide) (by decide) (by decide +kernel)
theorem loop15 (c0_i32_235 : BitVec 32) :
    Carries (F := F) arg2 (Scf.Loop.for k0_t15_loop k0_t15_ok ⟨⟩ (k0_t15_body arg0 harg0 arg1 harg1 arg2 harg2 arg3 harg3 arg4 arg5 arg6 arg7 arg8 arg9 c0_i32_235)) (mergeStage 8192#32 16384#32) :=
  carries_blocks _ _ (intraF 8192#32 16384#32) k0_off33 k0_off33_inb _ (by chain_rfl) (by decide) (by decide +kernel)
theorem loop16 (c0_i32_235 : BitVec 32) :
    Carries (F := F) arg2 (Scf.Loop.for k0_t16_loop k0_t16_ok ⟨⟩ (k0_t16_body arg0 harg0 arg1 harg1 arg2 harg2 arg3 harg3 arg4 arg5 arg6 arg7 arg8 arg9 c0_i32_235)) (pairStage 16) :=
  carries_pairs _ _ 16 k0_off34 k0_off35 k0_off34_inb k0_off35_inb _ (by chain_rfl) (by decide) (by decide) (by decide) (by decide +kernel)
theorem loop17 (c0_i32_235 : BitVec 32) :
    Carries (F := F) arg2 (Scf.Loop.for k0_t17_loop k0_t17_ok ⟨⟩ (k0_t17_body arg0 harg0 arg1 harg1 arg2 harg2 arg3 harg3 arg4 arg5 arg6 arg7 arg8 arg9 c0_i32_235)) (pairStage 8) :=
  carries_pairs _ _ 8 k0_off36 k0_off37 k0_off36_inb k0_off37_inb _ (by chain_rfl) (by decide) (by decide) (by decide) (by decide +kernel)
theorem loop18 (c0_i32_235 : BitVec 32) :
    Carries (F := F) arg2 (Scf.Loop.for k0_t18_loop k0_t18_ok ⟨⟩ (k0_t18_body arg0 harg0 arg1 harg1 arg2 harg2 arg3 harg3 arg4 arg5 arg6 arg7 arg8 arg9 c0_i32_235)) (pairStage 4) :=
  carries_pairs _ _ 4 k0_off38 k0_off39 k0_off38_inb k0_off39_inb _ (by chain_rfl) (by decide) (by decide) (by decide) (by decide +kernel)
theorem loop19 (c0_i32_235 : BitVec 32) :
    Carries (F := F) arg2 (Scf.Loop.for k0_t19_loop k0_t19_ok ⟨⟩ (k0_t19_body arg0 harg0 arg1 harg1 arg2 harg2 arg3 harg3 arg4 arg5 arg6 arg7 arg8 arg9 c0_i32_235)) (pairStage 2) :=
  carries_pairs _ _ 2 k0_off40 k0_off41 k0_off40_inb k0_off41_inb _ (by chain_rfl) (by decide) (by decide) (by decide) (by decide +kernel)
theorem loop20 (c0_i32_235 : BitVec 32) :
    Carries (F := F) arg2 (Scf.Loop.for k0_t20_loop k0_t20_ok ⟨⟩ (k0_t20_body arg0 harg0 arg1 harg1 arg2 harg2 arg3 harg3 arg4 arg5 arg6 arg7 arg8 arg9 c0_i32_235)) (pairStage 1) :=
  carries_pairs _ _ 1 k0_off42 k0_off43 k0_off42_inb k0_off43_inb _ (by chain_rfl) (by decide) (by decide) (by decide) (by decide +kernel)
theorem loop21 (c0_i32_235 : BitVec 32) :
    Carries (F := F) arg2 (Scf.Loop.for k0_t21_loop k0_t21_ok ⟨⟩ (k0_t21_body arg0 harg0 arg1 harg1 arg2 harg2 arg3 harg3 arg4 arg5 arg6 arg7 arg8 arg9 c0_i32_235)) (mergeStage 16384#32 32768#32) :=
  carries_blocks _ _ (intraF 16384#32 32768#32) k0_off44 k0_off44_inb _ (by chain_rfl) (by decide) (by decide +kernel)
theorem loop22 (v2 : BitVec 32) (c0_i32_275 : BitVec 32) :
    Carries (F := F) arg2 (Scf.Loop.for k0_t22_loop k0_t22_ok ⟨⟩ (k0_t22_body arg0 harg0 arg1 harg1 arg2 harg2 arg3 harg3 arg4 arg5 arg6 arg7 arg8 arg9 v2 c0_i32_275)) (pairStage 32) :=
  carries_pairs _ _ 32 k0_off45 k0_off46 k0_off45_inb k0_off46_inb _ (by chain_rfl) (by decide) (by decide) (by decide) (by decide +kernel)
theorem loop23 (v2 : BitVec 32) (c0_i32_275 : BitVec 32) :
    Carries (F := F) arg2 (Scf.Loop.for k0_t23_loop k0_t23_ok ⟨⟩ (k0_t23_body arg0 harg0 arg1 harg1 arg2 harg2 arg3 harg3 arg4 arg5 arg6 arg7 arg8 arg9 v2 c0_i32_275)) (pairStage 16) :=
  carries_pairs _ _ 16 k0_off47 k0_off48 k0_off47_inb k0_off48_inb _ (by chain_rfl) (by decide) (by decide) (by decide) (by decide +kernel)
theorem loop24 (v2 : BitVec 32) (c0_i32_275 : BitVec 32) :
    Carries (F := F) arg2 (Scf.Loop.for k0_t24_loop k0_t24_ok ⟨⟩ (k0_t24_body arg0 harg0 arg1 harg1 arg2 harg2 arg3 harg3 arg4 arg5 arg6 arg7 arg8 arg9 v2 c0_i32_275)) (pairStage 8) :=
  carries_pairs _ _ 8 k0_off49 k0_off50 k0_off49_inb k0_off50_inb _ (by chain_rfl) (by decide) (by decide) (by decide) (by decide +kernel)
theorem loop25 (v2 : BitVec 32) (c0_i32_275 : BitVec 32) :
    Carries (F := F) arg2 (Scf.Loop.for k0_t25_loop k0_t25_ok ⟨⟩ (k0_t25_body arg0 harg0 arg1 harg1 arg2 harg2 arg3 harg3 arg4 arg5 arg6 arg7 arg8 arg9 v2 c0_i32_275)) (pairStage 4) :=
  carries_pairs _ _ 4 k0_off51 k0_off52 k0_off51_inb k0_off52_inb _ (by chain_rfl) (by decide) (by decide) (by decide) (by decide +kernel)
theorem loop26 (v2 : BitVec 32) (c0_i32_275 : BitVec 32) :
    Carries (F := F) arg2 (Scf.Loop.for k0_t26_loop k0_t26_ok ⟨⟩ (k0_t26_body arg0 harg0 arg1 harg1 arg2 harg2 arg3 harg3 arg4 arg5 arg6 arg7 arg8 arg9 v2 c0_i32_275)) (pairStage 2) :=
  carries_pairs _ _ 2 k0_off53 k0_off54 k0_off53_inb k0_off54_inb _ (by chain_rfl) (by decide) (by decide) (by decide) (by decide +kernel)
theorem loop27 (v2 : BitVec 32) (c0_i32_275 : BitVec 32) :
    Carries (F := F) arg2 (Scf.Loop.for k0_t27_loop k0_t27_ok ⟨⟩ (k0_t27_body arg0 harg0 arg1 harg1 arg2 harg2 arg3 harg3 arg4 arg5 arg6 arg7 arg8 arg9 v2 c0_i32_275)) (pairStage 1) :=
  carries_pairs _ _ 1 k0_off55 k0_off56 k0_off55_inb k0_off56_inb _ (by chain_rfl) (by decide) (by decide) (by decide) (by decide +kernel)
theorem loop28 (v2 : BitVec 32) (c0_i32_275 : BitVec 32) :
    Carries (F := F) arg2 (Scf.Loop.for k0_t28_loop k0_t28_ok ⟨⟩ (k0_t28_body arg0 harg0 arg1 harg1 arg2 harg2 arg3 harg3 arg4 arg5 arg6 arg7 arg8 arg9 v2 c0_i32_275)) lastStage :=
  carries_blocks _ _ (fun _ => lastF) k0_off57 k0_off57_inb _ (by chain_rfl) (by decide) (by decide +kernel)
theorem loop29 (d0 : Dev nD) (v2 : BitVec 32) :
    Carries (F := F) arg3 (Scf.Loop.for k0_t29_loop k0_t29_ok ⟨⟩ (k0_t29_body arg0 harg0 arg1 harg1 arg2 harg2 arg3 harg3 arg4 arg5 arg6 arg7 arg8 arg9 d0 v2 rowsV)) chunkStage :=
  carries_blocks _ _ chunkF k0_off60 k0_off60_inb _ (by chain_rfl) (by decide) (by decide +kernel)
theorem loop30 (d0 : Dev nD) (v2 : BitVec 32) :
    Carries (F := F) arg3 (Scf.Loop.for k0_t30_loop k0_t30_ok ⟨⟩ (k0_t30_body arg0 harg0 arg1 harg1 arg2 harg2 arg3 harg3 arg4 arg5 arg6 arg7 arg8 arg9 d0 v2)) (pairStage 1) :=
  carries_pairs _ _ 1 k0_off61 k0_off62 k0_off61_inb k0_off62_inb _ (by chain_rfl) (by decide) (by decide) (by decide) (by decide +kernel)
theorem loop31 :
    Carries (F := F) arg3 (Scf.Loop.for k0_t31_loop k0_t31_ok ⟨⟩ (k0_t31_body arg0 harg0 arg1 harg1 arg2 harg2 arg3 harg3 arg4 arg5 arg6 arg7 arg8 arg9 0#32 64#32)) (mergeStage 1024#32 2048#32) :=
  carries_blocks _ _ (intraF 1024#32 2048#32) k0_off63 k0_off63_inb _ (by chain_rfl) (by decide) (by decide +kernel)
theorem loop32 (c0_i32_416 : BitVec 32) (c64_i32_417 : BitVec 32) :
    Carries (F := F) arg3 (Scf.Loop.for k0_t32_loop k0_t32_ok ⟨⟩ (k0_t32_body arg0 harg0 arg1 harg1 arg2 harg2 arg3 harg3 arg4 arg5 arg6 arg7 arg8 arg9 c0_i32_416 c64_i32_417)) (pairStage 2) :=
  carries_pairs _ _ 2 k0_off64 k0_off65 k0_off64_inb k0_off65_inb _ (by chain_rfl) (by decide) (by decide) (by decide) (by decide +kernel)
theorem loop33 (c0_i32_416 : BitVec 32) (c64_i32_417 : BitVec 32) :
    Carries (F := F) arg3 (Scf.Loop.for k0_t33_loop k0_t33_ok ⟨⟩ (k0_t33_body arg0 harg0 arg1 harg1 arg2 harg2 arg3 harg3 arg4 arg5 arg6 arg7 arg8 arg9 c0_i32_416 c64_i32_417)) (pairStage 1) :=
  carries_pairs _ _ 1 k0_off66 k0_off67 k0_off66_inb k0_off67_inb _ (by chain_rfl) (by decide) (by decide) (by decide) (by decide +kernel)
theorem loop34 (c0_i32_416 : BitVec 32) (c64_i32_417 : BitVec 32) :
    Carries (F := F) arg3 (Scf.Loop.for k0_t34_loop k0_t34_ok ⟨⟩ (k0_t34_body arg0 harg0 arg1 harg1 arg2 harg2 arg3 harg3 arg4 arg5 arg6 arg7 arg8 arg9 c0_i32_416 c64_i32_417)) (mergeStage 2048#32 4096#32) :=
  carries_blocks _ _ (intraF 2048#32 4096#32) k0_off68 k0_off68_inb _ (by chain_rfl) (by decide) (by decide +kernel)
theorem loop35 (c0_i32_416 : BitVec 32) (c64_i32_417 : BitVec 32) :
    Carries (F := F) arg3 (Scf.Loop.for k0_t35_loop k0_t35_ok ⟨⟩ (k0_t35_body arg0 harg0 arg1 harg1 arg2 harg2 arg3 harg3 arg4 arg5 arg6 arg7 arg8 arg9 c0_i32_416 c64_i32_417)) (pairStage 4) :=
  carries_pairs _ _ 4 k0_off69 k0_off70 k0_off69_inb k0_off70_inb _ (by chain_rfl) (by decide) (by decide) (by decide) (by decide +kernel)
theorem loop36 (c0_i32_416 : BitVec 32) (c64_i32_417 : BitVec 32) :
    Carries (F := F) arg3 (Scf.Loop.for k0_t36_loop k0_t36_ok ⟨⟩ (k0_t36_body arg0 harg0 arg1 harg1 arg2 harg2 arg3 harg3 arg4 arg5 arg6 arg7 arg8 arg9 c0_i32_416 c64_i32_417)) (pairStage 2) :=
  carries_pairs _ _ 2 k0_off71 k0_off72 k0_off71_inb k0_off72_inb _ (by chain_rfl) (by decide) (by decide) (by decide) (by decide +kernel)
theorem loop37 (c0_i32_416 : BitVec 32) (c64_i32_417 : BitVec 32) :
    Carries (F := F) arg3 (Scf.Loop.for k0_t37_loop k0_t37_ok ⟨⟩ (k0_t37_body arg0 harg0 arg1 harg1 arg2 harg2 arg3 harg3 arg4 arg5 arg6 arg7 arg8 arg9 c0_i32_416 c64_i32_417)) (pairStage 1) :=
  carries_pairs _ _ 1 k0_off73 k0_off74 k0_off73_inb k0_off74_inb _ (by chain_rfl) (by decide) (by decide) (by decide) (by decide +kernel)
theorem loop38 (c0_i32_416 : BitVec 32) (c64_i32_417 : BitVec 32) :
    Carries (F := F) arg3 (Scf.Loop.for k0_t38_loop k0_t38_ok ⟨⟩ (k0_t38_body arg0 harg0 arg1 harg1 arg2 harg2 arg3 harg3 arg4 arg5 arg6 arg7 arg8 arg9 c0_i32_416 c64_i32_417)) (mergeStage 4096#32 8192#32) :=
  carries_blocks _ _ (intraF 4096#32 8192#32) k0_off75 k0_off75_inb _ (by chain_rfl) (by decide) (by decide +kernel)
theorem loop39 (c0_i32_416 : BitVec 32) (c64_i32_417 : BitVec 32) :
    Carries (F := F) arg3 (Scf.Loop.for k0_t39_loop k0_t39_ok ⟨⟩ (k0_t39_body arg0 harg0 arg1 harg1 arg2 harg2 arg3 harg3 arg4 arg5 arg6 arg7 arg8 arg9 c0_i32_416 c64_i32_417)) (pairStage 8) :=
  carries_pairs _ _ 8 k0_off76 k0_off77 k0_off76_inb k0_off77_inb _ (by chain_rfl) (by decide) (by decide) (by decide) (by decide +kernel)
theorem loop40 (c0_i32_416 : BitVec 32) (c64_i32_417 : BitVec 32) :
    Carries (F := F) arg3 (Scf.Loop.for k0_t40_loop k0_t40_ok ⟨⟩ (k0_t40_body arg0 harg0 arg1 harg1 arg2 harg2 arg3 harg3 arg4 arg5 arg6 arg7 arg8 arg9 c0_i32_416 c64_i32_417)) (pairStage 4) :=
  carries_pairs _ _ 4 k0_off78 k0_off79 k0_off78_inb k0_off79_inb _ (by chain_rfl) (by decide) (by decide) (by decide) (by decide +kernel)
theorem loop41 (c0_i32_456 : BitVec 32) (c32_i32_457 : BitVec 32) :
    Carries (F := F) arg3 (Scf.Loop.for k0_t41_loop k0_t41_ok ⟨⟩ (k0_t41_body arg0 harg0 arg1 harg1 arg2 harg2 arg3 harg3 arg4 arg5 arg6 arg7 arg8 arg9 c0_i32_456 c32_i32_457)) (pairStage 2) :=
  carries_pairs _ _ 2 k0_off80 k0_off81 k0_off80_inb k0_off81_inb _ (by chain_rfl) (by decide) (by decide) (by decide) (by decide +kernel)
theorem loop42 (c0_i32_456 : BitVec 32) (c32_i32_457 : BitVec 32) :
    Carries (F := F) arg3 (Scf.Loop.for k0_t42_loop k0_t42_ok ⟨⟩ (k0_t42_body arg0 harg0 arg1 harg1 arg2 harg2 arg3 harg3 arg4 arg5 arg6 arg7 arg8 arg9 c0_i32_456 c32_i32_457)) (pairStage 1) :=
  carries_pairs _ _ 1 k0_off82 k0_off83 k0_off82_inb k0_off83_inb _ (by chain_rfl) (by decide) (by decide) (by decide) (by decide +kernel)
theorem loop43 (c0_i32_456 : BitVec 32) (c32_i32_457 : BitVec 32) :
    Carries (F := F) arg3 (Scf.Loop.for k0_t43_loop k0_t43_ok ⟨⟩ (k0_t43_body arg0 harg0 arg1 harg1 arg2 harg2 arg3 harg3 arg4 arg5 arg6 arg7 arg8 arg9 c0_i32_456 c32_i32_457)) (mergeStage 8192#32 16384#32) :=
  carries_blocks _ _ (intraF 8192#32 16384#32) k0_off84 k0_off84_inb _ (by chain_rfl) (by decide) (by decide +kernel)
theorem loop44 (c0_i32_456 : BitVec 32) (c32_i32_457 : BitVec 32) :
    Carries (F := F) arg3 (Scf.Loop.for k0_t44_loop k0_t44_ok ⟨⟩ (k0_t44_body arg0 harg0 arg1 harg1 arg2 harg2 arg3 harg3 arg4 arg5 arg6 arg7 arg8 arg9 c0_i32_456 c32_i32_457)) (pairStage 16) :=
  carries_pairs _ _ 16 k0_off85 k0_off86 k0_off85_inb k0_off86_inb _ (by chain_rfl) (by decide) (by decide) (by decide) (by decide +kernel)
theorem loop45 (c0_i32_456 : BitVec 32) (c32_i32_457 : BitVec 32) :
    Carries (F := F) arg3 (Scf.Loop.for k0_t45_loop k0_t45_ok ⟨⟩ (k0_t45_body arg0 harg0 arg1 harg1 arg2 harg2 arg3 harg3 arg4 arg5 arg6 arg7 arg8 arg9 c0_i32_456 c32_i32_457)) (pairStage 8) :=
  carries_pairs _ _ 8 k0_off87 k0_off88 k0_off87_inb k0_off88_inb _ (by chain_rfl) (by decide) (by decide) (by decide) (by decide +kernel)
theorem loop46 (c0_i32_456 : BitVec 32) (c32_i32_457 : BitVec 32) :
    Carries (F := F) arg3 (Scf.Loop.for k0_t46_loop k0_t46_ok ⟨⟩ (k0_t46_body arg0 harg0 arg1 harg1 arg2 harg2 arg3 harg3 arg4 arg5 arg6 arg7 arg8 arg9 c0_i32_456 c32_i32_457)) (pairStage 4) :=
  carries_pairs _ _ 4 k0_off89 k0_off90 k0_off89_inb k0_off90_inb _ (by chain_rfl) (by decide) (by decide) (by decide) (by decide +kernel)
theorem loop47 (c0_i32_456 : BitVec 32) (c32_i32_457 : BitVec 32) :
    Carries (F := F) arg3 (Scf.Loop.for k0_t47_loop k0_t47_ok ⟨⟩ (k0_t47_body arg0 harg0 arg1 harg1 arg2 harg2 arg3 harg3 arg4 arg5 arg6 arg7 arg8 arg9 c0_i32_456 c32_i32_457)) (pairStage 2) :=
  carries_pairs _ _ 2 k0_off91 k0_off92 k0_off91_inb k0_off92_inb _ (by chain_rfl) (by decide) (by decide) (by decide) (by decide +kernel)
theorem loop48 (c0_i32_456 : BitVec 32) (c32_i32_457 : BitVec 32) :
    Carries (F := F) arg3 (Scf.Loop.for k0_t48_loop k0_t48_ok ⟨⟩ (k0_t48_body arg0 harg0 arg1 harg1 arg2 harg2 arg3 harg3 arg4 arg5 arg6 arg7 arg8 arg9 c0_i32_456 c32_i32_457)) (pairStage 1) :=
  carries_pairs _ _ 1 k0_off93 k0_off94 k0_off93_inb k0_off94_inb _ (by chain_rfl) (by decide) (by decide) (by decide) (by decide +kernel)
theorem loop49 (c0_i32_456 : BitVec 32) (c32_i32_457 : BitVec 32) :
    Carries (F := F) arg3 (Scf.Loop.for k0_t49_loop k0_t49_ok ⟨⟩ (k0_t49_body arg0 harg0 arg1 harg1 arg2 harg2 arg3 harg3 arg4 arg5 arg6 arg7 arg8 arg9 c0_i32_456 c32_i32_457)) (mergeStage 16384#32 32768#32) :=
  carries_blocks _ _ (intraF 16384#32 32768#32) k0_off95 k0_off95_inb _ (by chain_rfl) (by decide) (by decide +kernel)
theorem loop50 (c0_i32_456 : BitVec 32) (c32_i32_457 : BitVec 32) :
    Carries (F := F) arg3 (Scf.Loop.for k0_t50_loop k0_t50_ok ⟨⟩ (k0_t50_body arg0 harg0 arg1 harg1 arg2 harg2 arg3 harg3 arg4 arg5 arg6 arg7 arg8 arg9 c0_i32_456 c32_i32_457)) (pairStage 32) :=
  carries_pairs _ _ 32 k0_off96 k0_off97 k0_off96_inb k0_off97_inb _ (by chain_rfl) (by decide) (by decide) (by decide) (by decide +kernel)
theorem loop51 (v2 : BitVec 32) (c0_i32_496 : BitVec 32) (c32_i32_497 : BitVec 32) :
    Carries (F := F) arg3 (Scf.Loop.for k0_t51_loop k0_t51_ok ⟨⟩ (k0_t51_body arg0 harg0 arg1 harg1 arg2 harg2 arg3 harg3 arg4 arg5 arg6 arg7 arg8 arg9 v2 c0_i32_496 c32_i32_497)) (pairStage 16) :=
  carries_pairs _ _ 16 k0_off98 k0_off99 k0_off98_inb k0_off99_inb _ (by chain_rfl) (by decide) (by decide) (by decide) (by decide +kernel)
theorem loop52 (v2 : BitVec 32) (c0_i32_496 : BitVec 32) (c32_i32_497 : BitVec 32) :
    Carries (F := F) arg3 (Scf.Loop.for k0_t52_loop k0_t52_ok ⟨⟩ (k0_t52_body arg0 harg0 arg1 harg1 arg2 harg2 arg3 harg3 arg4 arg5 arg6 arg7 arg8 arg9 v2 c0_i32_496 c32_i32_497)) (pairStage 8) :=
  carries_pairs _ _ 8 k0_off100 k0_off101 k0_off100_inb k0_off101_inb _ (by chain_rfl) (by decide) (by decide) (by decide) (by decide +kernel)
theorem loop53 (v2 : BitVec 32) (c0_i32_496 : BitVec 32) (c32_i32_497 : BitVec 32) :
    Carries (F := F) arg3 (Scf.Loop.for k0_t53_loop k0_t53_ok ⟨⟩ (k0_t53_body arg0 harg0 arg1 harg1 arg2 harg2 arg3 harg3 arg4 arg5 arg6 arg7 arg8 arg9 v2 c0_i32_496 c32_i32_497)) (pairStage 4) :=
  carries_pairs _ _ 4 k0_off102 k0_off103 k0_off102_inb k0_off103_inb _ (by chain_rfl) (by decide) (by decide) (by decide) (by decide +kernel)
theorem loop54 (v2 : BitVec 32) (c0_i32_496 : BitVec 32) (c32_i32_497 : BitVec 32) :
    Carries (F := F) arg3 (Scf.Loop.for k0_t54_loop k0_t54_ok ⟨⟩ (k0_t54_body arg0 harg0 arg1 harg1 arg2 harg2 arg3 harg3 arg4 arg5 arg6 arg7 arg8 arg9 v2 c0_i32_496 c32_i32_497)) (pairStage 2) :=
  carries_pairs _ _ 2 k0_off104 k0_off105 k0_off104_inb k0_off105_inb _ (by chain_rfl) (by decide) (by decide) (by decide) (by decide +kernel)
theorem loop55 (v2 : BitVec 32) (c0_i32_496 : BitVec 32) (c32_i32_497 : BitVec 32) :
    Carries (F := F) arg3 (Scf.Loop.for k0_t55_loop k0_t55_ok ⟨⟩ (k0_t55_body arg0 harg0 arg1 harg1 arg2 harg2 arg3 harg3 arg4 arg5 arg6 arg7 arg8 arg9 v2 c0_i32_496 c32_i32_497)) (pairStage 1) :=
  carries_pairs _ _ 1 k0_off106 k0_off107 k0_off106_inb k0_off107_inb _ (by chain_rfl) (by decide) (by decide) (by decide) (by decide +kernel)
theorem loop56 (v2 : BitVec 32) (c0_i32_496 : BitVec 32) (c32_i32_497 : BitVec 32) :
    Carries (F := F) arg3 (Scf.Loop.for k0_t56_loop k0_t56_ok ⟨⟩ (k0_t56_body arg0 harg0 arg1 harg1 arg2 harg2 arg3 harg3 arg4 arg5 arg6 arg7 arg8 arg9 v2 c0_i32_496 c32_i32_497)) lastStage :=
  carries_blocks _ _ (fun _ => lastF) k0_off108 k0_off108_inb _ (by chain_rfl) (by decide) (by decide +kernel)

end

end Cert.Proof

end
-- ==== Proof.Acts.lean ====
/-
  The exchange's operations by chunk and distance, and the kernel's body as the list of them.
-/
module

public import proofs.«01_k».proof.Proof.Loops

@[expose] public section

set_option maxRecDepth 16384
set_option synthInstance.maxSize 4096

noncomputable section

namespace Cert.Proof

open Idealize.ShloMosaic Idealize.SL.Sem
open Idealize.ShloMosaic.Pipeline
open Cert.KernelIdeal Cert.KernelIdeal.Gen

variable {F : FTy → Type} [FloatOps F]

/-- The kernel's programs. -/
abbrev Pr (F : FTy → Type) : Type → Type _ := Prog (TpuEff nD τ sig (Elt F) Λ₀ .tc)

/-! ## Programs as lists -/

/-- The programs of a list in turn, then `k`. -/
def run {α : Type} : List (Pr F PUnit) → Pr F α → Pr F α
  | [], k => k
  | a :: l, k => a >>= fun _ => run l k

omit [FloatOps F] in
theorem run_bind {α β : Type} (l : List (Pr F PUnit)) (r : α) (k : α → Pr F β) :
    (run l (pure r) >>= k) = run l (k r) := by
  induction l with
  | nil => exact pure_bind r k
  | cons a l ih =>
    show ((a >>= fun _ => run l (pure r)) >>= k) = a >>= fun _ => run l (k r)
    rw [bind_assoc]; exact congrArg (a >>= ·) (funext fun _ => ih)

omit [FloatOps F] in
theorem run_append {α : Type} (l l' : List (Pr F PUnit)) (k : Pr F α) : run (l ++ l') k = run l (run l' k) := by
  induction l with
  | nil => rfl
  | cons a l ih => exact congrArg (a >>= ·) (funext fun _ => ih)

/-! ## The buffers and the slices the copies move -/

/-- The device's rows of the input, and of the result. -/
abbrev xM : Memref sig .tc .hbm S8192x1024 .f32 := Memref.whole main_arg0
abbrev oM : Memref sig .tc .hbm S8192x1024 .f32 := Memref.whole main_v1
/-- The column buffer of chunk `b`. -/
def vM : Fin 2 → Memref sig .tc .vmem S32768x128 .f32
  | 0 => Memref.whole cc0_scratch0
  | 1 => Memref.whole cc0_scratch1

/-- The 128 columns from `off` of a device's rows. -/
abbrev colsAt (M : Memref sig .tc .hbm S8192x1024 .f32) (off : Fin 2 → ℕ) (h : ∀ a, off a + S8192x128.size a ≤ S8192x1024.size a) :
    Memref sig .tc .hbm S8192x128 .f32 :=
  M.slice (Rect.unit (s := S8192x1024) off S8192x128.size h) (fun _ => rfl)
/-- The 8192 rows from `off` of a column buffer. -/
abbrev rowsAt (M : Memref sig .tc .vmem S32768x128 .f32) (off : Fin 2 → ℕ) (h : ∀ a, off a + S8192x128.size a ≤ S32768x128.size a) :
    Memref sig .tc .vmem S8192x128 .f32 :=
  M.slice (Rect.unit (s := S32768x128) off S8192x128.size h) (fun _ => rfl)

/-- One cell of an array of semaphores. -/
abbrev semAt {n : ℕ} (A : DmaSems sig ⟨2, ![n, 2]⟩) (off : Fin 2 → ℕ) (h : ∀ a, off a + S1x1.size a ≤ (⟨2, ![n, 2]⟩ : Shape).size a) : DmaSem sig :=
  ((A.slice (Rect.unit (s := ⟨2, ![n, 2]⟩) off S1x1.size h)).squeeze S_ squeezes_S1x1_S_).sem
abbrev semAt1 (A : DmaSems sig S2) (off : Fin 1 → ℕ) (h : ∀ a, off a + S1.size a ≤ S2.size a) : DmaSem sig :=
  ((A.slice (Rect.unit (s := S2) off S1.size h)).squeeze S_ squeezes_S1_S_).sem

theorem inb3 (o : Fin 3) (b : Fin 2) : ∀ a, (![o.val, b.val] : Fin 2 → ℕ) a + S1x1.size a ≤ S3x2.size a := by revert o b; decide
theorem inb4 (s : Dev nD) (b : Fin 2) : ∀ a, (![s.val, b.val] : Fin 2 → ℕ) a + S1x1.size a ≤ S4x2.size a := by revert s b; decide
theorem inb2 (b : Fin 2) : ∀ a, (![b.val] : Fin 1 → ℕ) a + S1.size a ≤ S2.size a := by revert b; decide
theorem inbCol (d : Dev nD) (b : Fin 2) : ∀ a, (![0, 256 * d.val + 128 * b.val] : Fin 2 → ℕ) a + S8192x128.size a ≤ S8192x1024.size a := by
  revert d b; decide
theorem inbRow (s : Dev nD) : ∀ a, (![8192 * s.val, 0] : Fin 2 → ℕ) a + S8192x128.size a ≤ S32768x128.size a := by revert s; decide

/-- The cells: a transfer of chunk `b` over distance `o` leaves on `semA`/`semC`, one from device `s` arrives on `semRA`/`semRC`. -/
abbrev semA (o : Fin 3) (b : Fin 2) : DmaSem sig := semAt cc0_scratch2 ![o.val, b.val] (inb3 o b)
abbrev semRA (s : Dev nD) (b : Fin 2) : DmaSem sig := semAt cc0_scratch3 ![s.val, b.val] (inb4 s b)
abbrev semC (o : Fin 3) (b : Fin 2) : DmaSem sig := semAt cc0_scratch4 ![o.val, b.val] (inb3 o b)
abbrev semRC (s : Dev nD) (b : Fin 2) : DmaSem sig := semAt cc0_scratch5 ![s.val, b.val] (inb4 s b)
abbrev semIn (b : Fin 2) : DmaSem sig := semAt1 cc0_scratch6 ![b.val] (inb2 b)
abbrev semOut (b : Fin 2) : DmaSem sig := semAt1 cc0_scratch7 ![b.val] (inb2 b)
/-- The barrier's cell. -/
abbrev semBar : Sem sig := (SemArray.scalar (sig.barrier 0 rfl) : Sems sig S_).sem

/-- Chunk `b` of the columns device `d` sorts. -/
abbrev xCol (d : Dev nD) (b : Fin 2) : Memref sig .tc .hbm S8192x128 .f32 := colsAt xM ![0, 256 * d.val + 128 * b.val] (inbCol d b)
abbrev oCol (d : Dev nD) (b : Fin 2) : Memref sig .tc .hbm S8192x128 .f32 := colsAt oM ![0, 256 * d.val + 128 * b.val] (inbCol d b)
/-- Device `s`'s rows in the column buffer of chunk `b`. -/
abbrev vRow (b : Fin 2) (s : Dev nD) : Memref sig .tc .vmem S8192x128 .f32 := rowsAt (vM b) ![8192 * s.val, 0] (inbRow s)

/-! ## The operations -/

theorem hscV (b : Fin 2) (off : Fin 2 → ℕ) (h) : (rowsAt (vM b) off h).view.ref.isScScratch = false := by
  match b with
  | 0 => rfl
  | 1 => rfl

variable {sp sp' : Space}

/-- A copy to device `d`. -/
def sendTo (src : Memref sig .tc sp S8192x128 .f32) (d : Dev nD) (dst : Memref sig .tc sp' S8192x128 .f32) (sS sR : DmaSem sig)
    (hsc : dst.view.ref.isScScratch = false)
    (hsem : DmaTarget.Typed (nD := nD) (τ := τ) sp (.dma sR : SemLoc sig) (.remote (Dev.tc d) dst (.dma sS) hsc : DmaTarget nD τ sig .tc sp' S8192x128 .f32)) : Pr F PUnit :=
  Prog.lift (.enqueueDma src (.remote (Dev.tc d) dst (.dma sS) hsc) (.dma sR) (View.wordExact_bits rfl) (View.wordExact_bits rfl) hsem)
/-- A copy on the device. -/
def copyHere (src : Memref sig .tc sp S8192x128 .f32) (dst : Memref sig .tc sp' S8192x128 .f32) (sR : DmaSem sig)
    (hsem : DmaTarget.Typed (nD := nD) (τ := τ) sp (.dma sR : SemLoc sig) (.here dst : DmaTarget nD τ sig .tc sp' S8192x128 .f32)) : Pr F PUnit :=
  Prog.lift (.enqueueDma src (.here dst) (.dma sR) (View.wordExact_bits rfl) (View.wordExact_bits rfl) hsem)
/-- A wait for one copy. -/
def waitFor (sem : DmaSem sig) (src : Memref sig .tc sp S8192x128 .f32) (dst : Memref sig .tc sp' S8192x128 .f32) : Pr F PUnit :=
  Prog.lift (.waitDma2 sem src dst (View.wordExact_bits rfl) (View.wordExact_bits rfl))

omit [FloatOps F] in
theorem sendTo_congr {src src' : Memref sig .tc sp S8192x128 .f32} {d d' : Dev nD} {dst dst' : Memref sig .tc sp' S8192x128 .f32} {sS sS' sR sR' : DmaSem sig}
    {hsc hsem hsc' hsem'} (h₁ : src = src') (h₂ : d = d') (h₃ : dst = dst') (h₄ : sS = sS') (h₅ : sR = sR') :
    sendTo (F := F) src d dst sS sR hsc hsem = sendTo src' d' dst' sS' sR' hsc' hsem' := by
  subst h₁ h₂ h₃ h₄ h₅; rfl
omit [FloatOps F] in
theorem copyHere_congr {src src' : Memref sig .tc sp S8192x128 .f32} {dst dst' : Memref sig .tc sp' S8192x128 .f32} {sR sR' : DmaSem sig}
    {hsem hsem'} (h₁ : src = src') (h₃ : dst = dst') (h₅ : sR = sR') :
    copyHere (F := F) src dst sR hsem = copyHere src' dst' sR' hsem' := by
  subst h₁ h₃ h₅; rfl
theorem colsAt_congr {M : Memref sig .tc .hbm S8192x1024 .f32} {off off' : Fin 2 → ℕ} {h h'} (e : off = off') : colsAt M off h = colsAt M off' h' := by
  subst e; rfl
theorem rowsAt_congr {M : Memref sig .tc .vmem S32768x128 .f32} {off off' : Fin 2 → ℕ} {h h'} (e : off = off') : rowsAt M off h = rowsAt M off' h' := by
  subst e; rfl
theorem semAt_congr {n : ℕ} {A : DmaSems sig ⟨2, ![n, 2]⟩} {off off' : Fin 2 → ℕ} {h h'} (e : off = off') : semAt A off h = semAt A off' h' := by
  subst e; rfl

/-- The device `o + 1` places after `c`, and the one that many places before. -/
def tgt (c : Dev nD) (o : Fin 3) : Dev nD := ⟨(c.val + o.val + 1) % 4, Nat.mod_lt _ (by decide)⟩
def src (c : Dev nD) (o : Fin 3) : Dev nD := ⟨(c.val + 3 - o.val) % 4, Nat.mod_lt _ (by decide)⟩

/-- The distance and the chunk as the kernel's words. -/
abbrev ow (o : Fin 3) : BitVec 32 := BitVec.ofNat 32 (1 + o.val)
abbrev bw (b : Fin 2) : BitVec 32 := BitVec.ofNat 32 (128 * b.val)

/-- Where a copy from `c` arrives among the cells, and where one over distance `o` to `c` does. -/
def offTo (c : Dev nD) : Fin 2 → Fin 2 → ℕ
  | 0 => k0_off1 c
  | 1 => k0_off4 c
theorem offTo_inb (c : Dev nD) (b : Fin 2) : ∀ a, offTo c b a + S1x1.size a ≤ S4x2.size a :=
  match b with
  | 0 => k0_off1_inb c
  | 1 => k0_off4_inb c
def offFrom (c : Dev nD) (o : Fin 3) : Fin 2 → Fin 2 → ℕ
  | 0 => k0_off6 c (ow o)
  | 1 => k0_off59 c (ow o)
theorem offFrom_inb (c : Dev nD) (o : Fin 3) (b : Fin 2) : ∀ a, offFrom c o b a + S1x1.size a ≤ S4x2.size a :=
  match b with
  | 0 => k0_off6_inb c o
  | 1 => k0_off59_inb c o

theorem off2_eq (c : Dev nD) : k0_off2 c = ![8192 * c.val, 0] := by revert c; decide +kernel
theorem off3_eq (c : Dev nD) (o : Fin 3) (b : Fin 2) : k0_off3 c (ow o) (bw b) = ![0, 256 * (tgt c o).val + 128 * b.val] := by
  revert c o b; decide +kernel
theorem off5_eq (c : Dev nD) (b : Fin 2) : k0_off5 c (bw b) = ![0, 256 * c.val + 128 * b.val] := by revert c b; decide +kernel
theorem off58_eq (c : Dev nD) (o : Fin 3) : k0_off58 c (ow o) = ![8192 * (tgt c o).val, 0] := by revert c o; decide +kernel
theorem offTo_eq (c : Dev nD) (b : Fin 2) : offTo c b = ![c.val, b.val] := by revert c b; decide +kernel
theorem offFrom_eq (c : Dev nD) (o : Fin 3) (b : Fin 2) : offFrom c o b = ![(src c o).val, b.val] := by revert c o b; decide +kernel

/-- Device `c` sends chunk `b` of the columns sorted `o + 1` places on. -/
def sendA (c : Dev nD) (b : Fin 2) (o : Fin 3) : Pr F PUnit :=
  sendTo (xCol (tgt c o) b) (tgt c o) (vRow b c) (semA o b) (semRA c b) (hscV b _ _) ⟨⟨rfl, Or.inl rfl⟩, trivial⟩
/-- Device `c` sends the sorted rows of chunk `b` that belong `o + 1` places on. -/
def sendC (c : Dev nD) (b : Fin 2) (o : Fin 3) : Pr F PUnit :=
  sendTo (vRow b (tgt c o)) (tgt c o) (oCol c b) (semC o b) (semRC c b) rfl ⟨⟨rfl, Or.inl rfl⟩, trivial⟩
/-- Device `c`'s own part, in and out. -/
def copyIn (c : Dev nD) (b : Fin 2) : Pr F PUnit := copyHere (xCol c b) (vRow b c) (semIn b) ⟨Or.inl rfl, trivial⟩
def copyOut (c : Dev nD) (b : Fin 2) : Pr F PUnit := copyHere (vRow b c) (oCol c b) (semOut b) ⟨Or.inl rfl, trivial⟩

omit [FloatOps F] in
theorem sendA_eq (c : Dev nD) (b : Fin 2) (o : Fin 3) (dv : ℕ) (hdv : dv < nD) (h : dv = (tgt c o).val) :
    sendTo (F := F) (colsAt xM (k0_off3 c (ow o) (bw b)) (k0_off3_inb c o b)) ⟨dv, hdv⟩ (rowsAt (vM b) (k0_off2 c) (k0_off2_inb c)) (semA o b)
      (semAt cc0_scratch3 (offTo c b) (offTo_inb c b)) (hscV b _ _) ⟨⟨rfl, Or.inl rfl⟩, trivial⟩ = sendA c b o :=
  sendTo_congr (colsAt_congr (off3_eq c o b)) (Fin.ext h) (rowsAt_congr (off2_eq c)) rfl (semAt_congr (offTo_eq c b))
omit [FloatOps F] in
theorem sendC_eq (c : Dev nD) (b : Fin 2) (o : Fin 3) (dv : ℕ) (hdv : dv < nD) (h : dv = (tgt c o).val) :
    sendTo (F := F) (rowsAt (vM b) (k0_off58 c (ow o)) (k0_off58_inb c o)) ⟨dv, hdv⟩ (colsAt oM (k0_off5 c (bw b)) (k0_off5_inb c b)) (semC o b)
      (semAt cc0_scratch5 (offTo c b) (offTo_inb c b)) rfl ⟨⟨rfl, Or.inl rfl⟩, trivial⟩ = sendC c b o :=
  sendTo_congr (rowsAt_congr (off58_eq c o)) (Fin.ext h) (colsAt_congr (off5_eq c b)) rfl (semAt_congr (offTo_eq c b))
omit [FloatOps F] in
theorem copyIn_eq (c : Dev nD) (b : Fin 2) :
    copyHere (F := F) (colsAt xM (k0_off5 c (bw b)) (k0_off5_inb c b)) (rowsAt (vM b) (k0_off2 c) (k0_off2_inb c)) (semIn b) ⟨Or.inl rfl, trivial⟩ = copyIn c b :=
  copyHere_congr (colsAt_congr (off5_eq c b)) (rowsAt_congr (off2_eq c)) rfl
omit [FloatOps F] in
theorem copyOut_eq (c : Dev nD) (b : Fin 2) :
    copyHere (F := F) (rowsAt (vM b) (k0_off2 c) (k0_off2_inb c)) (colsAt oM (k0_off5 c (bw b)) (k0_off5_inb c b)) (semOut b) ⟨Or.inl rfl, trivial⟩ = copyOut c b :=
  copyHere_congr (rowsAt_congr (off2_eq c)) (colsAt_congr (off5_eq c b)) rfl

/-! The waits, each naming its cell and views of the size moved. -/

def waitIn (c : Dev nD) (b : Fin 2) : Pr F PUnit :=
  waitFor (semIn b) (colsAt xM (k0_off5 c (bw b)) (k0_off5_inb c b)) (rowsAt (vM b) (k0_off2 c) (k0_off2_inb c))
def waitOut (c : Dev nD) (b : Fin 2) : Pr F PUnit :=
  waitFor (semOut b) (rowsAt (vM b) (k0_off2 c) (k0_off2_inb c)) (colsAt oM (k0_off5 c (bw b)) (k0_off5_inb c b))
def waitRA (c : Dev nD) (b : Fin 2) (o : Fin 3) : Pr F PUnit :=
  waitFor (semAt cc0_scratch3 (offFrom c o b) (offFrom_inb c o b)) (colsAt xM (k0_off8 c (ow o) (bw b)) (k0_off8_inb c o b))
    (rowsAt (vM b) (k0_off7 c (ow o)) (k0_off7_inb c o))
def waitRC (c : Dev nD) (b : Fin 2) (o : Fin 3) : Pr F PUnit :=
  waitFor (semAt cc0_scratch5 (offFrom c o b) (offFrom_inb c o b)) (rowsAt (vM b) ![0, 0] inb_S32768x128_S8192x128_0_0)
    (colsAt oM (k0_off8 c (ow o) (bw b)) (k0_off8_inb c o b))
def waitA (c : Dev nD) (b : Fin 2) (o : Fin 3) : Pr F PUnit :=
  waitFor (semA o b) (rowsAt (vM b) (k0_off2 c) (k0_off2_inb c)) (colsAt xM (k0_off3 c (ow o) (bw b)) (k0_off3_inb c o b))
def waitC (c : Dev nD) (b : Fin 2) (o : Fin 3) : Pr F PUnit :=
  waitFor (semC o b) (colsAt oM (k0_off5 c (bw b)) (k0_off5_inb c b)) (rowsAt (vM b) (k0_off58 c (ow o)) (k0_off58_inb c o))

/-- The barrier: a signal to each other device, a wait for theirs. -/
def signalTo (c : Dev nD) (o : Fin 3) : Pr F PUnit := semSignalWord (tgt c o) semBar 1#32
def waitBar : Pr F PUnit := semWaitWord semBar 3#32

omit [FloatOps F] in
theorem signalTo_eq (c : Dev nD) (o : Fin 3) (dv : ℕ) (hdv : dv < nD) (h : dv = (tgt c o).val) :
    semSignalWord (⟨dv, hdv⟩ : Dev nD) semBar 1#32 = signalTo (F := F) c o := by
  subst h; rfl

/-! ## The parts of the body -/

/-- A part of the kernel at the buffers and semaphores it runs on. -/
abbrev atArgs {β : Sort _} (p : (arg0 : Memref sig .tc .hbm S8192x1024 .f32) → arg0.IsWhole → (arg1 : Memref sig .tc .hbm S8192x1024 .f32) → arg1.IsWhole →
      (arg2 : Memref sig .tc .vmem S32768x128 .f32) → arg2.IsWhole → (arg3 : Memref sig .tc .vmem S32768x128 .f32) → arg3.IsWhole →
      DmaSems sig S3x2 → DmaSems sig S4x2 → DmaSems sig S3x2 → DmaSems sig S4x2 → DmaSems sig S2 → DmaSems sig S2 → β) : β :=
  p (Memref.whole main_arg0) (Memref.isWhole_whole _) (Memref.whole main_v1) (Memref.isWhole_whole _) (Memref.whole cc0_scratch0) (Memref.isWhole_whole _)
    (Memref.whole cc0_scratch1) (Memref.isWhole_whole _) cc0_scratch2 cc0_scratch3 cc0_scratch4 cc0_scratch5 cc0_scratch6 cc0_scratch7

/-- The loops sorting the first buffer, as the parts hold them. -/
def sortA1 (c : Dev nD) (v2 w : BitVec 32) : List (Pr F PUnit) :=
   [Scf.Loop.for k0_t1_loop k0_t1_ok ⟨⟩ (atArgs (k0_t1_body (F := F)) c v2 w rowsV)]

/-- Rounds 10 to 13, and the first stage of round 14. -/
def sortA2 (w : BitVec 32) : List (Pr F PUnit) :=
   [Scf.Loop.for k0_t2_loop k0_t2_ok ⟨⟩ (atArgs (k0_t2_body (F := F)) w),
    Scf.Loop.for k0_t3_loop k0_t3_ok ⟨⟩ (atArgs (k0_t3_body (F := F)) w),
    Scf.Loop.for k0_t4_loop k0_t4_ok ⟨⟩ (atArgs (k0_t4_body (F := F)) w),
    Scf.Loop.for k0_t5_loop k0_t5_ok ⟨⟩ (atArgs (k0_t5_body (F := F)) w),
    Scf.Loop.for k0_t6_loop k0_t6_ok ⟨⟩ (atArgs (k0_t6_body (F := F)) w),
    Scf.Loop.for k0_t7_loop k0_t7_ok ⟨⟩ (atArgs (k0_t7_body (F := F)) w),
    Scf.Loop.for k0_t8_loop k0_t8_ok ⟨⟩ (atArgs (k0_t8_body (F := F)) w),
    Scf.Loop.for k0_t9_loop k0_t9_ok ⟨⟩ (atArgs (k0_t9_body (F := F)) w),
    Scf.Loop.for k0_t10_loop k0_t10_ok ⟨⟩ (atArgs (k0_t10_body (F := F)) w),
    Scf.Loop.for k0_t11_loop k0_t11_ok ⟨⟩ (atArgs (k0_t11_body (F := F)) w)]

/-- The rest of round 13 and round 14. -/
def sortA3 (w : BitVec 32) : List (Pr F PUnit) :=
   [Scf.Loop.for k0_t12_loop k0_t12_ok ⟨⟩ (atArgs (k0_t12_body (F := F)) w),
    Scf.Loop.for k0_t13_loop k0_t13_ok ⟨⟩ (atArgs (k0_t13_body (F := F)) w),
    Scf.Loop.for k0_t14_loop k0_t14_ok ⟨⟩ (atArgs (k0_t14_body (F := F)) w),
    Scf.Loop.for k0_t15_loop k0_t15_ok ⟨⟩ (atArgs (k0_t15_body (F := F)) w),
    Scf.Loop.for k0_t16_loop k0_t16_ok ⟨⟩ (atArgs (k0_t16_body (F := F)) w),
    Scf.Loop.for k0_t17_loop k0_t17_ok ⟨⟩ (atArgs (k0_t17_body (F := F)) w),
    Scf.Loop.for k0_t18_loop k0_t18_ok ⟨⟩ (atArgs (k0_t18_body (F := F)) w),
    Scf.Loop.for k0_t19_loop k0_t19_ok ⟨⟩ (atArgs (k0_t19_body (F := F)) w),
    Scf.Loop.for k0_t20_loop k0_t20_ok ⟨⟩ (atArgs (k0_t20_body (F := F)) w),
    Scf.Loop.for k0_t21_loop k0_t21_ok ⟨⟩ (atArgs (k0_t21_body (F := F)) w)]

/-- Round 15. -/
def sortA4 (v2 : BitVec 32) (w : BitVec 32) : List (Pr F PUnit) :=
   [Scf.Loop.for k0_t22_loop k0_t22_ok ⟨⟩ (atArgs (k0_t22_body (F := F)) v2 w),
    Scf.Loop.for k0_t23_loop k0_t23_ok ⟨⟩ (atArgs (k0_t23_body (F := F)) v2 w),
    Scf.Loop.for k0_t24_loop k0_t24_ok ⟨⟩ (atArgs (k0_t24_body (F := F)) v2 w),
    Scf.Loop.for k0_t25_loop k0_t25_ok ⟨⟩ (atArgs (k0_t25_body (F := F)) v2 w),
    Scf.Loop.for k0_t26_loop k0_t26_ok ⟨⟩ (atArgs (k0_t26_body (F := F)) v2 w),
    Scf.Loop.for k0_t27_loop k0_t27_ok ⟨⟩ (atArgs (k0_t27_body (F := F)) v2 w),
    Scf.Loop.for k0_t28_loop k0_t28_ok ⟨⟩ (atArgs (k0_t28_body (F := F)) v2 w)]

/-- The loops sorting the second buffer, as the parts hold them. -/
def sortB1 (c : Dev nD) (v2 : BitVec 32) : List (Pr F PUnit) :=
   [Scf.Loop.for k0_t29_loop k0_t29_ok ⟨⟩ (atArgs (k0_t29_body (F := F)) c v2 rowsV),
    Scf.Loop.for k0_t30_loop k0_t30_ok ⟨⟩ (atArgs (k0_t30_body (F := F)) c v2)]

/-- The second buffer's next loops. -/
def sortB2 (w w' : BitVec 32) : List (Pr F PUnit) :=
   [Scf.Loop.for k0_t31_loop k0_t31_ok ⟨⟩ (atArgs (k0_t31_body (F := F)) w w'),
    Scf.Loop.for k0_t32_loop k0_t32_ok ⟨⟩ (atArgs (k0_t32_body (F := F)) w w'),
    Scf.Loop.for k0_t33_loop k0_t33_ok ⟨⟩ (atArgs (k0_t33_body (F := F)) w w'),
    Scf.Loop.for k0_t34_loop k0_t34_ok ⟨⟩ (atArgs (k0_t34_body (F := F)) w w'),
    Scf.Loop.for k0_t35_loop k0_t35_ok ⟨⟩ (atArgs (k0_t35_body (F := F)) w w'),
    Scf.Loop.for k0_t36_loop k0_t36_ok ⟨⟩ (atArgs (k0_t36_body (F := F)) w w'),
    Scf.Loop.for k0_t37_loop k0_t37_ok ⟨⟩ (atArgs (k0_t37_body (F := F)) w w'),
    Scf.Loop.for k0_t38_loop k0_t38_ok ⟨⟩ (atArgs (k0_t38_body (F := F)) w w'),
    Scf.Loop.for k0_t39_loop k0_t39_ok ⟨⟩ (atArgs (k0_t39_body (F := F)) w w'),
    Scf.Loop.for k0_t40_loop k0_t40_ok ⟨⟩ (atArgs (k0_t40_body (F := F)) w w')]

/-- The second buffer's next loops. -/
def sortB3 (w w' : BitVec 32) : List (Pr F PUnit) :=
   [Scf.Loop.for k0_t41_loop k0_t41_ok ⟨⟩ (atArgs (k0_t41_body (F := F)) w w'),
    Scf.Loop.for k0_t42_loop k0_t42_ok ⟨⟩ (atArgs (k0_t42_body (F := F)) w w'),
    Scf.Loop.for k0_t43_loop k0_t43_ok ⟨⟩ (atArgs (k0_t43_body (F := F)) w w'),
    Scf.Loop.for k0_t44_loop k0_t44_ok ⟨⟩ (atArgs (k0_t44_body (F := F)) w w'),
    Scf.Loop.for k0_t45_loop k0_t45_ok ⟨⟩ (atArgs (k0_t45_body (F := F)) w w'),
    Scf.Loop.for k0_t46_loop k0_t46_ok ⟨⟩ (atArgs (k0_t46_body (F := F)) w w'),
    Scf.Loop.for k0_t47_loop k0_t47_ok ⟨⟩ (atArgs (k0_t47_body (F := F)) w w'),
    Scf.Loop.for k0_t48_loop k0_t48_ok ⟨⟩ (atArgs (k0_t48_body (F := F)) w w'),
    Scf.Loop.for k0_t49_loop k0_t49_ok ⟨⟩ (atArgs (k0_t49_body (F := F)) w w'),
    Scf.Loop.for k0_t50_loop k0_t50_ok ⟨⟩ (atArgs (k0_t50_body (F := F)) w w')]

/-- The second buffer's last loops. -/
def sortB4 (v2 : BitVec 32) (w w' : BitVec 32) : List (Pr F PUnit) :=
   [Scf.Loop.for k0_t51_loop k0_t51_ok ⟨⟩ (atArgs (k0_t51_body (F := F)) v2 w w'),
    Scf.Loop.for k0_t52_loop k0_t52_ok ⟨⟩ (atArgs (k0_t52_body (F := F)) v2 w w'),
    Scf.Loop.for k0_t53_loop k0_t53_ok ⟨⟩ (atArgs (k0_t53_body (F := F)) v2 w w'),
    Scf.Loop.for k0_t54_loop k0_t54_ok ⟨⟩ (atArgs (k0_t54_body (F := F)) v2 w w'),
    Scf.Loop.for k0_t55_loop k0_t55_ok ⟨⟩ (atArgs (k0_t55_body (F := F)) v2 w w'),
    Scf.Loop.for k0_t56_loop k0_t56_ok ⟨⟩ (atArgs (k0_t56_body (F := F)) v2 w w')]

theorem part53 : atArgs (k0_part53 (F := F)) = (Prog.lift .deviceId >>= fun c =>
    run [signalTo c 0, signalTo c 1] (pure ⟨c, Scalar.remsi (Scalar.divsi (Dev.word c) 1#32) 4#32, (SemArray.scalar (sig.barrier 0 rfl) : Sems sig S_),
      Scalar.addi (Scalar.remsi (Scalar.divsi (Dev.word c) 1#32) 4#32) 3#32, 4#32, Scalar.cmpi .eq 4#32 0#32⟩)) := by
  have e (c : Dev nD) := congrArg₂ (fun p q => run [p, q] (pure (⟨c, Scalar.remsi (Scalar.divsi (Dev.word c) 1#32) 4#32, (SemArray.scalar (sig.barrier 0 rfl) : Sems sig S_),
      Scalar.addi (Scalar.remsi (Scalar.divsi (Dev.word c) 1#32) 4#32) 3#32, 4#32, Scalar.cmpi .eq 4#32 0#32⟩ :
      Σ' (d0 : Dev nD) (v2 : BitVec 32) (v3 : Sems sig S_) (v30 : BitVec 32) (c4_i32_18 : BitVec 32), BitVec 1)))
    (signalTo_eq (F := F) c 0 _ (k0_dev1_lt c) (by revert c; decide +kernel)) (signalTo_eq (F := F) c 1 _ (k0_dev2_lt c) (by revert c; decide +kernel))
  exact Eq.trans rfl (congrArg (fun k => (Prog.lift TpuEff.deviceId : Pr F (Dev nD)) >>= k) (funext e))
theorem part54 (c : Dev nD) (v2 a b : BitVec 32) (p : BitVec 1) :
    atArgs (k0_part54 (F := F)) c v2 (SemArray.scalar (sig.barrier 0 rfl) : Sems sig S_) a b p = run [signalTo c 2, waitBar] (pure ⟨⟩) := by
  rw [← signalTo_eq c 2 _ (k0_dev3_lt c) (by revert c; decide +kernel)]; rfl

theorem part55 (c : Dev nD) (v2 : BitVec 32) :
    ∃ r, atArgs (k0_part55 (F := F)) c v2 = run ([sendA c 0 0, sendA c 0 1]) (pure r) := by
  rw [← sendA_eq c 0 0 _ (k0_dev4_lt c) (by revert c; decide +kernel), ← sendA_eq c 0 1 _ (k0_dev5_lt c) (by revert c; decide +kernel)]; exact ⟨_, rfl⟩
theorem part56 (c : Dev nD) (v2 v97 : BitVec 32) :
    atArgs (k0_part56 (F := F)) c v2 v97 = run ([sendA c 0 2]) (pure ⟨⟩) := by
  rw [← sendA_eq c 0 2 _ (k0_dev6_lt c) (by revert c; decide +kernel)]; rfl
theorem part57 (c : Dev nD) (v2 : BitVec 32) :
    ∃ r, atArgs (k0_part57 (F := F)) c v2 = run ([sendA c 1 0, sendA c 1 1]) (pure r) := by
  rw [← sendA_eq c 1 0 _ (k0_dev7_lt c) (by revert c; decide +kernel), ← sendA_eq c 1 1 _ (k0_dev8_lt c) (by revert c; decide +kernel)]; exact ⟨_, rfl⟩
theorem part58 (c : Dev nD) (v2 v : BitVec 32) :
    ∃ r, atArgs (k0_part58 (F := F)) c v2 v = run ([sendA c 1 2, copyIn c 0, copyIn c 1, waitIn c 0]) (pure r) := by
  rw [← sendA_eq c 1 2 _ (k0_dev9_lt c) (by revert c; decide +kernel), ← copyIn_eq c 0, ← copyIn_eq c 1]; exact ⟨_, rfl⟩
theorem part59 (c : Dev nD) (v2 v : BitVec 32) :
    ∃ r, atArgs (k0_part59 (F := F)) c v2 v = run ([waitRA c 0 0]) (pure r) := by
  exact ⟨_, rfl⟩
theorem part60 (c : Dev nD) (v2 v : BitVec 32) :
    atArgs (k0_part60 (F := F)) c v2 v = run ([waitRA c 0 1, waitRA c 0 2] ++ sortA1 c v2 v) (pure 0#32) := by
  rfl
theorem part61 (w : BitVec 32) :
    atArgs (k0_part61 (F := F)) w = run (sortA2 w) (pure 0#32) := by
  rfl
theorem part62 (w : BitVec 32) :
    atArgs (k0_part62 (F := F)) w = run (sortA3 w) (pure 0#32) := by
  rfl
theorem part63 (v2 w : BitVec 32) :
    ∃ r, atArgs (k0_part63 (F := F)) v2 w = run (sortA4 v2 w) (pure r) := by
  exact ⟨_, rfl⟩
theorem part64 (c : Dev nD) (v2 a b : BitVec 32) (p q : BitVec 1) :
    ∃ r, atArgs (k0_part64 (F := F)) c v2 a b p q = run ([sendC c 0 0, sendC c 0 1]) (pure r) := by
  rw [← sendC_eq c 0 0 _ (k0_dev10_lt c) (by revert c; decide +kernel), ← sendC_eq c 0 1 _ (k0_dev11_lt c) (by revert c; decide +kernel)]; exact ⟨_, rfl⟩
theorem part65 (c : Dev nD) (v2 a b : BitVec 32) :
    ∃ r, atArgs (k0_part65 (F := F)) c v2 a b = run ([sendC c 0 2, copyOut c 0, waitIn c 1]) (pure r) := by
  rw [← sendC_eq c 0 2 _ (k0_dev12_lt c) (by revert c; decide +kernel), ← copyOut_eq c 0]; exact ⟨_, rfl⟩
theorem part66 (c : Dev nD) (v2 a b w : BitVec 32) :
    atArgs (k0_part66 (F := F)) c v2 a b w = run ([waitRA c 1 0]) (pure ⟨⟩) := by
  rfl
theorem part67 (c : Dev nD) (v2 : BitVec 32) :
    atArgs (k0_part67 (F := F)) c v2 = run ([waitRA c 1 1, waitRA c 1 2] ++ sortB1 c v2) (pure ⟨0#32, 64#32⟩) := by
  rfl
theorem part68 (w w' : BitVec 32) :
    atArgs (k0_part68 (F := F)) w w' = run (sortB2 w w') (pure ⟨0#32, 32#32⟩) := by
  rfl
theorem part69 (w w' : BitVec 32) :
    atArgs (k0_part69 (F := F)) w w' = run (sortB3 w w') (pure ⟨0#32, 32#32⟩) := by
  rfl
theorem part70 (v2 w w' : BitVec 32) :
    ∃ r, atArgs (k0_part70 (F := F)) v2 w w' = run (sortB4 v2 w w') (pure r) := by
  exact ⟨_, rfl⟩
theorem part71 (c : Dev nD) (v2 v : BitVec 32) :
    ∃ r, atArgs (k0_part71 (F := F)) c v2 v = run ([sendC c 1 0, sendC c 1 1]) (pure r) := by
  rw [← sendC_eq c 1 0 _ (k0_dev13_lt c) (by revert c; decide +kernel), ← sendC_eq c 1 1 _ (k0_dev14_lt c) (by revert c; decide +kernel)]; exact ⟨_, rfl⟩
theorem part72 (c : Dev nD) (v2 a b : BitVec 32) (p : BitVec 1) :
    atArgs (k0_part72 (F := F)) c v2 a b p = run ([sendC c 1 2, copyOut c 1, waitA c 0 0, waitA c 0 1]) (pure ⟨⟩) := by
  rw [← sendC_eq c 1 2 _ (k0_dev15_lt c) (by revert c; decide +kernel), ← copyOut_eq c 1]; rfl
theorem part73 (c : Dev nD) :
    atArgs (k0_part73 (F := F)) c = run ([waitA c 0 2, waitA c 1 0, waitA c 1 1, waitA c 1 2, waitC c 0 0]) (pure ⟨⟩) := by
  rfl
theorem part74 (c : Dev nD) :
    atArgs (k0_part74 (F := F)) c = run ([waitC c 0 1, waitC c 0 2, waitC c 1 0, waitC c 1 1, waitC c 1 2, waitOut c 0]) (pure ⟨⟩) := by
  rfl
theorem part75 (c : Dev nD) (v2 : BitVec 32) :
    atArgs (k0_part75 (F := F)) c v2 = run ([waitOut c 1, waitRC c 0 0, waitRC c 1 0]) (pure ⟨⟩) := by
  rfl
theorem part76 (c : Dev nD) (v2 : BitVec 32) :
    ∃ r, atArgs (k0_part76 (F := F)) c v2 = run ([waitRC c 0 1, waitRC c 1 1]) (pure r) := by
  exact ⟨_, rfl⟩

/-! ## The body -/

/-- The copies out of the input, and in from the first column buffer. -/
abbrev acts1 (c : Dev nD) : List (Pr F PUnit) :=
  [signalTo c 0, signalTo c 1] ++ [signalTo c 2, waitBar]
abbrev acts2 (c : Dev nD) : List (Pr F PUnit) :=
  [sendA c 0 0, sendA c 0 1] ++ ([sendA c 0 2] ++ ([sendA c 1 0, sendA c 1 1] ++ [sendA c 1 2, copyIn c 0, copyIn c 1, waitIn c 0]))
abbrev acts3 (c : Dev nD) : List (Pr F PUnit) := [waitRA c 0 0] ++ [waitRA c 0 1, waitRA c 0 2]
abbrev acts4 (c : Dev nD) : List (Pr F PUnit) := [sendC c 0 0, sendC c 0 1] ++ [sendC c 0 2, copyOut c 0, waitIn c 1]
abbrev acts5 (c : Dev nD) : List (Pr F PUnit) := [waitRA c 1 0] ++ [waitRA c 1 1, waitRA c 1 2]
abbrev acts6 (c : Dev nD) : List (Pr F PUnit) :=
  [sendC c 1 0, sendC c 1 1] ++ ([sendC c 1 2, copyOut c 1, waitA c 0 0, waitA c 0 1] ++
    ([waitA c 0 2, waitA c 1 0, waitA c 1 1, waitA c 1 2, waitC c 0 0] ++
      ([waitC c 0 1, waitC c 0 2, waitC c 1 0, waitC c 1 1, waitC c 1 2, waitOut c 0] ++
        ([waitOut c 1, waitRC c 0 0, waitRC c 1 0] ++ ([waitRC c 0 1, waitRC c 1 1] ++ [waitRC c 0 2, waitRC c 1 2])))))

/-- The loops of the two sorts. -/
abbrev sortA (c : Dev nD) (v2 w : BitVec 32) : List (Pr F PUnit) := sortA1 c v2 w ++ (sortA2 0#32 ++ (sortA3 0#32 ++ sortA4 v2 0#32))
abbrev sortB (c : Dev nD) (v2 : BitVec 32) : List (Pr F PUnit) :=
  sortB1 c v2 ++ (sortB2 0#32 64#32 ++ (sortB3 0#32 32#32 ++ sortB4 v2 0#32 32#32))

/-- The kernel's body at device `c`. -/
def acts (c : Dev nD) (v2 w : BitVec 32) : List (Pr F PUnit) :=
  acts1 c ++ (acts2 c ++ (acts3 c ++ (sortA c v2 w ++ (acts4 c ++ (acts5 c ++ (sortB c v2 ++ acts6 c))))))

theorem body_run : ∃ v w : Dev nD → BitVec 32, atArgs (cc0_body (F := F)) =
    (Prog.lift .deviceId >>= fun c => run (acts c (v c) (w c)) (pure ⟨⟩)) := by
  have h : ∃ K : Dev nD → Pr F PUnit, atArgs (cc0_body (F := F)) = (Prog.lift .deviceId >>= K)
      ∧ ∀ c, ∃ v w, K c = run (acts c v w) (pure ⟨⟩) := by
    refine ⟨?K, ?h1, ?h2⟩
    case h1 =>
      rw [cc0_body_eq_skeleton]
      dsimp only [atArgs]
      unfold cc0_body_skel
      rw [k0_part77_eq_skeleton]
      unfold k0_part77_skel
      have h := part53 (F := F)
      dsimp only [atArgs] at h
      rw [h, bind_assoc, bind_assoc]
    intro c
    simp only [bind_assoc]
    generalize Scalar.remsi (Scalar.divsi (Dev.word c) 1#32) 4#32 = v2
    generalize Scalar.addi v2 3#32 = v30
    generalize (Scalar.cmpi .eq 4#32 0#32 : BitVec 1) = v31
    rw [run_bind]; dsimp only
    have h := part54 (F := F) c v2 v30 4#32 v31
    dsimp only [atArgs] at h; rw [h, run_bind]; clear h; try dsimp only
    obtain ⟨r55, h⟩ := part55 (F := F) c v2
    dsimp only [atArgs] at h; rw [h, run_bind]; clear h; try dsimp only
    have h := part56 (F := F) c v2 r55
    dsimp only [atArgs] at h; rw [h, run_bind]; clear h; try dsimp only
    obtain ⟨r57, h⟩ := part57 (F := F) c v2
    dsimp only [atArgs] at h; rw [h, run_bind]; clear h; try dsimp only
    obtain ⟨r58, h⟩ := part58 (F := F) c v2 r57
    dsimp only [atArgs] at h; rw [h, run_bind]; clear h; try dsimp only
    obtain ⟨r59, h⟩ := part59 (F := F) c v2 r58
    dsimp only [atArgs] at h; rw [h, run_bind]; clear h; try dsimp only
    have h := part60 (F := F) c v2 r59
    dsimp only [atArgs] at h; rw [h, run_bind]; clear h; try dsimp only
    have h := part61 (F := F) 0#32
    dsimp only [atArgs] at h; rw [h, run_bind]; clear h; try dsimp only
    have h := part62 (F := F) 0#32
    dsimp only [atArgs] at h; rw [h, run_bind]; clear h; try dsimp only
    obtain ⟨⟨a, b, p, q⟩, h⟩ := part63 (F := F) v2 0#32
    dsimp only [atArgs] at h; rw [h, run_bind]; clear h; try dsimp only
    obtain ⟨⟨a', b'⟩, h⟩ := part64 (F := F) c v2 a b p q
    dsimp only [atArgs] at h; rw [h, run_bind]; clear h; try dsimp only
    obtain ⟨⟨d, e, w⟩, h⟩ := part65 (F := F) c v2 a' b'
    dsimp only [atArgs] at h; rw [h, run_bind]; clear h; try dsimp only
    have h := part66 (F := F) c v2 d e w
    dsimp only [atArgs] at h; rw [h, run_bind]; clear h; try dsimp only
    have h := part67 (F := F) c v2
    dsimp only [atArgs] at h; rw [h, run_bind]; clear h; try dsimp only
    have h := part68 (F := F) 0#32 64#32
    dsimp only [atArgs] at h; rw [h, run_bind]; clear h; try dsimp only
    have h := part69 (F := F) 0#32 32#32
    dsimp only [atArgs] at h; rw [h, run_bind]; clear h; try dsimp only
    obtain ⟨r70, h⟩ := part70 (F := F) v2 0#32 32#32
    dsimp only [atArgs] at h; rw [h, run_bind]; clear h; try dsimp only
    obtain ⟨⟨f, g, r⟩, h⟩ := part71 (F := F) c v2 r70
    dsimp only [atArgs] at h; rw [h, run_bind]; clear h; try dsimp only
    have h := part72 (F := F) c v2 f g r
    dsimp only [atArgs] at h; rw [h, run_bind]; clear h; try dsimp only
    have h := part73 (F := F) c
    dsimp only [atArgs] at h; rw [h, run_bind]; clear h; try dsimp only
    have h := part74 (F := F) c
    dsimp only [atArgs] at h; rw [h, run_bind]; clear h; try dsimp only
    have h := part75 (F := F) c v2
    dsimp only [atArgs] at h; rw [h, run_bind]; clear h; try dsimp only
    obtain ⟨⟨i, j, k⟩, h⟩ := part76 (F := F) c v2
    dsimp only [atArgs] at h; rw [h, run_bind]; clear h; try dsimp only
    refine ⟨v2, r59, ?_⟩
    simp only [acts, acts1, acts2, acts3, acts4, acts5, acts6, sortA, sortB, run_append]
    rfl
  obtain ⟨K, h, hK⟩ := h
  choose v w hK using hK
  exact ⟨v, w, h.trans (congrArg (fun k => (Prog.lift TpuEff.deviceId : Pr F (Dev nD)) >>= k) (funext hK))⟩

end Cert.Proof

end
-- ==== Proof.Sorted.lean ====
/-
  The loops of each sort, run in turn, sort their buffer's columns.
-/
module

public import proofs.«01_k».proof.Proof.Acts

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The programs of `l` in turn take the buffer `M` from any contents `g` to `T g`. -/
def CarriesAll (M : Memref sig .tc .vmem S32768x128 .f32) (l : List (Pr F PUnit)) (T : Col F → Col F) : Prop :=
  ∀ (c : Dev nD) (g : Col F) {α : Type} (k : Pr F α) (Q : α → sProp 𝕄), holds (F := F) c M g ⊢
    iprop((holds (F := F) c M (T g) -∗ wp frame (wpE (defs₀ (F := F)) 𝒱₀ (c : Thread nD τ) none) Set.univ k Q)
      -∗ wp frame (wpE (defs₀ (F := F)) 𝒱₀ (c : Thread nD τ) none) Set.univ (run l k) Q)

theorem CarriesAll.nil {M : Memref sig .tc .vmem S32768x128 .f32} : CarriesAll (F := F) M [] id := by
  intro c g α k Q
  iintro H HK
  iapply HK; iexact H

theorem CarriesAll.cons {M : Memref sig .tc .vmem S32768x128 .f32} {p : Pr F PUnit} {l : List (Pr F PUnit)} {T T' : Col F → Col F}
    (h : Carries M p T) (h' : CarriesAll M l T') : CarriesAll M (p :: l) (fun g => T' (T g)) := by
  intro c g α k Q
  iintro H HK
  iapply (h.bind (k := fun _ => run l k) (g := g)) $$ H
  iintro H
  iapply (h' c (T g) k Q) $$ H
  iexact HK

theorem CarriesAll.append {M : Memref sig .tc .vmem S32768x128 .f32} {l l' : List (Pr F PUnit)} {T T' : Col F → Col F}
    (h : CarriesAll M l T) (h' : CarriesAll M l' T') : CarriesAll M (l ++ l') (fun g => T' (T g)) := by
  intro c g α k Q
  rw [run_append]
  iintro H HK
  iapply (h c g (run l' k) Q) $$ H
  iintro H
  iapply (h' c (T g) k Q) $$ H
  iexact HK

theorem carries_sortA (c : Dev nD) (v2 w : BitVec 32) : CarriesAll (F := F) (vM 0) (sortA c v2 w) sortCol := by
  have h : CarriesAll (F := F) (vM 0) (sortA c v2 w) _ := .append (l := sortA1 c v2 w) (.cons (loop1 _ _ _ _ _ _ _ _ _ _ _ _ _ _ _ _ _)
      <| .nil) <| .append (l := sortA2 0#32) (.cons (loop2 _ _ _ _ _ _ _ _ _ _ _ _ _ _ _)
      <| .cons (loop3 _ _ _ _ _ _ _ _ _ _ _ _ _ _ _)
      <| .cons (loop4 _ _ _ _ _ _ _ _ _ _ _ _ _ _ _)
      <| .cons (loop5 _ _ _ _ _ _ _ _ _ _ _ _ _ _ _)
      <| .cons (loop6 _ _ _ _ _ _ _ _ _ _ _ _ _ _ _)
      <| .cons (loop7 _ _ _ _ _ _ _ _ _ _ _ _ _ _ _)
      <| .cons (loop8 _ _ _ _ _ _ _ _ _ _ _ _ _ _ _)
      <| .cons (loop9 _ _ _ _ _ _ _ _ _ _ _ _ _ _ _)
      <| .cons (loop10 _ _ _ _ _ _ _ _ _ _ _ _ _ _ _)
      <| .cons (loop11 _ _ _ _ _ _ _ _ _ _ _ _ _ _ _)
      <| .nil) <|
    .append (l := sortA3 0#32) (.cons (loop12 _ _ _ _ _ _ _ _ _ _ _ _ _ _ _)
      <| .cons (loop13 _ _ _ _ _ _ _ _ _ _ _ _ _ _ _)
      <| .cons (loop14 _ _ _ _ _ _ _ _ _ _ _ _ _ _ _)
      <| .cons (loop15 _ _ _ _ _ _ _ _ _ _ _ _ _ _ _)
      <| .cons (loop16 _ _ _ _ _ _ _ _ _ _ _ _ _ _ _)
      <| .cons (loop17 _ _ _ _ _ _ _ _ _ _ _ _ _ _ _)
      <| .cons (loop18 _ _ _ _ _ _ _ _ _ _ _ _ _ _ _)
      <| .cons (loop19 _ _ _ _ _ _ _ _ _ _ _ _ _ _ _)
      <| .cons (loop20 _ _ _ _ _ _ _ _ _ _ _ _ _ _ _)
      <| .cons (loop21 _ _ _ _ _ _ _ _ _ _ _ _ _ _ _)
      <| .nil) (.cons (loop22 _ _ _ _ _ _ _ _ _ _ _ _ _ _ _ _)
      <| .cons (loop23 _ _ _ _ _ _ _ _ _ _ _ _ _ _ _ _)
      <| .cons (loop24 _ _ _ _ _ _ _ _ _ _ _ _ _ _ _ _)
      <| .cons (loop25 _ _ _ _ _ _ _ _ _ _ _ _ _ _ _ _)
      <| .cons (loop26 _ _ _ _ _ _ _ _ _ _ _ _ _ _ _ _)
      <| .cons (loop27 _ _ _ _ _ _ _ _ _ _ _ _ _ _ _ _)
      <| .cons (loop28 _ _ _ _ _ _ _ _ _ _ _ _ _ _ _ _)
      <| .nil)
  exact h

theorem carries_sortB (c : Dev nD) (v2 : BitVec 32) : CarriesAll (F := F) (vM 1) (sortB c v2) sortCol := by
  have h : CarriesAll (F := F) (vM 1) (sortB c v2) _ := .append (l := sortB1 c v2) (.cons (loop29 _ _ _ _ _ _ _ _ _ _ _ _ _ _ _ _)
      <| .cons (loop30 _ _ _ _ _ _ _ _ _ _ _ _ _ _ _ _)
      <| .nil) <| .append (l := sortB2 0#32 64#32) (.cons (loop31 _ _ _ _ _ _ _ _ _ _ _ _ _ _)
      <| .cons (loop32 _ _ _ _ _ _ _ _ _ _ _ _ _ _ _ _)
      <| .cons (loop33 _ _ _ _ _ _ _ _ _ _ _ _ _ _ _ _)
      <| .cons (loop34 _ _ _ _ _ _ _ _ _ _ _ _ _ _ _ _)
      <| .cons (loop35 _ _ _ _ _ _ _ _ _ _ _ _ _ _ _ _)
      <| .cons (loop36 _ _ _ _ _ _ _ _ _ _ _ _ _ _ _ _)
      <| .cons (loop37 _ _ _ _ _ _ _ _ _ _ _ _ _ _ _ _)
      <| .cons (loop38 _ _ _ _ _ _ _ _ _ _ _ _ _ _ _ _)
      <| .cons (loop39 _ _ _ _ _ _ _ _ _ _ _ _ _ _ _ _)
      <| .cons (loop40 _ _ _ _ _ _ _ _ _ _ _ _ _ _ _ _)
      <| .nil) <|
    .append (l := sortB3 0#32 32#32) (.cons (loop41 _ _ _ _ _ _ _ _ _ _ _ _ _ _ _ _)
      <| .cons (loop42 _ _ _ _ _ _ _ _ _ _ _ _ _ _ _ _)
      <| .cons (loop43 _ _ _ _ _ _ _ _ _ _ _ _ _ _ _ _)
      <| .cons (loop44 _ _ _ _ _ _ _ _ _ _ _ _ _ _ _ _)
      <| .cons (loop45 _ _ _ _ _ _ _ _ _ _ _ _ _ _ _ _)
      <| .cons (loop46 _ _ _ _ _ _ _ _ _ _ _ _ _ _ _ _)
      <| .cons (loop47 _ _ _ _ _ _ _ _ _ _ _ _ _ _ _ _)
      <| .cons (loop48 _ _ _ _ _ _ _ _ _ _ _ _ _ _ _ _)
      <| .cons (loop49 _ _ _ _ _ _ _ _ _ _ _ _ _ _ _ _)
      <| .cons (loop50 _ _ _ _ _ _ _ _ _ _ _ _ _ _ _ _)
      <| .nil) (.cons (loop51 _ _ _ _ _ _ _ _ _ _ _ _ _ _ _ _ _)
      <| .cons (loop52 _ _ _ _ _ _ _ _ _ _ _ _ _ _ _ _ _)
      <| .cons (loop53 _ _ _ _ _ _ _ _ _ _ _ _ _ _ _ _ _)
      <| .cons (loop54 _ _ _ _ _ _ _ _ _ _ _ _ _ _ _ _ _)
      <| .cons (loop55 _ _ _ _ _ _ _ _ _ _ _ _ _ _ _ _ _)
      <| .cons (loop56 _ _ _ _ _ _ _ _ _ _ _ _ _ _ _ _ _)
      <| .nil)
  exact h

end Cert.Proof

end
-- ==== Proof.Common.lean ====
/-
  The exchange between the devices: its cells, what each transfer hands over, and what a device owes.

  Every cell is used for one round. A device signals the barrier of each other device and hands over, with
  the signal, the rows of its column buffers and the columns of its result that device will write. A copy
  hands its source back on the cell it leaves by and its landing place on the cell it arrives at.
-/
module

public import proofs.«01_k».proof.Proof.Sorted
public import Mathlib.Tactic.DeriveFintype
public import Idealize.ShloMosaic.Lib.Memref

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal Cert.KernelIdeal.Gen

variable {F : FTy → Type} [FloatOps F]

local notation "𝕄" => MT nD τ sig Unit (Elt F) ℕ UU ℕ

/-! ## The cells -/

/-- A device's cells: the barrier's; those the inward copies leave by and arrive at, and the outward ones; those of its
    own copies, in and out. -/
inductive Slot where
  | bar
  | sa (o : Fin 3) (b : Fin 2)
  | ra (s : Dev nD) (b : Fin 2)
  | sc (o : Fin 3) (b : Fin 2)
  | rc (s : Dev nD) (b : Fin 2)
  | cp (b : Fin 2)
  | lc (b : Fin 2)
deriving DecidableEq, Fintype

def semOf : Slot → SemLoc sig
  | .bar => .reg semBar
  | .sa o b => .dma (semA o b)
  | .ra s b => .dma (semRA s b)
  | .sc o b => .dma (semC o b)
  | .rc s b => .dma (semRC s b)
  | .cp b => .dma (semIn b)
  | .lc b => .dma (semOut b)

theorem semOf_inj : Function.Injective semOf := by
  intro a b; revert a b; decide +kernel

def slotOf (sm : SemLoc sig) : Slot := open Classical in if h : ∃ k, semOf k = sm then h.choose else .bar
theorem slotOf_semOf (k : Slot) : slotOf (semOf k) = k := by
  have h : ∃ k', semOf k' = semOf k := ⟨k, rfl⟩
  unfold slotOf; rw [dif_pos h]; exact semOf_inj h.choose_spec

abbrev kcell (ck : Dev nD × Slot) : GSem nD τ sig := ((ck.1 : Thread nD τ), semOf ck.2)

theorem kcell_inj : Function.Injective kcell := by
  rintro ⟨c, k⟩ ⟨c', k'⟩ h
  have h1 : c = c' := Fin.ext (congrArg (fun g : GSem nD τ sig => g.1.1.val) h)
  have h2 : k = k' := semOf_inj (congrArg Prod.snd h)
  rw [h1, h2]

/-- What a copy credits. -/
def N : ℕ := (xCol 0 0).view.dmaCredit
theorem N_pos : 0 < N := View.dmaCredit_pos _ (by decide)

def amt : Slot → ℕ
  | .bar => 1
  | _ => N

/-- The devices that pay into cell `k` of device `c`. -/
def duty (c : Dev nD) : Slot → Finset (Dev nD)
  | .bar => Finset.univ.erase c
  | .ra s _ => if s = c then ∅ else {s}
  | .rc s _ => if s = c then ∅ else {s}
  | _ => {c}

/-! ## The contents -/

section Contents
variable (m : (ℓ : Loc nD τ sig) → Buf (Elt F) ℓ)

abbrev colR (d : Dev nD) (b : Fin 2) : Rect S8192x1024 := Rect.unit (s := S8192x1024) ![0, 256 * d.val + 128 * b.val] S8192x128.size (inbCol d b)
abbrev rowR (s : Dev nD) : Rect S32768x128 := Rect.unit (s := S32768x128) ![8192 * s.val, 0] S8192x128.size (inbRow s)

/-- Device `c`'s rows of the input. -/
def X (c : Dev nD) : S8192x1024.Idx → Elt F .f32 := xM.view.read (Elt F) (m ((c : Thread nD τ).loc main_arg0))

/-- Chunk `b` of the columns device `d` sorts, gathered from every device's rows. -/
def gathered (d : Dev nD) (b : Fin 2) : Col F := fun x =>
  X m (⟨(x 0).val / 8192, by have := idx2_lt0 x; have : nD = 4 := rfl; omega⟩ : Dev nD)
    (ix2 ⟨(x 0).val % 8192, Nat.mod_lt _ (by decide)⟩
      ⟨256 * d.val + 128 * b.val + (x 1).val, by have h := idx2_lt1 x; have hd : d.val < 4 := d.isLt; have := b.isLt; omega⟩)

/-- The chunk sorted. -/
def sorted (d : Dev nD) (b : Fin 2) : Col F := sortCol (gathered m d b)

/-- Device `c`'s rows of the result. -/
def outOf (c : Dev nD) : S8192x1024.Idx → Elt F .f32 := fun i =>
  sorted m (⟨(i 1).val / 256, by have := idx2_lt1 i; have : nD = 4 := rfl; omega⟩ : Dev nD) ⟨(i 1).val % 256 / 128, by omega⟩
    (ix2 ⟨8192 * c.val + (i 0).val, by have h := idx2_lt0 i; have hd : c.val < 4 := c.isLt; omega⟩ ⟨(i 1).val % 128, Nat.mod_lt _ (by decide)⟩)

/-- The piece of device `s`'s rows in the columns of `d`, before and after the sort. -/
def xP (s d : Dev nD) (b : Fin 2) : S8192x128.Idx → Elt F .f32 := fun j => X m s ((colR d b).emb j)
def sP (d : Dev nD) (b : Fin 2) (s : Dev nD) : S8192x128.Idx → Elt F .f32 := fun j => sorted m d b ((rowR s).emb j)

omit [FloatOps F] in
theorem rowR_emb0 (s : Dev nD) (j : S8192x128.Idx) : (((rowR s).emb j) 0).val = 8192 * s.val + (j 0).val := ValueKit.rect_emb_unit_val (s := S32768x128) ![8192 * s.val, 0] S8192x128.size (inbRow s) j 0
omit [FloatOps F] in
theorem rowR_emb1 (s : Dev nD) (j : S8192x128.Idx) : (((rowR s).emb j) 1).val = (j 1).val := (ValueKit.rect_emb_unit_val (s := S32768x128) ![8192 * s.val, 0] S8192x128.size (inbRow s) j 1).trans (Nat.zero_add _)
omit [FloatOps F] in
theorem colR_emb0 (d : Dev nD) (b : Fin 2) (j : S8192x128.Idx) : (((colR d b).emb j) 0).val = (j 0).val := (ValueKit.rect_emb_unit_val (s := S8192x1024) ![0, 256 * d.val + 128 * b.val] S8192x128.size (inbCol d b) j 0).trans (Nat.zero_add _)
omit [FloatOps F] in
theorem colR_emb1 (d : Dev nD) (b : Fin 2) (j : S8192x128.Idx) : (((colR d b).emb j) 1).val = 256 * d.val + 128 * b.val + (j 1).val := ValueKit.rect_emb_unit_val (s := S8192x1024) ![0, 256 * d.val + 128 * b.val] S8192x128.size (inbCol d b) j 1

theorem gathered_row (d : Dev nD) (b : Fin 2) (s : Dev nD) : (fun j : S8192x128.Idx => gathered m d b ((rowR s).emb j)) = xP m s d b := by
  funext j
  have h0 := idx2_lt0 j
  unfold gathered xP
  have e : (⟨(((rowR s).emb j) 0).val / 8192, by have := idx2_lt0 ((rowR s).emb j); have : nD = 4 := rfl; omega⟩ : Dev nD) = s :=
    Fin.ext (show (((rowR s).emb j) 0).val / 8192 = s.val by rw [rowR_emb0]; omega)
  rw [e]; congr 1
  rw [eq_ix2 ((colR d b).emb j)]
  congr 1
  · exact Fin.ext (show (((rowR s).emb j) 0).val % 8192 = (((colR d b).emb j) 0).val by rw [rowR_emb0, colR_emb0]; omega)
  · exact Fin.ext (show 256 * d.val + 128 * b.val + (((rowR s).emb j) 1).val = (((colR d b).emb j) 1).val by rw [rowR_emb1, colR_emb1])

theorem out_col (c d : Dev nD) (b : Fin 2) : (fun j : S8192x128.Idx => outOf m c ((colR d b).emb j)) = sP m d b c := by
  funext j
  have h1 := idx2_lt1 j
  have hb := b.isLt
  unfold outOf sP
  have e : (⟨(((colR d b).emb j) 1).val / 256, by have := idx2_lt1 ((colR d b).emb j); have : nD = 4 := rfl; omega⟩ : Dev nD) = d :=
    Fin.ext (show (((colR d b).emb j) 1).val / 256 = d.val by rw [colR_emb1]; omega)
  have e' : (⟨(((colR d b).emb j) 1).val % 256 / 128, by omega⟩ : Fin 2) = b :=
    Fin.ext (show (((colR d b).emb j) 1).val % 256 / 128 = b.val by rw [colR_emb1]; omega)
  rw [e, e']; congr 1
  rw [eq_ix2 ((rowR c).emb j)]
  congr 1
  · exact Fin.ext (show 8192 * c.val + (((colR d b).emb j) 0).val = (((rowR c).emb j) 0).val by rw [rowR_emb0, colR_emb0])
  · exact Fin.ext (show (((colR d b).emb j) 1).val % 128 = (((rowR c).emb j) 1).val by rw [rowR_emb1, colR_emb1]; omega)

/-! ## The pieces held -/

/-- Device `c`'s rows in the columns of `d`. -/
def xOwn (c d : Dev nD) (b : Fin 2) : sProp 𝕄 := owns (c : Thread nD τ) (xCol d b) fullShare (xP m c d b)
/-- Device `s`'s rows in `c`'s column buffer, gathered and sorted. -/
def vIn (c : Dev nD) (b : Fin 2) (s : Dev nD) : sProp 𝕄 := owns (c : Thread nD τ) (vRow b s) fullShare (xP m s c b)
def vOut (c : Dev nD) (b : Fin 2) (s : Dev nD) : sProp 𝕄 := owns (c : Thread nD τ) (vRow b s) fullShare (sP m c b s)
/-- Device `c`'s result in the columns of `d`. -/
def oOut (c d : Dev nD) (b : Fin 2) : sProp 𝕄 := owns (c : Thread nD τ) (oCol d b) fullShare (sP m d b c)
/-- The same places, at any contents. -/
def vAny (c : Dev nD) (b : Fin 2) (s : Dev nD) : sProp 𝕄 := iprop(∃ Y, owns (c : Thread nD τ) (vRow b s) fullShare Y)
def oAny (c d : Dev nD) (b : Fin 2) : sProp 𝕄 := iprop(∃ Y, owns (c : Thread nD τ) (oCol d b) fullShare Y)

instance xOwn_storable (c d b) : BI.Storable (upEmb : UEmb _ 𝕄) (xOwn m c d b) := by unfold xOwn; infer_instance
instance vIn_storable (c b s) : BI.Storable (upEmb : UEmb _ 𝕄) (vIn m c b s) := by unfold vIn; infer_instance
instance vOut_storable (c b s) : BI.Storable (upEmb : UEmb _ 𝕄) (vOut m c b s) := by unfold vOut; infer_instance
instance oOut_storable (c d b) : BI.Storable (upEmb : UEmb _ 𝕄) (oOut m c d b) := by unfold oOut; infer_instance
instance vAny_storable (c b s) : BI.Storable (upEmb : UEmb _ 𝕄) (vAny (F := F) c b s) := by unfold vAny; infer_instance
instance oAny_storable (c d b) : BI.Storable (upEmb : UEmb _ 𝕄) (oAny (F := F) c d b) := by unfold oAny; infer_instance

/-! ## The schedule -/

/-- What device `d` hands over when it pays into cell `k` of device `c`. -/
def pay (c : Dev nD) (k : Slot) (d : Dev nD) : sProp 𝕄 :=
  match k with
  | .bar => iprop((vAny d 0 c ∗ vAny d 1 c) ∗ oAny d c 0 ∗ oAny d c 1)
  | .sa o b => xOwn m c (tgt c o) b
  | .ra s b => vIn m c b s
  | .sc o b => vOut m c b (tgt c o)
  | .rc s b => oOut m c s b
  | .cp b => iprop(xOwn m c c b ∗ vIn m c b c)
  | .lc b => iprop(vOut m c b c ∗ oOut m c c b)

instance pay_storable (c k d) : BI.Storable (upEmb : UEmb _ 𝕄) (pay m c k d) := by
  cases k <;> (unfold pay; infer_instance)

theorem amt_pos (k : Slot) : 0 < amt k := by cases k <;> first | exact Nat.one_pos | exact N_pos

def sch : Rounds.Schedule (GSem nD τ sig) (Dev nD) 𝕄 where
  duties g r := if r = 0 then duty g.1.1 (slotOf g.2) else ∅
  unitless _ := False
  amount g _ _ := amt (slotOf g.2)
  payload g _ d := pay m g.1.1 (slotOf g.2) d
  amount_pos _ _ _ _ := amt_pos _

instance sch_storable (g : GSem nD τ sig) (r : ℕ) (d : Dev nD) : BI.Storable (upEmb : UEmb _ 𝕄) ((sch m).payload g r d) := by
  show BI.Storable upEmb (pay m g.1.1 (slotOf g.2) d); infer_instance

theorem sch_duties (c : Dev nD) (k : Slot) : (sch m).duties (kcell (c, k)) 0 = duty c k := by
  dsimp only [sch]; rw [if_pos rfl, slotOf_semOf]
theorem sch_later (g : GSem nD τ sig) : ∀ r, 1 ≤ r → (sch m).duties g r = ∅ :=
  fun r hr => by dsimp only [sch]; rw [if_neg (by omega)]
theorem sch_amount (c : Dev nD) (k : Slot) (d : Dev nD) : (sch m).amount (kcell (c, k)) 0 d = amt k := by
  dsimp only [sch]; rw [slotOf_semOf]
theorem sch_payload (c : Dev nD) (k : Slot) (d : Dev nD) : (sch m).payload (kcell (c, k)) 0 d = pay m c k d := by
  dsimp only [sch]; rw [slotOf_semOf]
theorem sch_expect (c : Dev nD) (k : Slot) : (sch m).expect (kcell (c, k)) 0 = (duty c k).card * amt k := by
  unfold Schedule.expect Schedule.amountOf
  rw [sch_duties, Finset.sum_congr rfl fun d _ => sch_amount m c k d, Finset.sum_const, smul_eq_mul]
theorem sch_rest (c : Dev nD) (k : Slot) :
    bigSep ((sch m).duties (kcell (c, k)) 0 \ ∅) (fun d => (sch m).payload (kcell (c, k)) 0 d) = bigSep (duty c k) (pay m c k) := by
  rw [Finset.sdiff_empty, sch_duties]; exact bigSep_congr fun d _ => sch_payload m c k d

end Contents

/-! ## What a device owes -/

/-- The credit of a list of payments. -/
def owL : List (Dev nD × Slot) → CellTallies nD τ sig Unit
  | [] => 0
  | p :: l => owL l + tallyAt (kcell p) () (amt p.2)

def sends (c : Dev nD) (r : Slot) : List (Dev nD × Slot) := [(tgt c 0, r), (tgt c 1, r), (tgt c 2, r)]
/-- A device signals the barriers, sends the rows it gathers for the others, and sends their sorted rows back. -/
def owing (c : Dev nD) : List (Dev nD × Slot) :=
  sends c .bar ++ (sends c (.ra c 0) ++ sends c (.ra c 1)) ++ (sends c (.rc c 0) ++ sends c (.rc c 1))

theorem owL_apply (l : List (Dev nD × Slot)) (p : Dev nD × Slot) : owL l (kcell p) () = l.count p * amt p.2 := by
  induction l with
  | nil => exact (Nat.zero_mul _).symm
  | cons q l ih =>
    show (owL l + tallyAt (kcell q) () (amt q.2)) (kcell p) () = _
    rw [Pi.add_apply, Finsupp.add_apply, ih, tallyAt_apply, List.count_cons, Nat.add_mul]
    congr 1
    by_cases h : q = p
    · subst h; rw [if_pos ⟨rfl, rfl⟩]; simp
    · rw [if_neg (fun h' => h (kcell_inj h'.1).symm), if_neg (by simpa using h), Nat.zero_mul]

theorem owL_pos {l : List (Dev nD × Slot)} {g : GSem nD τ sig} {u : Unit} (h : 0 < owL l g u) : ∃ p ∈ l, g = kcell p := by
  induction l with
  | nil => exact absurd h (Nat.lt_irrefl 0)
  | cons q l ih =>
    rw [show owL (q :: l) g u = owL l g u + (tallyAt (kcell q) () (amt q.2) : CellTallies nD τ sig Unit) g u from rfl] at h
    by_cases hq : g = kcell q
    · exact ⟨q, List.mem_cons_self, hq⟩
    · rw [tallyAt_apply, if_neg (fun h' => hq h'.1), Nat.add_zero] at h
      obtain ⟨p, hp, e⟩ := ih h
      exact ⟨p, List.mem_cons_of_mem _ hp, e⟩

/-- The order the cells are waited in: the barrier's, the inward arrivals, the outward ones. -/
def lvS : Slot → ℕ
  | .bar => 1
  | .ra _ _ => 2
  | .rc _ _ => 3
  | _ => 0

def L (g : GSem nD τ sig) : Finset Unit := if g.1.2 = .tc then {()} else ∅
def lv (g : GSem nD τ sig) (_ : Unit) : ℕ := lvS (slotOf g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait on a cell below every cell it owes. -/
theorem mayWait (c : Dev nD) (k : Slot) (l : List (Dev nD × Slot)) (h : ∀ p ∈ l, lvS k < lvS p.2) :
    (levAts L lv : sProp 𝕄) ⊢ MayWait (c : Thread nD τ) (semOf k) () (owL l) :=
  MayOwe.of_cut (L := L) (lev := lv) (lvS k) (fun p hp => by rw [Finset.mem_singleton.mp hp, L_tc]; exact Finset.mem_singleton_self _)
    (fun g u hg => by obtain ⟨p, hp, rfl⟩ := owL_pos hg; rw [L_tc]; exact Finset.mem_singleton_self _)
    (fun p hp => by rw [Finset.mem_singleton.mp hp]; dsimp only [lv]; rw [slotOf_semOf])
    (fun g u hg => by obtain ⟨p, hp, rfl⟩ := owL_pos hg; dsimp only [lv]; rw [slotOf_semOf]; exact h p hp)

end Cert.Proof

end
-- ==== Proof.Rules.lean ====
/-
  What each operation of the exchange does to what its device holds.
-/
module

public import proofs.«01_k».proof.Proof.Common

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal Cert.KernelIdeal.Gen

variable {F : FTy → Type} [FloatOps F]

local notation "𝕄" => MT nD τ sig Unit (Elt F) ℕ UU ℕ

/-! ## An operation, and a list of them, as a step from one holding to another -/

section Steps
variable (c : Dev nD)

/-- From `A`, the operation runs and leaves `B`. -/
structure Does (A B : sProp 𝕄) (p : Pr F PUnit) : Prop where
  step : ∀ {α : Type} (k : PUnit → Pr F α) (Q : α → sProp 𝕄),
    A ⊢ iprop((B -∗ wp frame (wpE (defs₀ (F := F)) 𝒱₀ (c : Thread nD τ) none) Set.univ (k ⟨⟩) Q)
      -∗ wp frame (wpE (defs₀ (F := F)) 𝒱₀ (c : Thread nD τ) none) Set.univ (p >>= k) Q)

/-- From `A`, the operations run in order and leave `B`. -/
structure DoesAll (A B : sProp 𝕄) (l : List (Pr F PUnit)) : Prop where
  step : ∀ {α : Type} (k : Pr F α) (Q : α → sProp 𝕄),
    A ⊢ iprop((B -∗ wp frame (wpE (defs₀ (F := F)) 𝒱₀ (c : Thread nD τ) none) Set.univ k Q)
      -∗ wp frame (wpE (defs₀ (F := F)) 𝒱₀ (c : Thread nD τ) none) Set.univ (run l k) Q)

variable {c} {A A' B B' C R : sProp (MT nD τ sig Unit (Elt F) ℕ UU ℕ)} {p : Pr F PUnit} {l l' : List (Pr F PUnit)}

theorem DoesAll.nil : DoesAll c A A ([] : List (Pr F PUnit)) := ⟨fun k Q => by
  iintro HA HK
  iapply HK; iexact HA⟩

theorem Does.cons (h : Does c A B p) (h' : DoesAll c B C l) : DoesAll c A C (p :: l) := ⟨fun k Q => by
  show A ⊢ iprop((C -∗ _) -∗ wp _ _ _ (p >>= fun _ => run l k) Q)
  iintro HA HK
  ihave H := (h.step (fun _ => run l k) Q) $$ HA
  iapply H
  iintro HB
  ihave H' := (h'.step k Q) $$ HB
  iapply H'
  iexact HK⟩

theorem DoesAll.append (h : DoesAll c A B l) (h' : DoesAll c B C l') : DoesAll c A C (l ++ l') := ⟨fun k Q => by
  rw [run_append]
  iintro HA HK
  ihave H := (h.step (run l' k) Q) $$ HA
  iapply H
  iintro HB
  ihave H' := (h'.step k Q) $$ HB
  iapply H'
  iexact HK⟩

theorem Does.one (h : Does c A B p) : DoesAll c A B [p] := h.cons .nil

theorem DoesAll.mono (h : DoesAll c A B l) (hA : A' ⊢ A) (hB : B ⊢ B') : DoesAll c A' B' l := ⟨fun k Q => by
  iintro HA HK
  ihave HA := hA $$ HA
  ihave H := (h.step k Q) $$ HA
  iapply H
  iintro HB
  iapply HK
  iapply hB; iexact HB⟩

theorem DoesAll.frame (h : DoesAll c A B l) (R : sProp 𝕄) : DoesAll c iprop(A ∗ R) iprop(B ∗ R) l := ⟨fun k Q => by
  iintro ⟨HA, HR⟩ HK
  ihave H := (h.step k Q) $$ HA
  iapply H
  iintro HB
  iapply HK
  isplitl [HB]; · iexact HB
  iexact HR⟩

/-- All of a list's holdings. -/
def all {I : Type} (l : List I) (A : I → sProp 𝕄) : sProp 𝕄 := l.foldr (fun i p => iprop(A i ∗ p)) iprop(emp)

/-- One operation for each entry of a list, `R` what they hand along. -/
theorem DoesAll.map {I : Type} {op : I → Pr F PUnit} {A B : I → sProp 𝕄} {R : List I → sProp 𝕄}
    (h : ∀ i l, Does c iprop(A i ∗ R (i :: l)) iprop(B i ∗ R l) (op i)) :
    ∀ l : List I, DoesAll c iprop(all l A ∗ R l) iprop(all l B ∗ R []) (l.map op)
  | [] => .nil
  | i :: l => ⟨fun k Q => by
    have ih := (DoesAll.map h l).step k Q
    show iprop((A i ∗ all l A) ∗ R (i :: l)) ⊢ iprop((((B i ∗ all l B) ∗ R []) -∗ _) -∗ wp _ _ _ (op i >>= fun _ => run (l.map op) k) Q)
    iintro ⟨⟨HA, HAs⟩, HR⟩ HK
    ihave H := ((h i l).step (fun _ => run (l.map op) k) Q) $$ [HA HR]
    · isplitl [HA] <;> iassumption
    iapply H
    iintro ⟨HB, HR⟩
    ihave H' := ih $$ [HAs HR]
    · isplitl [HAs] <;> iassumption
    iapply H'
    iintro ⟨HBs, HR⟩
    iapply HK
    isplitl [HB HBs]
    · isplitl [HB] <;> iassumption
    iexact HR⟩

end Steps

/-! ## The records every device shares, and what one owes -/

section Rules
variable (m : (ℓ : Loc nD τ sig) → Buf (Elt F) ℓ)

/-- Every cell's schedule is in force, and its round is open. -/
def recs (K : Dev nD × Slot → ℕ) : sProp 𝕄 :=
  iprop((bigSep Finset.univ fun ck : Dev nD × Slot => cellInv ER (sch m) (K ck) (kcell ck))
    ∗ bigSep Finset.univ fun ck : Dev nD × Slot => reached ER (kcell ck) 0)

instance recs_persistent (K) : BI.Persistent (recs m K) := by unfold recs; infer_instance

theorem recs_inv (K : Dev nD × Slot → ℕ) (ck : Dev nD × Slot) : recs m K ⊢ cellInv ER (sch m) (K ck) (kcell ck) := by
  have h : (bigSep Finset.univ fun ck : Dev nD × Slot => (cellInv ER (sch m) (K ck) (kcell ck) : sProp 𝕄)) ⊢ cellInv ER (sch m) (K ck) (kcell ck) :=
    bigSep_elim (Finset.mem_univ ck)
  unfold recs
  iintro ⟨H, -⟩
  iapply h; iexact H
theorem recs_reached (K : Dev nD × Slot → ℕ) (ck : Dev nD × Slot) : recs m K ⊢ reached ER (kcell ck) 0 := by
  have h : (bigSep Finset.univ fun ck : Dev nD × Slot => (reached ER (kcell ck) 0 : sProp 𝕄)) ⊢ reached ER (kcell ck) 0 := bigSep_elim (Finset.mem_univ ck)
  unfold recs
  iintro ⟨-, H⟩
  iapply h; iexact H

/-- Device `c` owes the payments of `l`. -/
def st (c : Dev nD) (l : List (Dev nD × Slot)) : sProp 𝕄 :=
  iprop((∃ K, recs m K) ∗ levAts L lv ∗ ∃ W, owes (c : Thread nD τ) (owL l) W)

/-- The right to pay into a cell as device `d`; to wait for a cell; its round not begun, and over. -/
def tok (ck : Dev nD × Slot) (d : Dev nD) : sProp 𝕄 := dutyTok ER (kcell ck) 0 d
def credS (c : Dev nD) (k : Slot) (n : ℕ) : sProp 𝕄 := cred (tallyAt (kcell (c, k)) () (n * amt k))
def atS (c : Dev nD) (k : Slot) : sProp 𝕄 := atPos ER (kcell (c, k)) 0 ∅ 0
def doneS (c : Dev nD) (k : Slot) : sProp 𝕄 :=
  iprop(∃ R, ⌜∀ r, R ≤ r → (sch m).duties (kcell (c, k)) r = ∅⌝ ∗ atPos ER (kcell (c, k)) R ∅ 0)

theorem close (K : Dev nD × Slot → ℕ) (c : Dev nD) (k : Slot) : iprop(recs m K ∗ doneS m c k) ⊢ |={Set.univ}=> (semVal (kcell (c, k)) 0 : sProp 𝕄) := by
  unfold doneS
  iintro ⟨#HR, %R, %hR, H⟩
  iapply (Rounds.cell_close ER (sch m) (κ := K (c, k)) (Set.mem_univ _) (fun h => h) (R := R) hR)
  isplitr
  · iapply (recs_inv m K (c, k)); iexact HR
  iexact H

/-- Nothing arrives in a cell nobody pays into. -/
theorem done_of_empty (c : Dev nD) (k : Slot) (h : duty c k = ∅) : atS c k ⊢ doneS m c k := by
  unfold atS doneS
  iintro H
  iexists 0
  isplitr
  · ipureintro
    intro r _
    by_cases hr : r = 0
    · subst hr; rw [sch_duties, h]
    · exact sch_later m _ r (by omega)
  iexact H

/-- A wait for the whole round of a cell. -/
theorem does_wait {c : Dev nD} {k : Slot} {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ (semOf k) (n * amt k) K)
    (hn : (duty c k).card = n) (l : List (Dev nD × Slot)) (hl : ∀ p ∈ l, lvS k < lvS p.2) :
    Does c iprop((credS c k n ∗ atS c k) ∗ st m c l) iprop((bigSep (duty c k) (pay m c k) ∗ doneS m c k) ∗ st m c l) (Prog.lift w) := by
  refine ⟨fun kk Q => ?_⟩
  simp only [Prog.lift, Prog.bind_op, Prog.bind_ret, Prog.pure_eq_ret]
  unfold st credS atS doneS
  iintro ⟨⟨Hc, Hat⟩, ⟨%K, #HR⟩, #Hlev, %W, HO⟩ HK
  iapply (Rounds.wp_wait_rest_token 𝒱₀ ER (sch m) (c : Thread nD τ) none (κ := K (c, k)) hw (Set.mem_univ _) () (O := owL l) (W := W) (R := 0) (m := 0) (T := ∅)
      (by rw [sch_expect, hn, Nat.zero_add])) $$ [Hc HO Hat]
  · isplitr; · iapply (recs_inv m K (c, k)); iexact HR
    isplitl [Hc]; · iexact Hc
    isplitl [HO]; · iexact HO
    isplitr; · iapply (mayWait c k l hl); iexact Hlev
    iexact Hat
  iintro ⟨HO, Hat, -, Hpay⟩
  ihave Hp := (Entails.of_eq (sch_rest m c k)) $$ Hpay
  iapply HK
  isplitl [Hat Hp]
  · isplitl [Hp]; · iexact Hp
    iexists 1
    isplitr; · ipureintro; exact sch_later m _
    iexact Hat
  isplitr
  · iexists K; iexact HR
  isplitr; · iexact Hlev
  iexists _; iexact HO

/-- A wait for one copy. -/
theorem does_waitFor {c : Dev nD} {k : Slot} {sp sp' : Space} {sem : DmaSem sig} {sM : Memref sig .tc sp S8192x128 .f32} {dM : Memref sig .tc sp' S8192x128 .f32}
    (hs : semOf k = .dma sem) (ha : amt k = N) (hN : dM.view.dmaCredit = N) (hn : (duty c k).card = 1) (l : List (Dev nD × Slot)) (hl : ∀ p ∈ l, lvS k < lvS p.2) :
    Does c iprop((credS c k 1 ∗ atS c k) ∗ st m c l) iprop((bigSep (duty c k) (pay m c k) ∗ doneS m c k) ∗ st m c l) (waitFor sem sM dM) :=
  does_wait m (fun K => by
    rw [hs, ha, Nat.one_mul, ← hN]
    exact wpE_waitDma2_eq 𝒱₀ (c : Thread nD τ) none Set.univ K) hn l hl

/-- The barrier wait. -/
theorem does_waitBar (c : Dev nD) (l : List (Dev nD × Slot)) (hl : ∀ p ∈ l, 1 < lvS p.2) :
    Does c iprop((credS c .bar 3 ∗ atS c .bar) ∗ st m c l) iprop((bigSep (duty c .bar) (pay m c .bar) ∗ doneS m c .bar) ∗ st m c l) waitBar :=
  does_wait m (k := .bar) (fun K => wpE_semWait_eq 𝒱₀ (c : Thread nD τ) none Set.univ K)
    (by show (Finset.univ.erase c).card = 3; rw [Finset.card_erase_of_mem (Finset.mem_univ _)]; rfl) l hl

/-- A signal to another device's barrier, what it hands over with it. -/
theorem does_signal (c : Dev nD) (o : Fin 3) (l : List (Dev nD × Slot)) :
    Does c iprop((tok (tgt c o, .bar) c ∗ pay m (tgt c o) .bar c) ∗ st m c ((tgt c o, .bar) :: l)) iprop(emp ∗ st m c l) (signalTo c o) := by
  refine ⟨fun kk Q => ?_⟩
  simp only [signalTo, semSignalWord, Prog.lift, Prog.bind_op, Prog.bind_ret, Prog.pure_eq_ret]
  unfold st tok
  iintro ⟨⟨Ht, Hp⟩, ⟨%K, #HR⟩, #Hlev, %W, HO⟩ HK
  iapply (Rounds.wp_signal 𝒱₀ ER (sch m) (c : Thread nD τ) none (dst := (tgt c o : Thread nD τ)) (κ := K (tgt c o, .bar)) (r := 0)
      (d := c) (by rw [show ((tgt c o : Thread nD τ), SemLoc.reg semBar) = kcell (tgt c o, .bar) from rfl, sch_duties]
                   exact Finset.mem_erase.mpr ⟨by revert c o; decide, Finset.mem_univ _⟩)
      ((sch_amount m (tgt c o) .bar c).trans (by decide)) () (owL l) rfl)
    $$ [HO Ht Hp]
  · isplitr; · iapply (recs_inv m K (tgt c o, .bar)); iexact HR
    isplitl [HO]; · iexact HO
    isplitl [Ht]; · iexact Ht
    isplitl [Hp]
    · rw [show ((tgt c o : Thread nD τ), SemLoc.reg semBar) = kcell (tgt c o, .bar) from rfl, sch_payload]; iexact Hp
    iapply (recs_reached m K (tgt c o, .bar)); iexact HR
  iintro HO
  iapply HK
  isplitr; · iempintro
  isplitr
  · iexists K; iexact HR
  isplitr; · iexact Hlev
  iexists _; iexact HO

variable {sp sp' : Space}

/-- A landed copy holds what its source held. -/
theorem landed {c : Dev nD} (dM : Memref sig .tc sp' S8192x128 .f32) (fd : Buf (Elt F) (dM.view.loc (c : Thread nD τ))) (Y : S8192x128.Idx → Elt F .f32) :
    (dM.view.loc (c : Thread nD τ) ↦[dM.view.set]{fullShare} (dM.view.write (Elt F) fd Y Finset.univ)) ⊢ (owns (c : Thread nD τ) dM fullShare Y : sProp 𝕄) := by
  unfold owns
  iintro H
  iexists (dM.view.write (Elt F) fd Y Finset.univ)
  isplitr; · ipureintro; exact View.read_write_univ _ _
  iexact H

/-- A copy to another device: the source comes back on `kS`, the landed copy is paid into the target's `kR`. -/
theorem does_send {c d : Dev nD} {kS kR : Slot} {sM : Memref sig .tc sp S8192x128 .f32} {dM : Memref sig .tc sp' S8192x128 .f32} {sS sR : DmaSem sig}
    {hsc : dM.view.ref.isScScratch = false}
    {hsem : DmaTarget.Typed (nD := nD) (τ := τ) sp (.dma sR : SemLoc sig) (.remote (Dev.tc d) dM (.dma sS) hsc : DmaTarget nD τ sig .tc sp' S8192x128 .f32)}
    (hS : semOf kS = .dma sS) (hR : semOf kR = .dma sR) (haS : amt kS = N) (haR : amt kR = N) (hN : dM.view.dmaCredit = N)
    (hdS : c ∈ duty c kS) (hdR : c ∈ duty d kR) (Y : S8192x128.Idx → Elt F .f32)
    (hpS : owns (c : Thread nD τ) sM fullShare Y ⊢ pay m c kS c)
    (hpR : owns (d : Thread nD τ) dM fullShare Y ⊢ pay m d kR c) (l : List (Dev nD × Slot)) :
    Does c iprop((owns (c : Thread nD τ) sM fullShare Y ∗ (∃ Z, owns (d : Thread nD τ) dM fullShare Z) ∗ tok (c, kS) c ∗ tok (d, kR) c) ∗ st m c ((d, kR) :: l))
      iprop(credS c kS 1 ∗ st m c l) (sendTo sM d dM sS sR hsc hsem) := by
  refine ⟨fun kk Q => ?_⟩
  simp only [sendTo, Prog.lift, Prog.bind_op, Prog.bind_ret, Prog.pure_eq_ret]
  unfold st tok credS
  have eS : ((c : Thread nD τ), SemLoc.dma sS) = kcell (c, kS) := by unfold kcell; rw [hS]
  have eR : ((d : Thread nD τ), SemLoc.dma sR) = kcell (d, kR) := by unfold kcell; rw [hR]
  rw [haS, Nat.one_mul]
  iintro ⟨⟨Hs, ⟨%Z, Hd⟩, Ht, Ht'⟩, ⟨%K, #HR⟩, #Hlev, %W, HO⟩ HK
  ihave Hs := (show owns (c : Thread nD τ) sM fullShare Y ⊢ iprop(∃ f, ⌜sM.view.read (Elt F) f = Y⌝ ∗ (sM.view.loc (c : Thread nD τ) ↦[sM.view.set]{fullShare} f)) from BI.Entails.refl _) $$ Hs
  ihave Hd := (show owns (d : Thread nD τ) dM fullShare Z ⊢ iprop(∃ f, ⌜dM.view.read (Elt F) f = Z⌝ ∗ (dM.view.loc (d : Thread nD τ) ↦[dM.view.set]{fullShare} f)) from BI.Entails.refl _) $$ Hd
  icases Hs with ⟨%fs, %hs, Hs⟩
  icases Hd with ⟨%fd, %hfd, Hd⟩
  iapply (Rounds.wp_send_pointsTo 𝒱₀ ER (sch m) (c : Thread nD τ) none (c' := (d : Thread nD τ)) (κ₁ := K (c, kS)) (κ₂ := K (d, kR))
    (r₁ := 0) (r₂ := 0) (d₁ := c) (d₂ := c) (sem := .dma sR) (fs := fs) (fd := fd)
    (by rw [eS, sch_duties]; exact hdS) (by rw [eR, sch_duties]; exact hdR)
    () () N hN (by rw [eS, sch_amount, haS]) (by rw [eR, sch_amount, haR]) (O₀ := owL ((d, kR) :: l)) (owL l)
    (by rw [eR, ← haR]; rfl) (W := W)
    (by subst hs; rw [eS, sch_payload]; exact (owns_intro (c : Thread nD τ) sM fullShare fs).trans hpS)
    (by rw [eR, sch_payload, hs]; exact (landed dM fd Y).trans hpR)) $$ [Hs Hd HO Ht Ht']
  · rw [eS, eR]
    isplitr; · iapply (recs_inv m K (c, kS)); iexact HR
    isplitr; · iapply (recs_inv m K (d, kR)); iexact HR
    isplitl [Hs]; · iexact Hs
    isplitl [Hd]; · iexact Hd
    isplitl [HO]; · iexact HO
    isplitl [Ht]; · iexact Ht
    isplitr; · iapply (recs_reached m K (c, kS)); iexact HR
    isplitl [Ht']; · iexact Ht'
    iapply (recs_reached m K (d, kR)); iexact HR
  rw [eS]
  iintro ⟨HC, HO⟩
  iapply HK
  isplitl [HC]; · iexact HC
  isplitr
  · iexists K; iexact HR
  isplitr; · iexact Hlev
  iexists _; iexact HO

/-- A copy on the device: source and landed copy come back on `k`. -/
theorem does_copy {c : Dev nD} {k : Slot} {sM : Memref sig .tc sp S8192x128 .f32} {dM : Memref sig .tc sp' S8192x128 .f32} {sR : DmaSem sig}
    {hsem : DmaTarget.Typed (nD := nD) (τ := τ) sp (.dma sR : SemLoc sig) (.here dM : DmaTarget nD τ sig .tc sp' S8192x128 .f32)}
    (hR : semOf k = .dma sR) (haR : amt k = N) (hN : dM.view.dmaCredit = N) (hdR : c ∈ duty c k) (Y : S8192x128.Idx → Elt F .f32)
    (hp : iprop(owns (c : Thread nD τ) sM fullShare Y ∗ owns (c : Thread nD τ) dM fullShare Y) ⊢ pay m c k c) (l : List (Dev nD × Slot)) :
    Does c iprop((owns (c : Thread nD τ) sM fullShare Y ∗ (∃ Z, owns (c : Thread nD τ) dM fullShare Z) ∗ tok (c, k) c) ∗ st m c l)
      iprop(credS c k 1 ∗ st m c l) (copyHere sM dM sR hsem) := by
  refine ⟨fun kk Q => ?_⟩
  simp only [copyHere, Prog.lift, Prog.bind_op, Prog.bind_ret, Prog.pure_eq_ret]
  unfold st tok credS
  have eR : ((c : Thread nD τ), SemLoc.dma sR) = kcell (c, k) := by unfold kcell; rw [hR]
  rw [haR, Nat.one_mul]
  iintro ⟨⟨Hs, ⟨%Z, Hd⟩, Ht⟩, ⟨%K, #HR⟩, #Hlev, %W, HO⟩ HK
  ihave Hs := (show owns (c : Thread nD τ) sM fullShare Y ⊢ iprop(∃ f, ⌜sM.view.read (Elt F) f = Y⌝ ∗ (sM.view.loc (c : Thread nD τ) ↦[sM.view.set]{fullShare} f)) from BI.Entails.refl _) $$ Hs
  ihave Hd := (show owns (c : Thread nD τ) dM fullShare Z ⊢ iprop(∃ f, ⌜dM.view.read (Elt F) f = Z⌝ ∗ (dM.view.loc (c : Thread nD τ) ↦[dM.view.set]{fullShare} f)) from BI.Entails.refl _) $$ Hd
  icases Hs with ⟨%fs, %hs, Hs⟩
  icases Hd with ⟨%fd, %hfd, Hd⟩
  iapply (Rounds.wp_copy_pointsTo 𝒱₀ ER (sch m) (c : Thread nD τ) none (κ := K (c, k)) (r := 0) (d := c) (sem := .dma sR) (fs := fs) (fd := fd)
    (by rw [eR, sch_duties]; exact hdR) () N hN (by rw [eR, sch_amount, haR])
    (by rw [eR, sch_payload]
        refine BIBase.Entails.trans ?_ hp
        subst hs
        iintro ⟨H, H'⟩
        isplitl [H']
        · iapply (owns_intro (c : Thread nD τ) sM fullShare fs); iexact H'
        · iapply (landed dM fd _); iexact H)) $$ [Hs Hd Ht]
  · rw [eR]
    isplitr; · iapply (recs_inv m K (c, k)); iexact HR
    isplitl [Hs]; · iexact Hs
    isplitl [Hd]; · iexact Hd
    isplitl [Ht]; · iexact Ht
    iapply (recs_reached m K (c, k)); iexact HR
  rw [eR]
  iintro HC
  iapply HK
  isplitl [HC]; · iexact HC
  isplitr
  · iexists K; iexact HR
  isplitr; · iexact Hlev
  iexists _; iexact HO

end Rules

end Cert.Proof

end
-- ==== Proof.Pieces.lean ====
/-
  The pieces of the buffers: each buffer is the pieces the exchange moves, and a list of holdings is a
  separating product.
-/
module

public import proofs.«01_k».proof.Proof.Rules

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal Cert.KernelIdeal.Gen

variable {F : FTy → Type} [FloatOps F]

local notation "𝕄" => MT nD τ sig Unit (Elt F) ℕ UU ℕ

/-! ## Products as equalities -/

section Products

theorem sep_assoc_eq (P Q R : sProp 𝕄) : iprop((P ∗ Q) ∗ R) = iprop(P ∗ Q ∗ R) := BI.equiv_iff.mp ⟨BI.sep_assoc, BI.sep_assoc'⟩
theorem sep_comm_eq (P Q : sProp 𝕄) : iprop(P ∗ Q) = iprop(Q ∗ P) := BI.equiv_iff.mp ⟨BI.sep_comm, BI.sep_comm⟩
theorem emp_sep_eq (P : sProp 𝕄) : iprop(emp ∗ P) = P := BI.equiv_iff.mp BI.emp_sep
theorem sep_emp_eq (P : sProp 𝕄) : iprop(P ∗ emp) = P := BI.equiv_iff.mp BI.sep_emp

instance sepAssoc : Std.Associative (fun P Q : sProp 𝕄 => iprop(P ∗ Q)) := ⟨sep_assoc_eq⟩
instance sepComm : Std.Commutative (fun P Q : sProp 𝕄 => iprop(P ∗ Q)) := ⟨sep_comm_eq⟩

variable {I J : Type}

theorem all_nil (A : I → sProp 𝕄) : all [] A = iprop(emp) := rfl
theorem all_cons (i : I) (l : List I) (A : I → sProp 𝕄) : all (i :: l) A = iprop(A i ∗ all l A) := rfl

theorem all_append (l l' : List I) (A : I → sProp 𝕄) : all (l ++ l') A = iprop(all l A ∗ all l' A) := by
  induction l with
  | nil => exact (emp_sep_eq _).symm
  | cons i l ih => rw [List.cons_append, all_cons, ih, all_cons, sep_assoc_eq]

theorem all_map (f : J → I) (l : List J) (A : I → sProp 𝕄) : all (l.map f) A = all l fun j => A (f j) := by
  induction l with
  | nil => rfl
  | cons i l ih => rw [List.map_cons, all_cons, ih, all_cons]

theorem all_sep (l : List I) (A B : I → sProp 𝕄) : all l (fun i => iprop(A i ∗ B i)) = iprop(all l A ∗ all l B) := by
  induction l with
  | nil => exact (emp_sep_eq _).symm
  | cons i l ih => rw [all_cons, all_cons, all_cons, ih]; ac_rfl

theorem all_mono {l : List I} {A B : I → sProp 𝕄} (h : ∀ i ∈ l, A i ⊢ B i) : all l A ⊢ all l B := by
  induction l with
  | nil => exact BI.Entails.refl _
  | cons i l ih => exact BI.Laws.sep_mono (h i List.mem_cons_self) (ih fun j hj => h j (List.mem_cons_of_mem _ hj))

theorem bigSep_list [DecidableEq I] (l : List I) (hl : l.Nodup) (A : I → sProp 𝕄) : bigSep l.toFinset A = all l A := by
  induction l with
  | nil => rfl
  | cons i l ih =>
    rw [List.toFinset_cons, bigSep_insert (by simpa using (List.nodup_cons.mp hl).1), ih (List.nodup_cons.mp hl).2]; rfl

theorem bigSep_univ_list [DecidableEq I] [Fintype I] (l : List I) (hl : l.Nodup) (h : ∀ i, i ∈ l) (A : I → sProp 𝕄) : bigSep Finset.univ A = all l A := by
  rw [← bigSep_list l hl]; congr 1; ext i; simp [h i]

end Products

/-! ## The devices, and a device's cells, from where it stands -/

def os : List (Fin 3) := [0, 1, 2]
def bos : List (Fin 2 × Fin 3) := [(0, 0), (0, 1), (0, 2), (1, 0), (1, 1), (1, 2)]

theorem devs_tgt (c : Dev nD) (A : Dev nD → sProp 𝕄) : bigSep Finset.univ A = iprop(A c ∗ all os fun o => A (tgt c o)) := by
  rw [bigSep_univ_list (c :: os.map (tgt c)) (by revert c; decide) (by revert c; decide), all_cons, all_map]
theorem devs_src (c : Dev nD) (A : Dev nD → sProp 𝕄) : bigSep Finset.univ A = iprop(A c ∗ all os fun o => A (src c o)) := by
  rw [bigSep_univ_list (c :: os.map (src c)) (by revert c; decide) (by revert c; decide), all_cons, all_map]
theorem devs_others (c : Dev nD) (A : Dev nD → sProp 𝕄) : bigSep (Finset.univ.erase c) A = all os fun o => A (tgt c o) := by
  rw [show Finset.univ.erase c = (os.map (tgt c)).toFinset by revert c; decide, bigSep_list _ (by revert c; decide), all_map]

/-- The cells of one chunk. -/
def chunkSlots (c : Dev nD) (b : Fin 2) : List Slot :=
  os.map (fun o => Slot.sa o b) ++ (os.map (fun o => Slot.sc o b) ++ (os.map (fun o => Slot.ra (src c o) b) ++ (os.map (fun o => Slot.rc (src c o) b)
    ++ [.ra c b, .rc c b, .cp b, .lc b])))

/-- The holdings at the cells of one chunk. -/
def chunkAt (A : Slot → sProp 𝕄) (c : Dev nD) (b : Fin 2) : sProp 𝕄 :=
  iprop((all os fun o => A (.sa o b)) ∗ (all os fun o => A (.sc o b)) ∗ (all os fun o => A (.ra (src c o) b)) ∗ (all os fun o => A (.rc (src c o) b))
    ∗ A (.ra c b) ∗ A (.rc c b) ∗ A (.cp b) ∗ A (.lc b))

theorem all_chunk (A : Slot → sProp 𝕄) (c : Dev nD) (b : Fin 2) : all (chunkSlots c b) A = chunkAt A c b := by
  unfold chunkSlots chunkAt
  rw [all_append, all_append, all_append, all_append, all_map, all_map, all_map, all_map, all_cons, all_cons, all_cons, all_cons, all_nil, sep_emp_eq]

theorem slots_nodup : ∀ c : Dev nD, (Slot.bar :: (chunkSlots c 0 ++ chunkSlots c 1)).Nodup := by decide +kernel
theorem slots_all : ∀ (c : Dev nD) (k : Slot), k ∈ Slot.bar :: (chunkSlots c 0 ++ chunkSlots c 1) := by decide +kernel

theorem slots_eq (c : Dev nD) (A : Slot → sProp 𝕄) : bigSep Finset.univ A = iprop(A .bar ∗ chunkAt A c 0 ∗ chunkAt A c 1) := by
  rw [bigSep_univ_list _ (slots_nodup c) (slots_all c), all_cons, all_append, all_chunk, all_chunk]

/-! ## A buffer and its pieces -/

theorem row_disj (s s' : Dev nD) (h : s ≠ s') : Disjoint (rowR s).set (rowR s').set :=
  Rect.unit_disjoint (s := S32768x128) (off := ![8192 * s.val, 0]) (off' := ![8192 * s'.val, 0]) 0 (by
    show 8192 * s.val + 8192 ≤ 8192 * s'.val ∨ 8192 * s'.val + 8192 ≤ 8192 * s.val
    have : s.val ≠ s'.val := fun e => h (Fin.ext e)
    omega)

theorem row_cover : (Finset.univ : Finset (Dev nD)).biUnion (fun s => (rowR s).set) = Finset.univ := by
  ext i
  have h0 := idx2_lt0 i
  have h1 := idx2_lt1 i
  simp only [Finset.mem_biUnion, Finset.mem_univ, true_and, iff_true]
  refine ⟨(⟨(i 0).val / 8192, by have : nD = 4 := rfl; omega⟩ : Dev nD), Rect.mem_set_unit.mpr fun a => ?_⟩
  match a with
  | ⟨0, _⟩ =>
    show 8192 * ((i 0).val / 8192) ≤ (i 0).val ∧ (i 0).val < 8192 * ((i 0).val / 8192) + 8192
    omega
  | ⟨1, _⟩ =>
    show 0 ≤ (i 1).val ∧ (i 1).val < 0 + 128
    omega

theorem col_disj (p q : Dev nD × Fin 2) (h : p ≠ q) : Disjoint (colR p.1 p.2).set (colR q.1 q.2).set :=
  Rect.unit_disjoint (s := S8192x1024) (off := ![0, 256 * p.1.val + 128 * p.2.val]) (off' := ![0, 256 * q.1.val + 128 * q.2.val]) 1 (by
    show 256 * p.1.val + 128 * p.2.val + 128 ≤ 256 * q.1.val + 128 * q.2.val ∨ 256 * q.1.val + 128 * q.2.val + 128 ≤ 256 * p.1.val + 128 * p.2.val
    have : ¬ (p.1.val = q.1.val ∧ p.2.val = q.2.val) := fun e => h (Prod.ext (Fin.ext e.1) (Fin.ext e.2))
    have := p.2.isLt
    have := q.2.isLt
    omega)

theorem col_cover : (Finset.univ : Finset (Dev nD × Fin 2)).biUnion (fun p => (colR p.1 p.2).set) = Finset.univ := by
  ext i
  have h0 := idx2_lt0 i
  have h1 := idx2_lt1 i
  simp only [Finset.mem_biUnion, Finset.mem_univ, true_and, iff_true]
  refine ⟨((⟨(i 1).val / 256, by have : nD = 4 := rfl; omega⟩ : Dev nD), (⟨(i 1).val % 256 / 128, by omega⟩ : Fin 2)), Rect.mem_set_unit.mpr fun a => ?_⟩
  match a with
  | ⟨0, _⟩ =>
    show 0 ≤ (i 0).val ∧ (i 0).val < 0 + 8192
    omega
  | ⟨1, _⟩ =>
    show 256 * ((i 1).val / 256) + 128 * ((i 1).val % 256 / 128) ≤ (i 1).val
      ∧ (i 1).val < 256 * ((i 1).val / 256) + 128 * ((i 1).val % 256 / 128) + 128
    omega

/-- A device's rows are the columns of each device's two chunks. -/
theorem cols_split (c : Dev nD) (M : Memref sig .tc .hbm S8192x1024 .f32) (Y : S8192x1024.Idx → Elt F .f32) :
    (owns (c : Thread nD τ) M fullShare Y : sProp 𝕄) ⊢ bigSep Finset.univ fun p : Dev nD × Fin 2 =>
      owns (c : Thread nD τ) (colsAt M ![0, 256 * p.1.val + 128 * p.2.val] (inbCol p.1 p.2)) fullShare fun j => Y ((colR p.1 p.2).emb j) :=
  owns_rects (c : Thread nD τ) M fullShare (fun p : Dev nD × Fin 2 => colR p.1 p.2) (fun _ _ => rfl) col_disj col_cover Y
theorem cols_join (c : Dev nD) (M : Memref sig .tc .hbm S8192x1024 .f32) (Y : S8192x1024.Idx → Elt F .f32) :
    (bigSep Finset.univ fun p : Dev nD × Fin 2 =>
      (owns (c : Thread nD τ) (colsAt M ![0, 256 * p.1.val + 128 * p.2.val] (inbCol p.1 p.2)) fullShare fun j => Y ((colR p.1 p.2).emb j) : sProp 𝕄))
      ⊢ owns (c : Thread nD τ) M fullShare Y :=
  owns_of_rects (c : Thread nD τ) M fullShare (fun p : Dev nD × Fin 2 => colR p.1 p.2) (fun _ _ => rfl) col_disj col_cover Y

/-- A column buffer is each device's rows. -/
theorem rows_split (c : Dev nD) (M : Memref sig .tc .vmem S32768x128 .f32) (Y : S32768x128.Idx → Elt F .f32) :
    (owns (c : Thread nD τ) M fullShare Y : sProp 𝕄) ⊢ bigSep Finset.univ fun s : Dev nD =>
      owns (c : Thread nD τ) (rowsAt M ![8192 * s.val, 0] (inbRow s)) fullShare fun j => Y ((rowR s).emb j) :=
  owns_rects (c : Thread nD τ) M fullShare (fun s : Dev nD => rowR s) (fun _ _ => rfl) row_disj row_cover Y
theorem rows_join (c : Dev nD) (M : Memref sig .tc .vmem S32768x128 .f32) (Y : S32768x128.Idx → Elt F .f32) :
    (bigSep Finset.univ fun s : Dev nD =>
      (owns (c : Thread nD τ) (rowsAt M ![8192 * s.val, 0] (inbRow s)) fullShare fun j => Y ((rowR s).emb j) : sProp 𝕄))
      ⊢ owns (c : Thread nD τ) M fullShare Y :=
  owns_of_rects (c : Thread nD τ) M fullShare (fun s : Dev nD => rowR s) (fun _ _ => rfl) row_disj row_cover Y

theorem cols_eq (c : Dev nD) (A : Dev nD × Fin 2 → sProp 𝕄) :
    bigSep Finset.univ A = iprop((A (c, 0) ∗ all os fun o => A (tgt c o, 0)) ∗ (A (c, 1) ∗ all os fun o => A (tgt c o, 1))) := by
  rw [bigSep_univ_prod, devs_tgt c]
  have h (d : Dev nD) : (bigSep Finset.univ fun b : Fin 2 => A (d, b)) = iprop(A (d, 0) ∗ A (d, 1)) := by
    rw [bigSep_univ_list [0, 1] (by decide) (by decide), all_cons, all_cons, all_nil, sep_emp_eq]
  simp only [h, all_sep]
  ac_rfl
theorem cols_eq_src (c : Dev nD) (A : Dev nD × Fin 2 → sProp 𝕄) :
    bigSep Finset.univ A = iprop((A (c, 0) ∗ all os fun o => A (src c o, 0)) ∗ (A (c, 1) ∗ all os fun o => A (src c o, 1))) := by
  rw [bigSep_univ_prod, devs_src c]
  have h (d : Dev nD) : (bigSep Finset.univ fun b : Fin 2 => A (d, b)) = iprop(A (d, 0) ∗ A (d, 1)) := by
    rw [bigSep_univ_list [0, 1] (by decide) (by decide), all_cons, all_cons, all_nil, sep_emp_eq]
  simp only [h, all_sep]
  ac_rfl

theorem vM_set (b : Fin 2) : (vM b).view.set = Finset.univ := by
  match b with
  | 0 => exact View.set_whole _
  | 1 => exact View.set_whole _

theorem holds_eq (c : Dev nD) (b : Fin 2) (g : Col F) : (holds c (vM b) g : sProp 𝕄) = owns (c : Thread nD τ) (vM b) fullShare g := by
  unfold holds owns
  rw [vM_set]
  congr 1; funext f
  exact sep_comm_eq _ _

section Held
variable (m : (ℓ : Loc nD τ sig) → Buf (Elt F) ℓ)

theorem x_split (c : Dev nD) : (owns (c : Thread nD τ) xM fullShare (X m c) : sProp 𝕄)
    ⊢ iprop((xOwn m c c 0 ∗ all os fun o => xOwn m c (tgt c o) 0) ∗ (xOwn m c c 1 ∗ all os fun o => xOwn m c (tgt c o) 1)) := by
  refine (cols_split c xM (X m c)).trans (Entails.of_eq ?_)
  exact cols_eq c fun p => xOwn m c p.1 p.2
theorem x_join (c : Dev nD) :
    iprop((xOwn m c c 0 ∗ all os fun o => xOwn m c (tgt c o) 0) ∗ (xOwn m c c 1 ∗ all os fun o => xOwn m c (tgt c o) 1))
      ⊢ (owns (c : Thread nD τ) xM fullShare (X m c) : sProp 𝕄) := by
  refine (Entails.of_eq ?_).trans (cols_join c xM (X m c))
  exact (cols_eq c fun p => xOwn m c p.1 p.2).symm

theorem o_split (c : Dev nD) (Y : S8192x1024.Idx → Elt F .f32) : (owns (c : Thread nD τ) oM fullShare Y : sProp 𝕄)
    ⊢ iprop((oAny c c 0 ∗ all os fun o => oAny c (tgt c o) 0) ∗ (oAny c c 1 ∗ all os fun o => oAny c (tgt c o) 1)) := by
  have h (p : Dev nD × Fin 2) : (owns (c : Thread nD τ) (oCol p.1 p.2) fullShare fun j => Y ((colR p.1 p.2).emb j)) ⊢ oAny (F := F) c p.1 p.2 := by
    unfold oAny
    iintro H
    iexists _; iexact H
  rw [← cols_eq c fun p => oAny (F := F) c p.1 p.2]
  exact (cols_split c oM Y).trans (bigSep_mono fun p _ => h p)
theorem o_join (c : Dev nD) :
    iprop((oOut m c c 0 ∗ all os fun o => oOut m c (src c o) 0) ∗ (oOut m c c 1 ∗ all os fun o => oOut m c (src c o) 1))
      ⊢ (owns (c : Thread nD τ) oM fullShare (outOf m c) : sProp 𝕄) := by
  rw [← cols_eq_src c fun p => oOut m c p.1 p.2]
  refine BIBase.Entails.trans (Entails.of_eq ?_) (cols_join c oM (outOf m c))
  refine bigSep_congr fun p _ => ?_
  unfold oOut
  rw [← out_col]

theorem v_split (c : Dev nD) (b : Fin 2) (Y : Col F) : (owns (c : Thread nD τ) (vM b) fullShare Y : sProp 𝕄)
    ⊢ iprop(vAny c b c ∗ all os fun o => vAny c b (tgt c o)) := by
  have h (s : Dev nD) : (owns (c : Thread nD τ) (vRow b s) fullShare fun j => Y ((rowR s).emb j)) ⊢ vAny (F := F) c b s := by
    unfold vAny
    iintro H
    iexists _; iexact H
  rw [← devs_tgt c fun s => vAny (F := F) c b s]
  exact (rows_split c (vM b) Y).trans (bigSep_mono fun s _ => h s)
theorem v_gather (c : Dev nD) (b : Fin 2) :
    iprop(vIn m c b c ∗ all os fun o => vIn m c b (src c o)) ⊢ (holds c (vM b) (gathered m c b) : sProp 𝕄) := by
  rw [← devs_src c fun s => vIn m c b s, holds_eq]
  refine BIBase.Entails.trans (Entails.of_eq ?_) (rows_join c (vM b) (gathered m c b))
  refine bigSep_congr fun s _ => ?_
  unfold vIn
  rw [← gathered_row]
theorem v_scatter (c : Dev nD) (b : Fin 2) :
    (holds c (vM b) (sorted m c b) : sProp 𝕄) ⊢ iprop(vOut m c b c ∗ all os fun o => vOut m c b (tgt c o)) := by
  rw [← devs_tgt c fun s => vOut m c b s, holds_eq]
  exact rows_split c (vM b) (sorted m c b)
theorem v_join (c : Dev nD) (b : Fin 2) :
    iprop(vOut m c b c ∗ all os fun o => vOut m c b (tgt c o)) ⊢ (holds c (vM b) (sorted m c b) : sProp 𝕄) := by
  rw [← devs_tgt c fun s => vOut m c b s, holds_eq]
  exact rows_join c (vM b) (sorted m c b)

end Held

end Cert.Proof

end
-- ==== Proof.Segments.lean ====
/-
  The exchange in pieces: the signals, the copies in, the waits for them, the copies back, and theirs.
-/
module

public import proofs.«01_k».proof.Proof.Pieces

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## What is still owed -/

/-- Payments of one kind to the other devices. -/
abbrev toOthers (c : Dev nD) (r : Slot) : List (Dev nD × Slot) := os.map fun o => (tgt c o, r)

/-- What is owed once the inward copies are sent, and once the first outward ones are. -/
abbrev owed2 (c : Dev nD) : List (Dev nD × Slot) := toOthers c (.rc c 0) ++ (toOthers c (.rc c 1) ++ [])
abbrev owed1 (c : Dev nD) : List (Dev nD × Slot) := toOthers c (.ra c 0) ++ (toOthers c (.ra c 1) ++ owed2 c)

theorem owing_eq : owing c = toOthers c .bar ++ owed1 c := rfl

theorem mem_toOthers {p : Dev nD × Slot} {r : Slot} (h : p ∈ toOthers c r) : p.2 = r := by
  obtain ⟨o, -, rfl⟩ := List.mem_map.mp h; rfl

theorem lv_nil (n : ℕ) : ∀ p ∈ ([] : List (Dev nD × Slot)), n < lvS p.2 := fun p hp => absurd hp List.not_mem_nil
theorem lv_toOthers {n : ℕ} {r : Slot} {l : List (Dev nD × Slot)} (h : n < lvS r) (hl : ∀ p ∈ l, n < lvS p.2) : ∀ p ∈ toOthers c r ++ l, n < lvS p.2 := by
  intro p hp
  rcases List.mem_append.mp hp with hp | hp
  · rw [mem_toOthers c hp]; exact h
  · exact hl p hp

theorem lv3 (n : ℕ) (h : n < 3) : ∀ p ∈ toOthers c (.rc c 1) ++ [], n < lvS p.2 := lv_toOthers c h (lv_nil n)
theorem lv2 (n : ℕ) (h : n < 3) : ∀ p ∈ owed2 c, n < lvS p.2 := lv_toOthers c h (lv3 c n h)
theorem lv1 (n : ℕ) (h : n < 2) : ∀ p ∈ owed1 c, n < lvS p.2 := lv_toOthers c h (lv_toOthers c h (lv2 c n (by omega)))

/-! ## Who pays -/

theorem src_ne (o : Fin 3) : src c o ≠ c := by revert c o; decide
theorem tgt_ne (o : Fin 3) : c ≠ tgt c o := by revert c o; decide

theorem duty_ra (o : Fin 3) (b : Fin 2) : duty c (.ra (src c o) b) = {src c o} := if_neg (src_ne c o)
theorem duty_rc (o : Fin 3) (b : Fin 2) : duty c (.rc (src c o) b) = {src c o} := if_neg (src_ne c o)
theorem pays_ra (o : Fin 3) (b : Fin 2) : c ∈ duty (tgt c o) (.ra c b) := by
  show c ∈ (if c = tgt c o then ∅ else {c} : Finset (Dev nD)); rw [if_neg (tgt_ne c o)]; exact Finset.mem_singleton_self c
theorem pays_rc (o : Fin 3) (b : Fin 2) : c ∈ duty (tgt c o) (.rc c b) := by
  show c ∈ (if c = tgt c o then ∅ else {c} : Finset (Dev nD)); rw [if_neg (tgt_ne c o)]; exact Finset.mem_singleton_self c
theorem empty_ra (b : Fin 2) : duty c (.ra c b) = ∅ := if_pos rfl
theorem empty_rc (b : Fin 2) : duty c (.rc c b) = ∅ := if_pos rfl

theorem credit_v (b : Fin 2) (s : Dev nD) : (vRow b s).view.dmaCredit = N := by
  match b with
  | 0 => rfl
  | 1 => rfl
theorem credit_rows (b : Fin 2) (off h) : (rowsAt (vM b) off h).view.dmaCredit = N := by
  match b with
  | 0 => rfl
  | 1 => rfl

theorem credit_cols (M : Memref sig .tc .hbm S8192x1024 .f32) (off h) : (colsAt M off h).view.dmaCredit = N := rfl

/-! ## The waits' cells -/

theorem sem_ra (o : Fin 3) (b : Fin 2) : semOf (.ra (src c o) b) = .dma (semAt cc0_scratch3 (offFrom c o b) (offFrom_inb c o b)) :=
  congrArg SemLoc.dma (semAt_congr (offFrom_eq c o b)).symm
theorem sem_rc (o : Fin 3) (b : Fin 2) : semOf (.rc (src c o) b) = .dma (semAt cc0_scratch5 (offFrom c o b) (offFrom_inb c o b)) :=
  congrArg SemLoc.dma (semAt_congr (offFrom_eq c o b)).symm

/-- What a wait takes, and what it gives when one device pays. -/
def waiting (c : Dev nD) (k : Slot) : sProp 𝕄 := iprop(credS c k 1 ∗ atS c k)

theorem does_waitFrom {k : Slot} {sp sp' : Space} {sem : DmaSem sig} {sM : Memref sig .tc sp S8192x128 .f32} {dM : Memref sig .tc sp' S8192x128 .f32} (d : Dev nD)
    (hs : semOf k = .dma sem) (ha : amt k = N) (hN : dM.view.dmaCredit = N) (hn : duty c k = {d}) (l : List (Dev nD × Slot)) (hl : ∀ p ∈ l, lvS k < lvS p.2) :
    Does c iprop(waiting c k ∗ st m c l) iprop((pay m c k d ∗ doneS m c k) ∗ st m c l) (waitFor sem sM dM) := by
  have h := does_waitFor m (c := c) (k := k) (sM := sM) (dM := dM) hs ha hN (by rw [hn, Finset.card_singleton]) l hl
  rw [hn, bigSep_singleton] at h
  exact h

/-! ## The segments -/

/-- The signals. -/
theorem seg_signal (l : List (Dev nD × Slot)) :
    DoesAll c iprop((all os fun o => iprop(tok (tgt c o, .bar) c ∗ pay m (tgt c o) .bar c)) ∗ st m c (toOthers c .bar ++ l))
      iprop((all os fun _ => iprop(emp)) ∗ st m c l) (os.map (signalTo (F := F) c)) :=
  DoesAll.map (R := fun i => st m c (i.map (fun o => (tgt c o, Slot.bar)) ++ l)) (fun o i => does_signal m c o _) os

/-- The inward copies of a chunk. -/
theorem seg_sendA (b : Fin 2) (l : List (Dev nD × Slot)) :
    DoesAll c iprop((all os fun o => iprop(xOwn m c (tgt c o) b ∗ vAny (tgt c o) b c ∗ tok (c, .sa o b) c ∗ tok (tgt c o, .ra c b) c)) ∗ st m c (toOthers c (.ra c b) ++ l))
      iprop((all os fun o => credS c (.sa o b) 1) ∗ st m c l) (os.map (sendA (F := F) c b)) :=
  DoesAll.map (R := fun i => st m c (i.map (fun o => (tgt c o, Slot.ra c b)) ++ l))
    (fun o i => does_send m (kS := .sa o b) (kR := .ra c b) rfl rfl rfl rfl (credit_v b c) (Finset.mem_singleton_self c) (pays_ra c o b) (xP m c (tgt c o) b)
      (BI.Entails.refl _) (BI.Entails.refl _) _) os

/-- The outward copies of a chunk. -/
theorem seg_sendC (b : Fin 2) (l : List (Dev nD × Slot)) :
    DoesAll c iprop((all os fun o => iprop(vOut m c b (tgt c o) ∗ oAny (tgt c o) c b ∗ tok (c, .sc o b) c ∗ tok (tgt c o, .rc c b) c)) ∗ st m c (toOthers c (.rc c b) ++ l))
      iprop((all os fun o => credS c (.sc o b) 1) ∗ st m c l) (os.map (sendC (F := F) c b)) :=
  DoesAll.map (R := fun i => st m c (i.map (fun o => (tgt c o, Slot.rc c b)) ++ l))
    (fun o i => does_send m (kS := .sc o b) (kR := .rc c b) rfl rfl rfl rfl (credit_cols _ _ _) (Finset.mem_singleton_self c) (pays_rc c o b) (sP m c b (tgt c o))
      (BI.Entails.refl _) (BI.Entails.refl _) _) os

/-- A device's own copies. -/
theorem seg_copyIn (b : Fin 2) (l : List (Dev nD × Slot)) :
    DoesAll c iprop((xOwn m c c b ∗ vAny c b c ∗ tok (c, .cp b) c) ∗ st m c l) iprop(credS c (.cp b) 1 ∗ st m c l) [copyIn (F := F) c b] :=
  Does.one (does_copy m (k := .cp b) rfl rfl (credit_v b c) (Finset.mem_singleton_self c) (xP m c c b) (BI.Entails.refl _) l)
theorem seg_copyOut (b : Fin 2) (l : List (Dev nD × Slot)) :
    DoesAll c iprop((vOut m c b c ∗ oAny c c b ∗ tok (c, .lc b) c) ∗ st m c l) iprop(credS c (.lc b) 1 ∗ st m c l) [copyOut (F := F) c b] :=
  Does.one (does_copy m (k := .lc b) rfl rfl (credit_cols _ _ _) (Finset.mem_singleton_self c) (sP m c b c) (BI.Entails.refl _) l)

/-- The waits. -/
theorem seg_waitIn (b : Fin 2) (l : List (Dev nD × Slot)) (hl : ∀ p ∈ l, 0 < lvS p.2) :
    DoesAll c iprop(waiting c (.cp b) ∗ st m c l) iprop(((xOwn m c c b ∗ vIn m c b c) ∗ doneS m c (.cp b)) ∗ st m c l) [waitIn (F := F) c b] :=
  Does.one (does_waitFrom m c (k := .cp b) c rfl rfl (credit_rows b _ _) rfl l hl)
theorem seg_waitOut (b : Fin 2) (l : List (Dev nD × Slot)) (hl : ∀ p ∈ l, 0 < lvS p.2) :
    DoesAll c iprop(waiting c (.lc b) ∗ st m c l) iprop(((vOut m c b c ∗ oOut m c c b) ∗ doneS m c (.lc b)) ∗ st m c l) [waitOut (F := F) c b] :=
  Does.one (does_waitFrom m c (k := .lc b) c rfl rfl (credit_cols _ _ _) rfl l hl)
theorem seg_waitRA (b : Fin 2) (l : List (Dev nD × Slot)) (hl : ∀ p ∈ l, 2 < lvS p.2) :
    DoesAll c iprop((all os fun o => waiting c (.ra (src c o) b)) ∗ st m c l)
      iprop((all os fun o => iprop(vIn m c b (src c o) ∗ doneS m c (.ra (src c o) b))) ∗ st m c l) (os.map (waitRA (F := F) c b)) :=
  DoesAll.map (R := fun _ => st m c l) (op := waitRA c b) (fun o _ => does_waitFrom m c (src c o) (sem_ra c o b) rfl (credit_rows b _ _) (duty_ra c o b) l hl) os
theorem seg_waitA (b : Fin 2) (l : List (Dev nD × Slot)) (hl : ∀ p ∈ l, 0 < lvS p.2) :
    DoesAll c iprop((all os fun o => waiting c (.sa o b)) ∗ st m c l)
      iprop((all os fun o => iprop(xOwn m c (tgt c o) b ∗ doneS m c (.sa o b))) ∗ st m c l) (os.map (waitA (F := F) c b)) :=
  DoesAll.map (R := fun _ => st m c l) (op := waitA c b) (fun o _ => does_waitFrom m c (k := .sa o b) c rfl rfl (credit_cols _ _ _) rfl l hl) os
theorem seg_waitC (b : Fin 2) (l : List (Dev nD × Slot)) (hl : ∀ p ∈ l, 0 < lvS p.2) :
    DoesAll c iprop((all os fun o => waiting c (.sc o b)) ∗ st m c l)
      iprop((all os fun o => iprop(vOut m c b (tgt c o) ∗ doneS m c (.sc o b))) ∗ st m c l) (os.map (waitC (F := F) c b)) :=
  DoesAll.map (R := fun _ => st m c l) (op := waitC c b) (fun o _ => does_waitFrom m c (k := .sc o b) c rfl rfl (credit_rows b _ _) rfl l hl) os

/-- The arrivals of the outward copies, both chunks' in turn. -/
abbrev arrivals : List (Fin 2 × Fin 3) := [(0, 0), (1, 0), (0, 1), (1, 1), (0, 2), (1, 2)]
theorem all_arrivals (A : Fin 2 × Fin 3 → sProp 𝕄) : all arrivals A = iprop((all os fun o => A (0, o)) ∗ all os fun o => A (1, o)) := by
  unfold os
  simp only [all_cons, all_nil, sep_emp_eq]
  ac_rfl
theorem seg_waitRC (l : List (Dev nD × Slot)) (hl : ∀ p ∈ l, 3 < lvS p.2) :
    DoesAll c iprop((all arrivals fun i => waiting c (.rc (src c i.2) i.1)) ∗ st m c l)
      iprop((all arrivals fun i => iprop(oOut m c (src c i.2) i.1 ∗ doneS m c (.rc (src c i.2) i.1))) ∗ st m c l) (arrivals.map fun i => waitRC (F := F) c i.1 i.2) :=
  DoesAll.map (R := fun _ => st m c l) (op := fun i : Fin 2 × Fin 3 => waitRC (F := F) c i.1 i.2)
    (fun i _ => does_waitFrom m c (src c i.2) (sem_rc c i.2 i.1) rfl (credit_cols _ _ _) (duty_rc c i.2 i.1) l hl) arrivals

/-- The barrier wait: the other devices' buffers. -/
theorem seg_waitBar (l : List (Dev nD × Slot)) (hl : ∀ p ∈ l, 1 < lvS p.2) :
    DoesAll c iprop((credS c .bar 3 ∗ atS c .bar) ∗ st m c l)
      iprop(((all os fun o => pay m c .bar (tgt c o)) ∗ doneS m c .bar) ∗ st m c l) [waitBar (F := F)] := by
  have h := Does.one (does_waitBar m c l hl)
  rw [show duty c .bar = Finset.univ.erase c from rfl, devs_others] at h
  exact h

/-- A column buffer sorted. -/
theorem seg_sortA (v w : BitVec 32) : DoesAll c (holds c (vM 0) (gathered m c 0)) (holds c (vM 0) (sorted m c 0)) (sortA (F := F) c v w) :=
  ⟨fun k Q => carries_sortA c v w c (gathered m c 0) k Q⟩
theorem seg_sortB (v : BitVec 32) : DoesAll c (holds c (vM 1) (gathered m c 1)) (holds c (vM 1) (sorted m c 1)) (sortB (F := F) c v) :=
  ⟨fun k Q => carries_sortB c v c (gathered m c 1) k Q⟩

theorem acts1_eq : acts1 (F := F) c = os.map (signalTo c) ++ [waitBar] := by
  simp only [acts1, acts2, acts3, acts4, acts5, acts6, os, arrivals, List.map_cons, List.map_nil, List.cons_append, List.nil_append]
theorem acts2_eq : acts2 (F := F) c = os.map (sendA c 0) ++ (os.map (sendA c 1) ++ ([copyIn c 0] ++ ([copyIn c 1] ++ [waitIn c 0]))) := by
  simp only [acts1, acts2, acts3, acts4, acts5, acts6, os, arrivals, List.map_cons, List.map_nil, List.cons_append, List.nil_append]
theorem acts3_eq : acts3 (F := F) c = os.map (waitRA c 0) := by
  simp only [acts1, acts2, acts3, acts4, acts5, acts6, os, arrivals, List.map_cons, List.map_nil, List.cons_append, List.nil_append]
theorem acts4_eq : acts4 (F := F) c = os.map (sendC c 0) ++ ([copyOut c 0] ++ [waitIn c 1]) := by
  simp only [acts1, acts2, acts3, acts4, acts5, acts6, os, arrivals, List.map_cons, List.map_nil, List.cons_append, List.nil_append]
theorem acts5_eq : acts5 (F := F) c = os.map (waitRA c 1) := by
  simp only [acts1, acts2, acts3, acts4, acts5, acts6, os, arrivals, List.map_cons, List.map_nil, List.cons_append, List.nil_append]
theorem acts6_eq : acts6 (F := F) c = os.map (sendC c 1) ++ ([copyOut c 1] ++ (os.map (waitA c 0) ++ (os.map (waitA c 1) ++ (os.map (waitC c 0) ++ (os.map (waitC c 1)
    ++ ([waitOut c 0] ++ ([waitOut c 1] ++ arrivals.map fun i => waitRC c i.1 i.2))))))) := by
  simp only [acts1, acts2, acts3, acts4, acts5, acts6, os, arrivals, List.map_cons, List.map_nil, List.cons_append, List.nil_append]

end Cert.Proof

end
-- ==== Proof.Body.lean ====
/-
  The body of the kernel: from its share of the buffers, the cells and the tokens, a device runs the whole
  exchange and both sorts, and ends with its rows of the result.
-/
module

public import proofs.«01_k».proof.Proof.Segments

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

section Zip
variable {I : Type} {l : List I} {A B C D : I → sProp (MT nD τ sig Unit (Elt F) ℕ UU ℕ)}
theorem zip2 : iprop(all l A ∗ all l B) ⊢ all l fun i => iprop(A i ∗ B i) := Entails.of_eq (all_sep l A B).symm
theorem unzip2 : (all l fun i => iprop(A i ∗ B i)) ⊢ iprop(all l A ∗ all l B) := Entails.of_eq (all_sep l A B)
theorem zip4 : iprop(all l A ∗ all l B ∗ all l C ∗ all l D) ⊢ all l fun i => iprop(A i ∗ B i ∗ C i ∗ D i) :=
  Entails.of_eq (by simp only [all_sep (F := F)])
end Zip

/-- The barrier: a device lends its buffers to those that write them, and gets theirs. -/
theorem stage1 : DoesAll c
    iprop((all os fun o => tok (tgt c o, .bar) c) ∗ (all os fun o => vAny c 0 (tgt c o)) ∗ (all os fun o => vAny c 1 (tgt c o)) ∗ (all os fun o => oAny c (tgt c o) 0) ∗ (all os fun o => oAny c (tgt c o) 1) ∗ (credS c .bar 3 ∗ atS c .bar) ∗ st m c (owing c))
    iprop((all os fun o => vAny (tgt c o) 0 c) ∗ (all os fun o => vAny (tgt c o) 1 c) ∗ (all os fun o => oAny (tgt c o) c 0) ∗ (all os fun o => oAny (tgt c o) c 1) ∗ doneS m c .bar ∗ st m c (owed1 c))
    (acts1 (F := F) c) := by
  rw [acts1_eq]
  refine ⟨fun k Q => ?_⟩
  rw [run_append, owing_eq]
  iintro ⟨Ht, Hv0, Hv1, Ho0, Ho1, Hcr, Hst⟩ HK
  ihave Hv := (zip2) $$ [Hv0 Hv1]
  · isplitl [Hv0]
    · iexact Hv0
    iexact Hv1
  ihave Ho := (zip2) $$ [Ho0 Ho1]
  · isplitl [Ho0]
    · iexact Ho0
    iexact Ho1
  ihave Hp := (zip2) $$ [Hv Ho]
  · isplitl [Hv]
    · iexact Hv
    iexact Ho
  ihave Hg := (zip2) $$ [Ht Hp]
  · isplitl [Ht]
    · iexact Ht
    iexact Hp
  iapply ((seg_signal m c (owed1 c)).step _ _) $$ [Hg Hst]
  · isplitl [Hg]
    · iexact Hg
    iexact Hst
  iintro ⟨-, Hst⟩
  iapply ((seg_waitBar m c (owed1 c) (lv1 c 1 (by decide))).step _ _) $$ [Hcr Hst]
  · isplitl [Hcr]
    · iexact Hcr
    iexact Hst
  iintro ⟨⟨Hp, Hd⟩, Hst⟩
  ihave Hp := (show (all os fun o => pay m c .bar (tgt c o)) ⊢ iprop(((all os fun o => vAny (tgt c o) 0 c) ∗ (all os fun o => vAny (tgt c o) 1 c))
      ∗ (all os fun o => oAny (tgt c o) c 0) ∗ all os fun o => oAny (tgt c o) c 1) from by
      rw [← all_sep, ← all_sep, ← all_sep]; exact BI.Entails.refl _) $$ Hp
  icases Hp with ⟨⟨Hv0, Hv1⟩, Ho0, Ho1⟩
  iapply HK
  isplitl [Hv0]
  · iexact Hv0
  isplitl [Hv1]
  · iexact Hv1
  isplitl [Ho0]
  · iexact Ho0
  isplitl [Ho1]
  · iexact Ho1
  isplitl [Hd]
  · iexact Hd
  iexact Hst

/-- Both chunks leave for the devices that sort them. -/
theorem stage2 : DoesAll c
    iprop((all os fun o => xOwn m c (tgt c o) 0) ∗ (all os fun o => vAny (tgt c o) 0 c) ∗ (all os fun o => tok (c, .sa o 0) c) ∗ (all os fun o => tok (tgt c o, .ra c 0) c) ∗ (xOwn m c c 0 ∗ vAny c 0 c ∗ tok (c, .cp 0) c) ∗ (all os fun o => xOwn m c (tgt c o) 1) ∗ (all os fun o => vAny (tgt c o) 1 c) ∗ (all os fun o => tok (c, .sa o 1) c) ∗ (all os fun o => tok (tgt c o, .ra c 1) c) ∗ (xOwn m c c 1 ∗ vAny c 1 c ∗ tok (c, .cp 1) c) ∗ atS c (.cp 0) ∗ st m c (owed1 c))
    iprop((all os fun o => credS c (.sa o 0) 1) ∗ (all os fun o => credS c (.sa o 1) 1) ∗ ((xOwn m c c 0 ∗ vIn m c 0 c) ∗ doneS m c (.cp 0)) ∗ credS c (.cp 1) 1 ∗ st m c (owed2 c))
    (acts2 (F := F) c) := by
  rw [acts2_eq]
  refine ⟨fun k Q => ?_⟩
  rw [run_append, run_append, run_append, run_append]
  iintro ⟨Hx0, Hv0, Hs0, Hr0, Hc0, Hx1, Hv1, Hs1, Hr1, Hc1, Hat, Hst⟩ HK
  ihave Hg := (zip4) $$ [Hx0 Hv0 Hs0 Hr0]
  · isplitl [Hx0]
    · iexact Hx0
    isplitl [Hv0]
    · iexact Hv0
    isplitl [Hs0]
    · iexact Hs0
    iexact Hr0
  iapply ((seg_sendA m c 0 (toOthers c (.ra c 1) ++ owed2 c)).step _ _) $$ [Hg Hst]
  · isplitl [Hg]
    · iexact Hg
    iexact Hst
  iintro ⟨Hk0, Hst⟩
  ihave Hg := (zip4) $$ [Hx1 Hv1 Hs1 Hr1]
  · isplitl [Hx1]
    · iexact Hx1
    isplitl [Hv1]
    · iexact Hv1
    isplitl [Hs1]
    · iexact Hs1
    iexact Hr1
  iapply ((seg_sendA m c 1 (owed2 c)).step _ _) $$ [Hg Hst]
  · isplitl [Hg]
    · iexact Hg
    iexact Hst
  iintro ⟨Hk1, Hst⟩
  iapply ((seg_copyIn m c 0 (owed2 c)).step _ _) $$ [Hc0 Hst]
  · isplitl [Hc0]
    · iexact Hc0
    iexact Hst
  iintro ⟨Hc0, Hst⟩
  iapply ((seg_copyIn m c 1 (owed2 c)).step _ _) $$ [Hc1 Hst]
  · isplitl [Hc1]
    · iexact Hc1
    iexact Hst
  iintro ⟨Hc1, Hst⟩
  ihave Hw := (show iprop(credS c (.cp 0) 1 ∗ atS c (.cp 0)) ⊢ waiting (F := F) c (.cp 0) from BI.Entails.refl _) $$ [Hc0 Hat]
  · isplitl [Hc0]
    · iexact Hc0
    iexact Hat
  iapply ((seg_waitIn m c 0 (owed2 c) (lv2 c 0 (by decide))).step _ _) $$ [Hw Hst]
  · isplitl [Hw]
    · iexact Hw
    iexact Hst
  iintro ⟨Hi, Hst⟩
  iapply HK
  isplitl [Hk0]
  · iexact Hk0
  isplitl [Hk1]
  · iexact Hk1
  isplitl [Hi]
  · iexact Hi
  isplitl [Hc1]
  · iexact Hc1
  iexact Hst

/-- A chunk has arrived: the column buffer is gathered. -/
theorem stage3 (b : Fin 2) (l : List (Dev nD × Slot)) (hl : ∀ p ∈ l, 2 < lvS p.2) : DoesAll c
    iprop((all os fun o => waiting c (.ra (src c o) b)) ∗ vIn m c b c ∗ st m c l)
    iprop(holds c (vM b) (gathered m c b) ∗ (all os fun o => doneS m c (.ra (src c o) b)) ∗ st m c l)
    (os.map (waitRA (F := F) c b)) := by
  refine ⟨fun k Q => ?_⟩
  iintro ⟨Hw, Hi, Hst⟩ HK
  iapply ((seg_waitRA m c b l hl).step _ _) $$ [Hw Hst]
  · isplitl [Hw]
    · iexact Hw
    iexact Hst
  iintro ⟨Hg, Hst⟩
  ihave Hg := unzip2 $$ Hg
  icases Hg with ⟨Hv, Hd⟩
  ihave Hh := (v_gather m c b) $$ [Hi Hv]
  · isplitl [Hi]
    · iexact Hi
    iexact Hv
  iapply HK
  isplitl [Hh]
  · iexact Hh
  isplitl [Hd]
  · iexact Hd
  iexact Hst

/-- A sorted chunk leaves for the devices its rows belong to. -/
theorem stageC (b : Fin 2) (l : List (Dev nD × Slot)) : DoesAll c
    iprop(holds c (vM b) (sorted m c b) ∗ (all os fun o => oAny (tgt c o) c b) ∗ (all os fun o => tok (c, .sc o b) c) ∗ (all os fun o => tok (tgt c o, .rc c b) c) ∗ oAny c c b ∗ tok (c, .lc b) c ∗ st m c (toOthers c (.rc c b) ++ l))
    iprop((all os fun o => credS c (.sc o b) 1) ∗ credS c (.lc b) 1 ∗ st m c l)
    (os.map (sendC (F := F) c b) ++ [copyOut c b]) := by
  refine ⟨fun k Q => ?_⟩
  rw [run_append]
  iintro ⟨Hh, Ho, Hs, Hr, Hoc, Htl, Hst⟩ HK
  ihave Hh := (v_scatter m c b) $$ Hh
  icases Hh with ⟨Hvc, Hv⟩
  ihave Hg := (zip4) $$ [Hv Ho Hs Hr]
  · isplitl [Hv]
    · iexact Hv
    isplitl [Ho]
    · iexact Ho
    isplitl [Hs]
    · iexact Hs
    iexact Hr
  iapply ((seg_sendC m c b l).step _ _) $$ [Hg Hst]
  · isplitl [Hg]
    · iexact Hg
    iexact Hst
  iintro ⟨Hk, Hst⟩
  iapply ((seg_copyOut m c b l).step _ _) $$ [Hvc Hoc Htl Hst]
  · isplitl [Hvc Hoc Htl]
    · isplitl [Hvc]
      · iexact Hvc
      isplitl [Hoc]
      · iexact Hoc
      iexact Htl
    iexact Hst
  iintro ⟨Hl, Hst⟩
  iapply HK
  isplitl [Hk]
  · iexact Hk
  isplitl [Hl]
  · iexact Hl
  iexact Hst

/-- Every copy is over: the buffers are whole again. -/
theorem stageW : DoesAll c
    iprop((all os fun o => waiting c (.sa o 0)) ∗ (all os fun o => waiting c (.sc o 0)) ∗ waiting c (.lc 0) ∗ (all os fun o => waiting c (.rc (src c o) 0)) ∗ xOwn m c c 0 ∗ (all os fun o => waiting c (.sa o 1)) ∗ (all os fun o => waiting c (.sc o 1)) ∗ waiting c (.lc 1) ∗ (all os fun o => waiting c (.rc (src c o) 1)) ∗ xOwn m c c 1 ∗ st m c [])
    iprop(owns (c : Thread nD τ) xM fullShare (X m c) ∗ owns (c : Thread nD τ) oM fullShare (outOf m c) ∗ holds c (vM 0) (sorted m c 0) ∗ holds c (vM 1) (sorted m c 1) ∗ (all os fun o => doneS m c (.sa o 0)) ∗ (all os fun o => doneS m c (.sc o 0)) ∗ doneS m c (.lc 0) ∗ (all os fun o => doneS m c (.rc (src c o) 0)) ∗ (all os fun o => doneS m c (.sa o 1)) ∗ (all os fun o => doneS m c (.sc o 1)) ∗ doneS m c (.lc 1) ∗ (all os fun o => doneS m c (.rc (src c o) 1)) ∗ st m c [])
    (os.map (waitA (F := F) c 0) ++ (os.map (waitA c 1) ++ (os.map (waitC c 0) ++ (os.map (waitC c 1)
      ++ ([waitOut c 0] ++ ([waitOut c 1] ++ arrivals.map fun i => waitRC c i.1 i.2)))))) := by
  refine ⟨fun k Q => ?_⟩
  rw [run_append, run_append, run_append, run_append, run_append, run_append]
  iintro ⟨Ha0, Hc0, Hl0, Hr0, Hx0, Ha1, Hc1, Hl1, Hr1, Hx1, Hst⟩ HK
  iapply ((seg_waitA m c 0 [] (lv_nil 0)).step _ _) $$ [Ha0 Hst]
  · isplitl [Ha0]
    · iexact Ha0
    iexact Hst
  iintro ⟨Hg, Hst⟩
  ihave Hg := unzip2 $$ Hg
  icases Hg with ⟨HX0, Hda0⟩
  iapply ((seg_waitA m c 1 [] (lv_nil 0)).step _ _) $$ [Ha1 Hst]
  · isplitl [Ha1]
    · iexact Ha1
    iexact Hst
  iintro ⟨Hg, Hst⟩
  ihave Hg := unzip2 $$ Hg
  icases Hg with ⟨HX1, Hda1⟩
  iapply ((seg_waitC m c 0 [] (lv_nil 0)).step _ _) $$ [Hc0 Hst]
  · isplitl [Hc0]
    · iexact Hc0
    iexact Hst
  iintro ⟨Hg, Hst⟩
  ihave Hg := unzip2 $$ Hg
  icases Hg with ⟨HV0, Hdc0⟩
  iapply ((seg_waitC m c 1 [] (lv_nil 0)).step _ _) $$ [Hc1 Hst]
  · isplitl [Hc1]
    · iexact Hc1
    iexact Hst
  iintro ⟨Hg, Hst⟩
  ihave Hg := unzip2 $$ Hg
  icases Hg with ⟨HV1, Hdc1⟩
  iapply ((seg_waitOut m c 0 [] (lv_nil 0)).step _ _) $$ [Hl0 Hst]
  · isplitl [Hl0]
    · iexact Hl0
    iexact Hst
  iintro ⟨⟨⟨HW0, HO0⟩, Hdl0⟩, Hst⟩
  iapply ((seg_waitOut m c 1 [] (lv_nil 0)).step _ _) $$ [Hl1 Hst]
  · isplitl [Hl1]
    · iexact Hl1
    iexact Hst
  iintro ⟨⟨⟨HW1, HO1⟩, Hdl1⟩, Hst⟩
  ihave Hr := (Entails.of_eq (all_arrivals fun i => waiting (F := F) c (.rc (src c i.2) i.1)).symm) $$ [Hr0 Hr1]
  · isplitl [Hr0]
    · iexact Hr0
    iexact Hr1
  iapply ((seg_waitRC m c [] (lv_nil 3)).step _ _) $$ [Hr Hst]
  · isplitl [Hr]
    · iexact Hr
    iexact Hst
  iintro ⟨Hg, Hst⟩
  ihave Hg := (Entails.of_eq (all_arrivals fun i => iprop(oOut m c (src c i.2) i.1 ∗ doneS m c (.rc (src c i.2) i.1)))) $$ Hg
  icases Hg with ⟨Hg0, Hg1⟩
  ihave Hg0 := unzip2 $$ Hg0
  icases Hg0 with ⟨HR0, Hdr0⟩
  ihave Hg1 := unzip2 $$ Hg1
  icases Hg1 with ⟨HR1, Hdr1⟩
  ihave HX := (x_join m c) $$ [Hx0 HX0 Hx1 HX1]
  · isplitl [Hx0 HX0]
    · isplitl [Hx0]
      · iexact Hx0
      iexact HX0
    isplitl [Hx1]
    · iexact Hx1
    iexact HX1
  ihave HO := (o_join m c) $$ [HO0 HR0 HO1 HR1]
  · isplitl [HO0 HR0]
    · isplitl [HO0]
      · iexact HO0
      iexact HR0
    isplitl [HO1]
    · iexact HO1
    iexact HR1
  ihave HV0 := (v_join m c 0) $$ [HW0 HV0]
  · isplitl [HW0]
    · iexact HW0
    iexact HV0
  ihave HV1 := (v_join m c 1) $$ [HW1 HV1]
  · isplitl [HW1]
    · iexact HW1
    iexact HV1
  iapply HK
  isplitl [HX]
  · iexact HX
  isplitl [HO]
  · iexact HO
  isplitl [HV0]
  · iexact HV0
  isplitl [HV1]
  · iexact HV1
  isplitl [Hda0]
  · iexact Hda0
  isplitl [Hdc0]
  · iexact Hdc0
  isplitl [Hdl0]
  · iexact Hdl0
  isplitl [Hdr0]
  · iexact Hdr0
  isplitl [Hda1]
  · iexact Hda1
  isplitl [Hdc1]
  · iexact Hdc1
  isplitl [Hdl1]
  · iexact Hdl1
  isplitl [Hdr1]
  · iexact Hdr1
  iexact Hst

/-- The tokens device `c` pays with, and the credit it starts from. -/
def chunkTok (b : Fin 2) : sProp 𝕄 :=
  iprop((all os fun o => tok (c, .sa o b) c) ∗ (all os fun o => tok (tgt c o, .ra c b) c) ∗ (all os fun o => tok (c, .sc o b) c) ∗ (all os fun o => tok (tgt c o, .rc c b) c)
    ∗ tok (c, .cp b) c ∗ tok (c, .lc b) c)
def toksOf : sProp 𝕄 := iprop((all os fun o => tok (tgt c o, .bar) c) ∗ chunkTok c 0 ∗ chunkTok c 1)
def chunkCred (b : Fin 2) : sProp 𝕄 := iprop((all os fun o => credS c (.ra (src c o) b) 1) ∗ all os fun o => credS c (.rc (src c o) b) 1)
def credOf : sProp 𝕄 := iprop(credS c .bar 3 ∗ chunkCred c 0 ∗ chunkCred c 1)

/-- What the body starts from. -/
def bodyPre : sProp 𝕄 :=
  iprop((bigSep Finset.univ fun k => atS (F := F) c k) ∗ toksOf c ∗ credOf c ∗ owns (c : Thread nD τ) xM fullShare (X m c) ∗ (∃ Y, owns (c : Thread nD τ) oM fullShare Y)
    ∗ (∃ Y, owns (c : Thread nD τ) (vM 0) fullShare Y) ∗ (∃ Y, owns (c : Thread nD τ) (vM 1) fullShare Y) ∗ st m c (owing c))
/-- What it ends with. -/
def bodyPost : sProp 𝕄 :=
  iprop((bigSep Finset.univ fun k => doneS m c k) ∗ owns (c : Thread nD τ) xM fullShare (X m c) ∗ owns (c : Thread nD τ) oM fullShare (outOf m c)
    ∗ holds c (vM 0) (sorted m c 0) ∗ holds c (vM 1) (sorted m c 1) ∗ st m c [])

theorem acts6_split : acts6 (F := F) c = (os.map (sendC c 1) ++ [copyOut c 1]) ++ (os.map (waitA (F := F) c 0) ++ (os.map (waitA c 1) ++ (os.map (waitC c 0) ++ (os.map (waitC c 1)
      ++ ([waitOut c 0] ++ ([waitOut c 1] ++ arrivals.map fun i => waitRC c i.1 i.2)))))) := by
  rw [acts6_eq, List.append_assoc]
theorem acts4_split : acts4 (F := F) c = (os.map (sendC c 0) ++ [copyOut c 0]) ++ [waitIn c 1] := by
  rw [acts4_eq, List.append_assoc]

theorem waiting_intro (k : Slot) : iprop(credS c k 1 ∗ atS c k) ⊢ (waiting (F := F) c k) := BI.Entails.refl _
theorem waiting_all (f : Fin 3 → Slot) : iprop((all os fun o => credS c (f o) 1) ∗ all os fun o => atS c (f o)) ⊢ (all os fun o => waiting (F := F) c (f o)) := zip2

set_option maxHeartbeats 1600000 in
/-- The whole exchange. -/
theorem body_does (v w : BitVec 32) : DoesAll c (bodyPre m c) (bodyPost m c) (acts (F := F) c v w) := by
  refine ⟨fun k Q => ?_⟩
  unfold acts bodyPre bodyPost toksOf credOf chunkTok chunkCred
  rw [acts4_split, acts6_split, slots_eq c, slots_eq c]
  unfold chunkAt
  rw [run_append (acts1 c), run_append (acts2 c), run_append (acts3 c), run_append (sortA c v w), run_append (_ ++ [waitIn c 1]), run_append (_ ++ [copyOut c 0]),
    run_append (acts5 c), run_append (sortB c v), run_append (_ ++ [copyOut c 1])]
  iintro ⟨⟨HatB, ⟨HatA0, HatC0, HatRA0, HatRC0, Hra0, Hrc0, HatI0, HatO0⟩, ⟨HatA1, HatC1, HatRA1, HatRC1, Hra1, Hrc1, HatI1, HatO1⟩⟩, ⟨HtB, ⟨HtA0, HtRA0, HtC0, HtRC0, HtI0, HtO0⟩, ⟨HtA1, HtRA1, HtC1, HtRC1, HtI1, HtO1⟩⟩, ⟨HcB, ⟨HcRA0, HcRC0⟩, ⟨HcRA1, HcRC1⟩⟩, Hx, ⟨%Yo, Ho⟩, ⟨%Y0, Hv0⟩, ⟨%Y1, Hv1⟩, Hst⟩ HK
  ihave Hx := (x_split m c) $$ Hx
  icases Hx with ⟨⟨Hxc0, Hx0⟩, Hxc1, Hx1⟩
  ihave Ho := (o_split c Yo) $$ Ho
  icases Ho with ⟨⟨Hoc0, Ho0⟩, Hoc1, Ho1⟩
  ihave Hv0 := (v_split c 0 Y0) $$ Hv0
  icases Hv0 with ⟨Hvc0, Hv0⟩
  ihave Hv1 := (v_split c 1 Y1) $$ Hv1
  icases Hv1 with ⟨Hvc1, Hv1⟩
  iapply ((stage1 m c).step _ _) $$ [HtB Hv0 Hv1 Ho0 Ho1 HcB HatB Hst]
  · isplitl [HtB]
    · iexact HtB
    isplitl [Hv0]
    · iexact Hv0
    isplitl [Hv1]
    · iexact Hv1
    isplitl [Ho0]
    · iexact Ho0
    isplitl [Ho1]
    · iexact Ho1
    isplitl [HcB HatB]
    · isplitl [HcB]
      · iexact HcB
      iexact HatB
    iexact Hst
  iintro ⟨Hv0, Hv1, Ho0, Ho1, HdB, Hst⟩
  iapply ((stage2 m c).step _ _) $$ [Hx0 Hv0 HtA0 HtRA0 Hxc0 Hvc0 HtI0 Hx1 Hv1 HtA1 HtRA1 Hxc1 Hvc1 HtI1 HatI0 Hst]
  · isplitl [Hx0]
    · iexact Hx0
    isplitl [Hv0]
    · iexact Hv0
    isplitl [HtA0]
    · iexact HtA0
    isplitl [HtRA0]
    · iexact HtRA0
    isplitl [Hxc0 Hvc0 HtI0]
    · isplitl [Hxc0]
      · iexact Hxc0
      isplitl [Hvc0]
      · iexact Hvc0
      iexact HtI0
    isplitl [Hx1]
    · iexact Hx1
    isplitl [Hv1]
    · iexact Hv1
    isplitl [HtA1]
    · iexact HtA1
    isplitl [HtRA1]
    · iexact HtRA1
    isplitl [Hxc1 Hvc1 HtI1]
    · isplitl [Hxc1]
      · iexact Hxc1
      isplitl [Hvc1]
      · iexact Hvc1
      iexact HtI1
    isplitl [HatI0]
    · iexact HatI0
    iexact Hst
  iintro ⟨HkA0, HkA1, ⟨⟨Hxc0, Hvc0⟩, HdI0⟩, HkI1, Hst⟩
  ihave Hw := (waiting_all c fun o => .ra (src c o) 0) $$ [HcRA0 HatRA0]
  · isplitl [HcRA0]
    · iexact HcRA0
    iexact HatRA0
  rw [acts3_eq]
  iapply ((stage3 m c 0 (owed2 c) (lv2 c 2 (by decide))).step _ _) $$ [Hw Hvc0 Hst]
  · isplitl [Hw]
    · iexact Hw
    isplitl [Hvc0]
    · iexact Hvc0
    iexact Hst
  iintro ⟨Hh, HdRA0, Hst⟩
  iapply ((seg_sortA m c v w).step _ _) $$ Hh
  iintro Hh
  iapply ((stageC m c 0 (toOthers c (.rc c 1) ++ [])).step _ _) $$ [Hh Ho0 HtC0 HtRC0 Hoc0 HtO0 Hst]
  · isplitl [Hh]
    · iexact Hh
    isplitl [Ho0]
    · iexact Ho0
    isplitl [HtC0]
    · iexact HtC0
    isplitl [HtRC0]
    · iexact HtRC0
    isplitl [Hoc0]
    · iexact Hoc0
    isplitl [HtO0]
    · iexact HtO0
    iexact Hst
  iintro ⟨HkC0, HkO0, Hst⟩
  ihave Hw := (waiting_intro c (.cp 1)) $$ [HkI1 HatI1]
  · isplitl [HkI1]
    · iexact HkI1
    iexact HatI1
  iapply ((seg_waitIn m c 1 _ (lv3 c 0 (by decide))).step _ _) $$ [Hw Hst]
  · isplitl [Hw]
    · iexact Hw
    iexact Hst
  iintro ⟨⟨⟨Hxc1, Hvc1⟩, HdI1⟩, Hst⟩
  ihave Hw := (waiting_all c fun o => .ra (src c o) 1) $$ [HcRA1 HatRA1]
  · isplitl [HcRA1]
    · iexact HcRA1
    iexact HatRA1
  rw [acts5_eq]
  iapply ((stage3 m c 1 _ (lv3 c 2 (by decide))).step _ _) $$ [Hw Hvc1 Hst]
  · isplitl [Hw]
    · iexact Hw
    isplitl [Hvc1]
    · iexact Hvc1
    iexact Hst
  iintro ⟨Hh, HdRA1, Hst⟩
  iapply ((seg_sortB m c v).step _ _) $$ Hh
  iintro Hh
  iapply ((stageC m c 1 []).step _ _) $$ [Hh Ho1 HtC1 HtRC1 Hoc1 HtO1 Hst]
  · isplitl [Hh]
    · iexact Hh
    isplitl [Ho1]
    · iexact Ho1
    isplitl [HtC1]
    · iexact HtC1
    isplitl [HtRC1]
    · iexact HtRC1
    isplitl [Hoc1]
    · iexact Hoc1
    isplitl [HtO1]
    · iexact HtO1
    iexact Hst
  iintro ⟨HkC1, HkO1, Hst⟩
  ihave HwA0 := (waiting_all c fun o => .sa o 0) $$ [HkA0 HatA0]
  · isplitl [HkA0]
    · iexact HkA0
    iexact HatA0
  ihave HwC0 := (waiting_all c fun o => .sc o 0) $$ [HkC0 HatC0]
  · isplitl [HkC0]
    · iexact HkC0
    iexact HatC0
  ihave HwO0 := (waiting_intro c (.lc 0)) $$ [HkO0 HatO0]
  · isplitl [HkO0]
    · iexact HkO0
    iexact HatO0
  ihave HwR0 := (waiting_all c fun o => .rc (src c o) 0) $$ [HcRC0 HatRC0]
  · isplitl [HcRC0]
    · iexact HcRC0
    iexact HatRC0
  ihave HwA1 := (waiting_all c fun o => .sa o 1) $$ [HkA1 HatA1]
  · isplitl [HkA1]
    · iexact HkA1
    iexact HatA1
  ihave HwC1 := (waiting_all c fun o => .sc o 1) $$ [HkC1 HatC1]
  · isplitl [HkC1]
    · iexact HkC1
    iexact HatC1
  ihave HwO1 := (waiting_intro c (.lc 1)) $$ [HkO1 HatO1]
  · isplitl [HkO1]
    · iexact HkO1
    iexact HatO1
  ihave HwR1 := (waiting_all c fun o => .rc (src c o) 1) $$ [HcRC1 HatRC1]
  · isplitl [HcRC1]
    · iexact HcRC1
    iexact HatRC1
  iapply ((stageW m c).step _ _) $$ [HwA0 HwC0 HwO0 HwR0 Hxc0 HwA1 HwC1 HwO1 HwR1 Hxc1 Hst]
  · isplitl [HwA0]
    · iexact HwA0
    isplitl [HwC0]
    · iexact HwC0
    isplitl [HwO0]
    · iexact HwO0
    isplitl [HwR0]
    · iexact HwR0
    isplitl [Hxc0]
    · iexact Hxc0
    isplitl [HwA1]
    · iexact HwA1
    isplitl [HwC1]
    · iexact HwC1
    isplitl [HwO1]
    · iexact HwO1
    isplitl [HwR1]
    · iexact HwR1
    isplitl [Hxc1]
    · iexact Hxc1
    iexact Hst
  iintro ⟨Hx, Ho, Hh0, Hh1, HdA0, HdC0, HdO0, HdRC0, HdA1, HdC1, HdO1, HdRC1, Hst⟩
  ihave Hra0 := (done_of_empty m c (.ra c 0) (empty_ra c 0)) $$ Hra0
  ihave Hrc0 := (done_of_empty m c (.rc c 0) (empty_rc c 0)) $$ Hrc0
  ihave Hra1 := (done_of_empty m c (.ra c 1) (empty_ra c 1)) $$ Hra1
  ihave Hrc1 := (done_of_empty m c (.rc c 1) (empty_rc c 1)) $$ Hrc1
  iapply HK
  isplitl [HdB HdA0 HdC0 HdRA0 HdRC0 Hra0 Hrc0 HdI0 HdO0 HdA1 HdC1 HdRA1 HdRC1 Hra1 Hrc1 HdI1 HdO1]
  · isplitl [HdB]
    · iexact HdB
    isplitl [HdA0 HdC0 HdRA0 HdRC0 Hra0 Hrc0 HdI0 HdO0]
    · isplitl [HdA0]
      · iexact HdA0
      isplitl [HdC0]
      · iexact HdC0
      isplitl [HdRA0]
      · iexact HdRA0
      isplitl [HdRC0]
      · iexact HdRC0
      isplitl [Hra0]
      · iexact Hra0
      isplitl [Hrc0]
      · iexact Hrc0
      isplitl [HdI0]
      · iexact HdI0
      iexact HdO0
    isplitl [HdA1]
    · iexact HdA1
    isplitl [HdC1]
    · iexact HdC1
    isplitl [HdRA1]
    · iexact HdRA1
    isplitl [HdRC1]
    · iexact HdRC1
    isplitl [Hra1]
    · iexact Hra1
    isplitl [Hrc1]
    · iexact Hrc1
    isplitl [HdI1]
    · iexact HdI1
    iexact HdO1
  isplitl [Hx]
  · iexact Hx
  isplitl [Ho]
  · iexact Ho
  isplitl [Hh0]
  · iexact Hh0
  isplitl [Hh1]
  · iexact Hh1
  iexact Hst

end Cert.Proof

end
-- ==== Proof.Deal.lean ====
/-
  The launch of the kernel's own cells: every cell's schedule is put in force, and each device is dealt its
  positions, the rights to the payments it makes, and the credit for the units the others owe its cells.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Cert.KernelIdeal Cert.KernelIdeal.Gen

variable {F : FTy → Type} [FloatOps F]

local notation "𝕄" => MT nD τ sig Unit (Elt F) ℕ UU ℕ

/-! ## The cells and the rights to pay -/

/-- The kernel's own semaphores: every cell's but the barrier's. -/
def osem (k : {k : Slot // k ≠ .bar}) : SemLoc sig := semOf k.1

theorem ownSemFacts : Pipeline.OwnSemFacts cfg0.spec osem :=
  ⟨by decide +kernel, fun a b h => Subtype.ext (semOf_inj h), fun _ w => w.elim0⟩

/-- The payments a device makes for one chunk, and all it makes. -/
def chunkPays (c : Dev nD) (b : Fin 2) : List (Dev nD × Slot) :=
  os.map (fun o => (c, Slot.sa o b)) ++ (os.map (fun o => (tgt c o, Slot.ra c b)) ++ (os.map (fun o => (c, Slot.sc o b))
    ++ (os.map (fun o => (tgt c o, Slot.rc c b)) ++ [(c, .cp b), (c, .lc b)])))
def paysOf (c : Dev nD) : List (Dev nD × Slot) := os.map (fun o => (tgt c o, Slot.bar)) ++ (chunkPays c 0 ++ chunkPays c 1)

theorem paysOf_nodup : ∀ c : Dev nD, (paysOf c).Nodup := by decide +kernel

theorem all_pays (c : Dev nD) : all (paysOf c) (fun p => (tok p c : sProp 𝕄)) = toksOf c := by
  unfold paysOf chunkPays toksOf chunkTok
  simp only [all_append, all_map, all_cons, all_nil, sep_emp_eq]

def cellSet : Finset (GSem nD τ sig) := Finset.univ.map ⟨kcell, kcell_inj⟩

def tokAt (x : (_ : Dev nD) × (Dev nD × Slot)) : GSem nD τ sig × ℕ × Dev nD := (kcell x.2, 0, x.1)
theorem tokAt_inj : Function.Injective tokAt := by
  rintro ⟨d, p⟩ ⟨d', p'⟩ h
  have h1 : kcell p = kcell p' := congrArg (fun x : GSem nD τ sig × ℕ × Dev nD => x.1) h
  have h2 : d = d' := congrArg (fun x : GSem nD τ sig × ℕ × Dev nD => x.2.2) h
  rw [h2, kcell_inj h1]

def tokSet : Finset (GSem nD τ sig × ℕ × Dev nD) := (Finset.univ.sigma fun d : Dev nD => (paysOf d).toFinset).map ⟨tokAt, tokAt_inj⟩

def u₀ : UU := (initOf (Pipeline.cells cfgs cellOf_inj) (Pipeline.launchToks cfgs cellOf_inj), initOf cellSet tokSet)

variable (m : (ℓ : Loc nD τ sig) → Buf (Elt F) ℓ)

/-- What a device is dealt, before the schedules are in force and after. -/
def dealt (c : Dev nD) : sProp 𝕄 :=
  iprop((bigSep Finset.univ fun k : Slot => roundState ER (sch m) (kcell (c, k)) 0)
    ∗ (bigSep Finset.univ fun k : Slot => reached ER (kcell (c, k)) 0) ∗ (bigSep Finset.univ fun k : Slot => atS c k) ∗ toksOf c)
def given (c : Dev nD) : sProp 𝕄 := iprop((∃ K, recs m K) ∗ (bigSep Finset.univ fun k : Slot => atS (F := F) c k) ∗ toksOf c)

theorem cellSet_eq (A : GSem nD τ sig → sProp 𝕄) :
    bigSep cellSet A = bigSep Finset.univ fun c : Dev nD => bigSep Finset.univ fun k : Slot => A (kcell (c, k)) := by
  unfold cellSet; rw [bigSep_map, bigSep_univ_prod]; rfl

theorem tokSet_eq : bigSep tokSet (fun x => (dutyTok ER x.1 x.2.1 x.2.2 : sProp 𝕄)) = bigSep Finset.univ fun c : Dev nD => toksOf c := by
  unfold tokSet
  rw [bigSep_map, Pipeline.bigSep_sigma]
  refine bigSep_congr fun c _ => ?_
  rw [← all_pays, ← bigSep_list _ (paysOf_nodup c)]; rfl

theorem fund_cells : BI.own (ER (initOf cellSet tokSet)) ⊢ (|==> bigSep Finset.univ (dealt m) : sProp 𝕄) := by
  iintro HX
  imod (Rounds.fund ER (sch m) cellSet tokSet) $$ HX with ⟨Hst, Hr, Hat, Htok⟩
  imodintro
  ihave Hst' := (Entails.of_eq (cellSet_eq fun g => roundState ER (sch m) g 0)) $$ Hst
  ihave Hat' := (Entails.of_eq (cellSet_eq fun g => atPos ER g 0 ∅ 0)) $$ Hat
  ihave Hr' := (Entails.of_eq (cellSet_eq fun g => reached ER g 0)) $$ Hr
  ihave Htok' := (Entails.of_eq (tokSet_eq (F := F))) $$ Htok
  unfold dealt; simp only [bigSep_sep']
  isplitl [Hst']; · iexact Hst'
  isplitl [Hr']; · iexact Hr'
  isplitl [Hat']; · iexact Hat'
  iexact Htok'

/-! ## The semaphores -/

theorem unscopedSems0_eq (c : Dev nD) : (unscopedSems0 c : sProp 𝕄) = semVal (kcell (c, .bar)) 0 := by
  unfold unscopedSems0; rw [bigSep_eq_bigSepL_of_eq [SemLoc.reg semBar] (by decide) (by decide)]; rfl

theorem sems_eq (c : Dev nD) :
    iprop(Pipeline.ownSems0 (Ix := Unit) (Name := ℕ) (U := UU) (Lvl := ℕ) (Val := Elt F) (τ := τ) osem c ∗ unscopedSems0 c)
      = (bigSep Finset.univ fun k : Slot => semVal (kcell (c, k)) 0 : sProp 𝕄) := by
  rw [unscopedSems0_eq, bigSep_univ_at (fun k : Slot => (semVal (kcell (c, k)) 0 : sProp 𝕄)) .bar, sep_comm_eq]
  congr 1

theorem inForce (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Slot => iprop(∃ κ : ℕ, cellInv ER (sch m) κ (kcell (c, k))))
          ∗ (bigSep Finset.univ fun k : Slot => reached ER (kcell (c, k)) 0) ∗ (bigSep Finset.univ fun k : Slot => atS c k) ∗ toksOf c) := by
  unfold dealt
  iintro ⟨Hos, Hus, Hst, Hr, Hat, Htok⟩
  ihave Hv := (Entails.of_eq (sems_eq (F := F) c)) $$ [Hos Hus]
  · isplitl [Hos] <;> iassumption
  imod (show iprop((bigSep Finset.univ fun k : Slot => semVal (kcell (c, k)) 0) ∗ bigSep Finset.univ fun k : Slot => roundState ER (sch m) (kcell (c, k)) 0)
      ⊢ (|={Set.univ}=> bigSep Finset.univ fun k : Slot => iprop(∃ κ : ℕ, cellInv ER (sch m) κ (kcell (c, k))) : sProp 𝕄) from by
        rw [← bigSep_sep']
        exact (bigSep_mono fun k _ => (Rounds.body_intro ER (sch m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem given_intro (K : Dev nD × Slot → ℕ) (c : Dev nD) :
    iprop(recs m K ∗ (bigSep Finset.univ fun k : Slot => atS c k) ∗ toksOf c) ⊢ (given m c : sProp 𝕄) := by
  unfold given
  iintro ⟨HR, H1, H2⟩
  isplitl [HR]
  · iexists K; iexact HR
  isplitl [H1] <;> iassumption

theorem share_out :
    (bigSep Finset.univ fun c : Dev nD => iprop((bigSep Finset.univ fun k : Slot => iprop(∃ κ : ℕ, cellInv ER (sch m) κ (kcell (c, k))))
          ∗ (bigSep Finset.univ fun k : Slot => reached ER (kcell (c, k)) 0) ∗ (bigSep Finset.univ fun k : Slot => atS c k) ∗ toksOf c) : sProp 𝕄)
      ⊢ bigSep Finset.univ (given m) := by
  rw [bigSep_sep', bigSep_sep', ← bigSep_univ_prod (fun ck : Dev nD × Slot => iprop(∃ κ : ℕ, cellInv ER (sch m) κ (kcell ck))),
    ← bigSep_univ_prod (fun ck : Dev nD × Slot => (reached ER (kcell ck) 0 : sProp 𝕄))]
  iintro ⟨HI, #HR, Hrest⟩
  ihave HK := (BI.bigSep_exists_pi Finset.univ (fun (ck : Dev nD × Slot) (κ : ℕ) => (cellInv ER (sch m) κ (kcell ck) : sProp 𝕄))) $$ HI
  icases HK with ⟨%K, #HI⟩
  iapply (with_persistent (R := recs m K) fun c _ => given_intro m K c)
  isplitr
  · unfold recs; isplitl; · iexact HI
    iexact HR
  · iexact Hrest

/-- All the devices' cells at once. -/
theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (given m) :=
  ((bigSep_mono fun c _ => inForce m c).trans (bigSep_fupd _ _)).trans (BI.fupd_mono (share_out m))

/-! ## The credit -/

/-- The units the devices owe a cell at launch. -/
def need (c : Dev nD) : Slot → ℕ
  | .bar => 3
  | .ra s _ => if s = c then 0 else 1
  | .rc s _ => if s = c then 0 else 1
  | _ => 0

theorem owed_count : ∀ (c : Dev nD) (k : Slot), (∑ d : Dev nD, (owing d).count (c, k)) = need c k := by decide +kernel

theorem launch_credit (c : Dev nD) (k : Slot) :
    tallyOn (kcell (c, k)) (launchCredit (Pipeline.owing fun d => owL (owing d)) 0 (kcell (c, k)))
      = (tallyAt (kcell (c, k)) () (need c k * amt k) : CellTallies nD τ sig Unit) := by
  unfold tallyAt; refine congrArg _ (Finsupp.ext fun u => ?_); cases u
  rw [Pipeline.launchCredit_owing, Finsupp.single_eq_same, ← owed_count c k, Finset.sum_mul]
  exact Finset.sum_congr rfl fun d _ => owL_apply (owing d) (c, k)

theorem creds (c : Dev nD) : (Pipeline.launchCred (fun d => owL (owing d)) c : sProp 𝕄) ⊢ credOf c := by
  have h : (Pipeline.launchCred (fun d => owL (owing d)) c : sProp 𝕄) ⊢ bigSep Finset.univ fun k : Slot => credS c k (need c k) := by
    unfold Pipeline.launchCred
    refine (bigSep_subset (Finset.subset_univ (Finset.univ.map ⟨semOf, semOf_inj⟩))).trans ?_
    rw [bigSep_map]
    refine bigSep_mono fun k _ => ?_
    unfold credS
    rw [← launch_credit]
    exact BI.Entails.refl _
  have hra : ∀ (o : Fin 3) (b : Fin 2), need c (.ra (src c o) b) = 1 := fun o b => if_neg (src_ne c o)
  have hrc : ∀ (o : Fin 3) (b : Fin 2), need c (.rc (src c o) b) = 1 := fun o b => if_neg (src_ne c o)
  refine h.trans ?_
  rw [slots_eq c]
  unfold chunkAt credOf chunkCred
  simp only [hra, hrc]
  iintro ⟨HB, ⟨-, -, H1, H2, -⟩, -, -, H3, H4, -⟩
  isplitl [HB]; · iexact HB
  isplitl [H1 H2]
  · isplitl [H1] <;> iassumption
  isplitl [H3] <;> iassumption

end Cert.Proof

end
-- ==== Proof.Run.lean ====
/-
  The run of the kernel: from any memory with its counters at zero, every execution ends with each device's
  argument as it was, its result at the sorted columns sent to it, and every counter at zero.
-/
module

public import proofs.«01_k».proof.Proof.Deal

@[expose] public section

set_option maxRecDepth 16384
set_option synthInstance.maxSize 4096

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## A whole buffer -/

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

theorem owns_of_whole (c : Dev nD) (b : Ref sig .tc) (Y : Buf (Elt F) ((c : Thread nD τ).loc b)) :
    (((c : Thread nD τ).loc b) ↦{fullShare} Y : sProp 𝕄) ⊢ owns (c : Thread nD τ) (Memref.whole b) fullShare Y := by
  rw [owns_whole]
  iintro H
  iexists Y; isplitr
  · ipureintro; rfl
  iexact H
theorem whole_of_owns (c : Dev nD) (b : Ref sig .tc) (Y : Buf (Elt F) ((c : Thread nD τ).loc b)) :
    (owns (c : Thread nD τ) (Memref.whole b) fullShare Y : sProp 𝕄) ⊢ ((c : Thread nD τ).loc b) ↦{fullShare} Y := by
  rw [owns_whole]
  iintro ⟨%f, %h, H⟩
  subst h
  iexact H

variable (m : (ℓ : Loc nD τ sig) → Buf (Elt F) ℓ) (ρ : Dev nD → PrngReg)

/-! ## What the pipeline carries across its one point -/

def start (c : Dev nD) : sProp 𝕄 :=
  iprop(given m c ∗ credOf c ∗ levAts L lv ∗ (((c : Thread nD τ).loc main_arg0) ↦{fullShare} m ((c : Thread nD τ).loc main_arg0))
    ∗ (((c : Thread nD τ).loc main_v1) ↦{fullShare} m ((c : Thread nD τ).loc main_v1)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def before (c : Dev nD) : sProp 𝕄 := iprop(start m c ∗ scratch c)

/-- The result as the launch leaves it in device `c`'s buffer. -/
def outBuf (c : Dev nD) : Buf (Elt F) ((c : Thread nD τ).loc main_v1) := outOf m c

def after (c : Dev nD) : sProp 𝕄 :=
  iprop((bigSep Finset.univ fun k : Slot => semVal (kcell (c, k)) 0) ∗ (((c : Thread nD τ).loc main_arg0) ↦{fullShare} m ((c : Thread nD τ).loc main_arg0))
    ∗ (((c : Thread nD τ).loc main_v1) ↦{fullShare} outBuf m c) ∗ scratch c)

def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => owL (owing c)
    | ⟨_ + 1, _⟩ => 0

/-! ## The body -/

theorem before_body (c : Dev nD) (W) : iprop(before m c ∗ owes (c : Thread nD τ) (owL (owing c)) W) ⊢ (bodyPre m c : sProp 𝕄) := by
  unfold before start given scratch bodyPre st
  iintro ⟨⟨⟨⟨HR, Hat, Htok⟩, Hcr, Hlev, Hx, Ho⟩, ⟨%f0, H0⟩, ⟨%f1, H1⟩⟩, HO⟩
  isplitl [Hat]; · iexact Hat
  isplitl [Htok]; · iexact Htok
  isplitl [Hcr]; · iexact Hcr
  isplitl [Hx]; · iapply (owns_of_whole c main_arg0); iexact Hx
  isplitl [Ho]; · iexists _; iapply (owns_of_whole c main_v1); iexact Ho
  isplitl [H0]; · iexists _; iapply (owns_of_whole c cc0_scratch0); iexact H0
  isplitl [H1]; · iexists _; iapply (owns_of_whole c cc0_scratch1); iexact H1
  isplitl [HR]; · iexact HR
  isplitl [Hlev]; · iexact Hlev
  iexists W; iexact HO

theorem all_closed (K : Dev nD × Slot → ℕ) (c : Dev nD) :
    iprop(recs m K ∗ bigSep Finset.univ fun k : Slot => doneS m c k) ⊢ |={Set.univ}=> (bigSep Finset.univ fun k : Slot => semVal (kcell (c, k)) 0 : sProp 𝕄) :=
  (with_persistent fun k _ => close m K c k).trans (bigSep_fupd _ _)

theorem holds_scratch (c : Dev nD) (g h : Col F) : iprop(holds c (vM 0) g ∗ holds c (vM 1) h) ⊢ (scratch c : sProp 𝕄) := by
  rw [holds_eq, holds_eq]
  unfold scratch
  iintro ⟨H0, H1⟩
  isplitl [H0]
  · iexists g; iapply (whole_of_owns c cc0_scratch0); iexact H0
  · iexists h; iapply (whole_of_owns c cc0_scratch1); iexact H1

theorem body_after (c : Dev nD) : (bodyPost m c : sProp 𝕄) ⊢ |={Set.univ}=> iprop(after m c ∗ ∃ W, owes (c : Thread nD τ) 0 W) := by
  unfold bodyPost st after
  iintro ⟨Hd, Hx, Ho, H0, H1, ⟨%K, #HR⟩, -, HO⟩
  imod (all_closed m K c) $$ [Hd] with Hs
  · isplitr
    · iexact HR
    iexact Hd
  imodintro
  isplitl [Hs Hx Ho H0 H1]
  · isplitl [Hs]; · iexact Hs
    isplitl [Hx]; · iapply (whole_of_owns c main_arg0 (m ((c : Thread nD τ).loc main_arg0))); iexact Hx
    isplitl [Ho]; · iapply (whole_of_owns c main_v1 (outBuf m c)); iexact Ho
    iapply (holds_scratch c)
    isplitl [H0] <;> iassumption
  · iexact HO

theorem wp_own (c : Dev nD) (k : Dev nD → Pr F PUnit) (Q : PUnit → sProp (MT nD τ sig Unit (Elt F) ℕ UU ℕ)) :
    wp frame (wpE (defs₀ (F := F)) 𝒱₀ (c : Thread nD τ) none) Set.univ (Prog.lift .deviceId >>= k) Q
      = wp frame (wpE (defs₀ (F := F)) 𝒱₀ (c : Thread nD τ) none) Set.univ (k c) Q := wp_deviceId 𝒱₀ (c : Thread nD τ) none Set.univ

theorem body_wp (c : Dev nD) : (bodyPre m c : sProp 𝕄) ⊢ wp frame (wpE (defs₀ (F := F)) 𝒱₀ (c : Thread nD τ) none) Set.univ (atArgs (cc0_body (F := F)))
    fun _ => iprop(after m c ∗ ∃ W, owes (c : Thread nD τ) 0 W) := by
  obtain ⟨v, w, h⟩ := body_run (F := F)
  rw [h, wp_own]
  iintro H
  iapply ((body_does m c (v c) (w c)).step _ _) $$ H
  iintro H
  simp only [wp_pure]
  iapply (body_after m c); iexact H

theorem body_obligation (c : Dev nD) : BodyObligation (dats m 0 c) (defs₀ (F := F)) 𝒱₀ () Set.univ := fun t => by
  rw [fin_N0 t]
  show iprop(before m c ∗ (∃ W, ⌜_⌝ ∗ owes (c : Thread nD τ) (owL (owing c)) W) ∗ emp)
    ⊢ wp frame (wpE (defs₀ (F := F)) 𝒱₀ (c : Thread nD τ) none) Set.univ (atArgs (cc0_body (F := F)))
      (fun _ => iprop(after m c ∗ (∃ W, ⌜_⌝ ∗ owes (c : Thread nD τ) 0 W) ∗ emp))
  iintro ⟨Hb, ⟨%W, -, HO⟩, -⟩
  iapply (wp_wand_r frame (wpE (defs₀ (F := F)) 𝒱₀ (c : Thread nD τ) none) Set.univ)
  isplitl [Hb HO]
  · iapply (body_wp m c)
    iapply (before_body m c W)
    isplitl [Hb] <;> iassumption
  iintro %_ ⟨HA, %W', HO⟩
  isplitl [HA]; · iexact HA
  isplitl [HO]
  · iexists W'; isplitr
    · ipureintro; exact fun _ _ => Or.inl trivial
    iexact HO
  iempintro

/-! ## The launch -/

theorem start_intro (c : Dev nD) :
    iprop(Pipeline.unscopedRestP Pipeline.Prefetch.none cfg0.spec c (fun b => m ((c : Thread nD τ).loc b)) ∗ levAts L lv
        ∗ Pipeline.launchCred (fun d => owL (owing d)) c ∗ prngReg c (ρ c) ∗ given m c)
      ⊢ (|={Set.univ}=> iprop(start m c ∗ emp) : sProp 𝕄) := by
  rw [Pipeline.unscopedRestP_none, unscopedRest0_eq]
  iintro ⟨⟨Hx, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx] <;> iassumption
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

/-- What the launch reads the final memory by. -/
def ends (c : Dev nD) : sProp 𝕄 :=
  iprop(unscopedSems0 c ∗ (((c : Thread nD τ).loc main_arg0) ↦{fullShare} m ((c : Thread nD τ).loc main_arg0))
    ∗ (((c : Thread nD τ).loc main_v1) ↦{fullShare} outBuf m c))

theorem after_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = after m c from rfl, scopedRest0_eq]
  unfold after ends scratch
  rw [← sems_eq]
  iintro ⟨⟨Hown, Hus⟩, Hx, Ho, Hr⟩
  isplitl [Hus Hx Ho]
  · isplitl [Hus]; · iexact Hus
    isplitl [Hx] <;> iassumption
  isplitl [Hown]; · iexact Hown
  iexact Hr

theorem waits (c : Dev nD) : (levAts L lv : sProp 𝕄) ⊢ Pipeline.cellsWaits cfgs (dats m) () 0 c :=
  Pipeline.cellsWaits_intro cfgs (dats m) () 0 c fun w => w.elim0

/-- What a device's part of the final memory says. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = outBuf m c

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  iintro H
  ihave H' := h $$ H
  icases H' with ⟨%hr, H⟩
  isplitr
  · ipureintro; exact hr () (Finset.mem_singleton_self _)
  iexact H

theorem ends_read (c : Dev nD) (s' : Phys nD τ sig (Elt F)) :
    iprop(ends m c ∗ emp ∗ SI s') ⊢ (|={Set.univ}=> iprop(⌜QY m c s'.mem⌝ ∗ SI s') : sProp 𝕄) := by
  unfold ends
  iintro ⟨⟨Hu, Hx, Ho⟩, -, HSI⟩
  ihave H1 := (read_one _ _ s') $$ [Hx HSI]
  · isplitl [Hx] <;> iassumption
  icases H1 with ⟨%h1, HSI⟩
  ihave H2 := (read_one _ _ s') $$ [Ho HSI]
  · isplitl [Ho] <;> iassumption
  icases H2 with ⟨%h2, HSI⟩
  imod (Pipeline.unscopedSems0_read (X := unscopedSems0 c) (c := c) fupd_intro s') $$ [Hu HSI] with ⟨%h3, HSI⟩
  · isplitl [Hu] <;> iassumption
  imodintro
  isplitr
  · ipureintro; exact ⟨h3, h1, h2⟩
  iexact HSI

/-- The run. -/
theorem run_main : θ_run defs (onTc (τ := τ) (main (F := F))) ⟨m, fun _ => 0, ρ⟩ (fun r =>
    (∀ c : Dev nD, r.2.mem ((c : Thread nD τ).loc main_v1) = outBuf m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := fun d => owL (owing d)) (howed₀ := fun _ => rfl) (howedN := fun _ => rfl)
    (L := L) (lv := lv) (hL := L_of_ne) (hwaits := waits m)
    (G := dealt m) (G' := given m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := ends m) (Z := fun _ => iprop(emp))
    (hX := start_intro m ρ) (hin := before_intro m) (hout := after_exit m)
    (QY := QY m) (hY := ends_read m)
    (hQ := fun _ h hs => ⟨fun c => ⟨(h c).2.2.2.2, (h c).2.2.2.1⟩, sem_eq_zero hs fun c => (h c).2.2.1⟩)

end Cert.Proof

end
-- ==== Proof.Net.lean ====
/-
  The sort of one column as a network of comparisons: rounds with alternate directions, done by
  negating, comparing in one direction and negating back are the rounds of the bitonic sorting network.
-/
module

public import Idealize.ShloMosaic.Lib.SortNet.Bitonic
public import Idealize.ShloMosaic.Lib.SortNet.Sorts
public import Mathlib.Data.EReal.Operations

@[expose] public section

noncomputable section

namespace Cert.Proof

open Idealize.ShloMosaic Idealize.ShloMosaic.SortNet

/-- A column of numbers. -/
abbrev Line : Type := Fin (2 ^ 15) → EReal

/-- Every pair at distance `2 ^ s` compared: the smaller goes first. -/
def stg (s : ℕ) (v : Line) : Line := Network.apply (stage 15 s fun _ => false) v

/-- The marked entries negated. -/
def ng (P : Fin (2 ^ 15) → Bool) (v : Line) : Line := fun r => if P r then - v r else v r

/-- Is the bit `k` of the place set? -/
def bitAt (k : ℕ) (i : Fin (2 ^ 15)) : Bool := decide (i.val &&& 2 ^ k = 0) == false

/-- The stages at distances `2 ^ (k - 1)`, …, `1`, every pair in the same direction, -/
def mergeT : ℕ → Line → Line
  | 0, v => v
  | k + 1, v => mergeT k (stg k v)
/-- and in the other direction at the marked places. -/
def mergeP (P : Fin (2 ^ 15) → Bool) : ℕ → Line → Line
  | 0, v => v
  | k + 1, v => mergeP P k (Network.apply (stage 15 k P) v)

/-- The first `k` rounds of the sort. -/
def rounds : ℕ → Line → Line
  | 0, v => v
  | k + 1, v => mergeP (bitAt (k + 1)) (k + 1) (rounds k v)

theorem ng_ng (P : Fin (2 ^ 15) → Bool) (v : Line) : ng P (ng P v) = v := by
  funext r; unfold ng
  cases P r <;> simp

theorem ng_xor (P Q : Fin (2 ^ 15) → Bool) (v : Line) : ng (fun r => Bool.xor (P r) (Q r)) v = ng Q (ng P v) := by
  funext r
  show (if Bool.xor (P r) (Q r) then - v r else v r) = if Q r then - (if P r then - v r else v r) else if P r then - v r else v r
  generalize P r = p; generalize Q r = q
  cases p <;> cases q <;> simp

/-- A place is the first or the second of its pair. -/
theorem first_or_second {s : ℕ} (hs : s < 15) (i : Fin (2 ^ 15)) :
    i.val &&& 2 ^ s = 0 ∨ ∃ j : Fin (2 ^ 15), j.val &&& 2 ^ s = 0 ∧ i = partner 15 s j := by
  by_cases h : i.val &&& 2 ^ s = 0
  · exact Or.inl h
  · exact Or.inr ⟨partner 15 s i, partner_and_of_set hs i h, (partner_partner hs i).symm⟩

theorem stg_ng {s : ℕ} (hs : s < 15) (P : Fin (2 ^ 15) → Bool) (hP : ∀ i, P (partner 15 s i) = P i) (v : Line) :
    stg s (ng P v) = ng P (Network.apply (stage 15 s P) v) := by
  have key : ∀ i : Fin (2 ^ 15), i.val &&& 2 ^ s = 0 →
      stg s (ng P v) i = ng P (Network.apply (stage 15 s P) v) i
        ∧ stg s (ng P v) (partner 15 s i) = ng P (Network.apply (stage 15 s P) v) (partner 15 s i) := by
    intro i hi
    have h1 := apply_stage hs (fun _ => false) (ng P v) i hi
    have h2 := apply_stage hs P v i hi
    unfold stg
    rw [h1.1, h1.2]
    have e1 : ng P (Network.apply (stage 15 s P) v) i = if P i then - Network.apply (stage 15 s P) v i else Network.apply (stage 15 s P) v i := rfl
    have e2 : ng P (Network.apply (stage 15 s P) v) (partner 15 s i)
        = if P i then - Network.apply (stage 15 s P) v (partner 15 s i) else Network.apply (stage 15 s P) v (partner 15 s i) := by
      unfold ng; rw [hP i]
    have e3 : ng P v i = if P i then - v i else v i := rfl
    have e4 : ng P v (partner 15 s i) = if P i then - v (partner 15 s i) else v (partner 15 s i) := by unfold ng; rw [hP i]
    rw [e1, e2, h2.1, h2.2, e3, e4]
    cases P i
    · exact ⟨rfl, rfl⟩
    · simp only [if_true, if_false, Bool.false_eq_true]
      exact ⟨(EReal.neg_strictAnti.antitone.map_max).symm, (EReal.neg_strictAnti.antitone.map_min).symm⟩
  funext i
  rcases first_or_second hs i with h | ⟨j, hj, rfl⟩
  · exact (key i h).1
  · exact (key j hj).2

theorem mergeT_ng (P : Fin (2 ^ 15) → Bool) (k : ℕ) (hk : k ≤ 15) (hP : ∀ s < k, ∀ i, P (partner 15 s i) = P i) (v : Line) :
    mergeT k (ng P v) = ng P (mergeP P k v) := by
  induction k generalizing v with
  | zero => rfl
  | succ k ih =>
    show mergeT k (stg k (ng P v)) = ng P (mergeP P k _)
    rw [stg_ng (by omega) P (hP k (Nat.lt_succ_self k)), ih (by omega) fun s hs => hP s (by omega)]

/-- A comparison at a smaller distance leaves the bit as it is. -/
theorem bitAt_partner {k s : ℕ} (hs : s < 15) (h : s < k) (i : Fin (2 ^ 15)) : bitAt k (partner 15 s i) = bitAt k i := by
  unfold bitAt
  rw [partner_val hs, Nat.and_xor_distrib_right]
  have h0 : 2 ^ s &&& 2 ^ k = 0 := by
    rw [and_two_pow_eq_zero_iff_testBit, Nat.testBit_two_pow]; simp; omega
  rw [h0, Nat.xor_zero]

/-- One round by negating, comparing and negating back. -/
theorem round_eq (k : ℕ) (hk : k < 15) (v : Line) :
    mergeT (k + 1) (ng (bitAt (k + 1)) (rounds k v)) = ng (bitAt (k + 1)) (rounds (k + 1) v) :=
  mergeT_ng (bitAt (k + 1)) (k + 1) (by omega) (fun s hs i => bitAt_partner (by omega) hs i) _

/-- Negating by the last bit changes nothing: no place has it. -/
theorem ng_last (v : Line) : ng (bitAt 15) v = v := by
  funext r; unfold ng
  have h : bitAt 15 r = false := by
    unfold bitAt
    rw [(and_two_pow_eq_zero_iff_testBit _ _).mpr (Nat.testBit_lt_two_pow r.isLt)]; rfl
  rw [h]; rfl

theorem mergeP_eq (P : Fin (2 ^ 15) → Bool) (k : ℕ) (v : Line) :
    mergeP P k v = Network.apply ((List.range k).reverse.flatMap fun s => stage 15 s P) v := by
  induction k generalizing v with
  | zero => rfl
  | succ k ih =>
    rw [List.range_succ, List.reverse_append, List.reverse_singleton, List.singleton_append, List.flatMap_cons, Network.apply_append, ← ih]
    rfl

theorem rounds_eq (k : ℕ) (v : Line) :
    rounds k v = Network.apply ((List.range k).flatMap fun l => (List.range (l + 1)).reverse.flatMap fun s =>
      stage 15 s fun i => (decide (i.val &&& 2 ^ (l + 1) = 0)) == false) v := by
  induction k with
  | zero => rfl
  | succ k ih =>
    rw [List.range_succ, List.flatMap_append, Network.apply_append, ← ih, List.flatMap_singleton, ← mergeP_eq]
    rfl

/-- The fifteen rounds rearrange the column and leave it ascending. -/
theorem rounds_sorted (v : Line) : Monotone (rounds 15 v) ∧ ∃ σ : Equiv.Perm (Fin (2 ^ 15)), rounds 15 v = v ∘ σ := by
  have h : rounds 15 v = Network.apply (sortNet 15 false) v := rounds_eq 15 v
  rw [h]
  exact ⟨sortNet_apply_monotone 15 v, Network.exists_perm _ v⟩

end Cert.Proof

end
-- ==== Proof.Exchange.lean ====
/-
  What the operations of one block do to each column, over the extended reals.

  The comparison stage at stride `2 ^ e` inside a block is the stage at distance `2 ^ e` of the whole column read
  at the block's rows, and the negations of a block are the negations of the column.
-/
module

public import proofs.«01_k».proof.Proof.Loops
public import proofs.«01_k».proof.Proof.Net
public import Idealize.ShloMosaic.Lib.Pipeline.Value
public import Idealize.ShloMosaic.Lib.ValueIdx
public import Idealize.ShloMosaic.PureOps.Ideal.Laws

@[expose] public section

set_option maxRecDepth 16384
set_option synthInstance.maxSize 4096

noncomputable section

namespace Cert.Proof

open Idealize.ShloMosaic Idealize.SL.Sem Idealize.ShloMosaic.ValueIdx Idealize.ShloMosaic.SortNet
open Cert.KernelIdeal Cert.KernelIdeal.Gen

/-- The place in the column of row `y` of block `q`. -/
def row (q : Fin 64) (y : Fin 512) : Fin (2 ^ 15) := ⟨512 * q.val + y.val, by have := q.isLt; have := y.isLt; omega⟩

/-- The block operation `f` does to every column of block `q` what `T` does to the whole column. -/
def Acts (q : Fin 64) (f : Blk Ideal → Blk Ideal) (T : Line → Line) : Prop :=
  ∀ (w : Blk Ideal) (v : Line) (j : Fin 128), (∀ y : Fin 512, w (ix2 y j) = v (row q y)) →
    ∀ y : Fin 512, f w (ix2 y j) = T v (row q y)

theorem Acts.comp {q : Fin 64} {f g : Blk Ideal → Blk Ideal} {S T : Line → Line} (hf : Acts q f S) (hg : Acts q g T) :
    Acts q (fun w => f (g w)) (fun v => S (T v)) := fun w v j h => hf (g w) (T v) j (hg w v j h)

/-! ## A pair of places -/

/-- Two places `2 ^ e` apart whose first has the bit `e` clear are a pair. -/
theorem pair_of {e : ℕ} (he : e < 15) (lo hi : Fin (2 ^ 15)) (A b : ℕ) (hb : b < 2 ^ e) (hlo : lo.val = 2 ^ e * (2 * A) + b)
    (hhi : hi.val = 2 ^ e * (2 * A + 1) + b) : lo.val &&& 2 ^ e = 0 ∧ partner 15 e lo = hi := by
  refine ⟨?_, Fin.ext ?_⟩
  · rw [and_two_pow_eq_zero_iff_testBit, hlo, Nat.testBit_two_pow_mul_add _ hb]
    simp
  · rw [partner_val he, hlo, hhi]
    refine Nat.eq_of_testBit_eq fun n => ?_
    rw [Nat.testBit_xor, Nat.testBit_two_pow_mul_add _ hb, Nat.testBit_two_pow_mul_add _ hb, Nat.testBit_two_pow]
    by_cases h1 : n < e
    · have h2 : ¬ e = n := by omega
      simp [h1, h2]
    · by_cases h2 : e = n
      · subst h2; simp
      · obtain ⟨k, rfl⟩ : ∃ k, n = e + (k + 1) := ⟨n - e - 1, by omega⟩
        have e1 : e + (k + 1) - e = k + 1 := by omega
        simp only [h1, if_false, h2, decide_false, Bool.xor_false, e1, Nat.testBit_succ]
        congr 1; omega

/-- The stage at a pair. -/
theorem stg_pair {e : ℕ} (he : e < 15) (v : Line) (lo hi : Fin (2 ^ 15)) (A b : ℕ) (hb : b < 2 ^ e) (hlo : lo.val = 2 ^ e * (2 * A) + b)
    (hhi : hi.val = 2 ^ e * (2 * A + 1) + b) : stg e v lo = min (v lo) (v hi) ∧ stg e v hi = max (v lo) (v hi) := by
  obtain ⟨h0, h1⟩ := pair_of he lo hi A b hb hlo hhi
  have h := apply_stage he (fun _ => false) v lo h0
  rw [h1] at h
  exact h

/-! ## The comparison stage of a block, element by element -/

section
variable {R s : ℕ} (hs : R * (2 * s) = 512)

include hs in
theorem run_lt (a : Fin R) (p : Fin 2) (i : Fin s) : (a.val * 2 + p.val) * s + i.val < 512 := by
  have h1 : (a.val * 2 + p.val + 1) * s ≤ (R * 2) * s := Nat.mul_le_mul_right _ (by have := a.isLt; have := p.isLt; omega)
  have h2 : (R * 2) * s = 512 := by rw [Nat.mul_assoc]; exact hs
  have h3 := i.isLt
  rw [Nat.add_mul, Nat.one_mul] at h1
  omega

/-- Row `i` of the half `p` of the run `a`. -/
def runRow (a : Fin R) (p : Fin 2) (i : Fin s) : Fin 512 := ⟨(a.val * 2 + p.val) * s + i.val, run_lt hs a p i⟩

theorem split_apply {α : Type} (h : S512x128.ShapeCasts (Sh R s)) (v : S512x128.Idx → α) (a : Fin R) (p : Fin 2) (i : Fin s) (j : Fin 128) :
    shapeCast (Sh R s) v h (ix4 a p i j) = v (ix2 (runRow hs a p i) j) :=
  shapeCast_apply v h _ _ (by rw [Shape.rowMajor_val_two, Shape.rowMajor_val_four]; rfl)

theorem loF_apply (h : Fits R s) (w : FVec Ideal (Sh R s) .f32) (a : Fin R) (i : Fin s) (j : Fin 128) :
    loF h w (ix3 a i j) = w (ix4 a 0 i j) := by
  unfold loF
  rw [shapeCast_apply _ h.drop (ix3 a i j) (ix4 a (0 : Fin 1) i j) (by
    rw [Shape.rowMajor_val_three, Shape.rowMajor_val_four]
    show (((a.val * 1 + 0) * s + i.val) * 128 + j.val) = (a.val * s + i.val) * 128 + j.val
    rw [Nat.mul_one, Nat.add_zero])]
  exact extractStridedSlice_apply _ w h.lo _ _ fun x => match x with
    | ⟨0, _⟩ => (Nat.zero_add _).symm | ⟨1, _⟩ => rfl | ⟨2, _⟩ => (Nat.zero_add _).symm | ⟨3, _⟩ => (Nat.zero_add _).symm

theorem hiF_apply (h : Fits R s) (w : FVec Ideal (Sh R s) .f32) (a : Fin R) (i : Fin s) (j : Fin 128) :
    hiF h w (ix3 a i j) = w (ix4 a 1 i j) := by
  unfold hiF
  rw [shapeCast_apply _ h.drop (ix3 a i j) (ix4 a (0 : Fin 1) i j) (by
    rw [Shape.rowMajor_val_three, Shape.rowMajor_val_four]
    show (((a.val * 1 + 0) * s + i.val) * 128 + j.val) = (a.val * s + i.val) * 128 + j.val
    rw [Nat.mul_one, Nat.add_zero])]
  exact extractStridedSlice_apply _ w h.hi _ _ fun x => match x with
    | ⟨0, _⟩ => (Nat.zero_add _).symm | ⟨1, _⟩ => rfl | ⟨2, _⟩ => (Nat.zero_add _).symm | ⟨3, _⟩ => (Nat.zero_add _).symm

theorem add_apply {α : Type} (h : (Sh0 R s).ShapeCasts (Sh1 R s)) (x : (Sh0 R s).Idx → α) (a : Fin R) (i : Fin s) (j : Fin 128) :
    shapeCast (Sh1 R s) x h (ix4 a (0 : Fin 1) i j) = x (ix3 a i j) :=
  shapeCast_apply x h _ _ (by
    rw [Shape.rowMajor_val_three, Shape.rowMajor_val_four]
    show (a.val * s + i.val) * 128 + j.val = (((a.val * 1 + 0) * s + i.val) * 128 + j.val)
    rw [Nat.mul_one, Nat.add_zero])

theorem joinF_lo (h : Fits R s) (x y : FVec Ideal (Sh0 R s) .f32) (a : Fin R) (i : Fin s) (j : Fin 128) :
    joinF h x y (ix2 (runRow hs a 0 i) j) = x (ix3 a i j) := by
  unfold joinF
  rw [shapeCast_apply _ h.join _ (ix4 a (0 : Fin 2) i j) (by rw [Shape.rowMajor_val_two, Shape.rowMajor_val_four]; rfl),
    concatenate_pair_apply_left 1 _ _ h.cat (ix4 a (0 : Fin 2) i j) rfl (ix4 a (0 : Fin 1) i j) (fun b => match b with
      | ⟨0, _⟩ => rfl | ⟨1, _⟩ => rfl | ⟨2, _⟩ => rfl | ⟨3, _⟩ => rfl), add_apply]

theorem joinF_hi (h : Fits R s) (x y : FVec Ideal (Sh0 R s) .f32) (a : Fin R) (i : Fin s) (j : Fin 128) :
    joinF h x y (ix2 (runRow hs a 1 i) j) = y (ix3 a i j) := by
  unfold joinF
  rw [shapeCast_apply _ h.join _ (ix4 a (1 : Fin 2) i j) (by rw [Shape.rowMajor_val_two, Shape.rowMajor_val_four]; rfl),
    concatenate_pair_apply_right 1 _ _ h.cat (ix4 a (1 : Fin 2) i j) rfl rfl (ix4 a (0 : Fin 1) i j) (fun b hb => match b with
      | ⟨0, _⟩ => rfl | ⟨1, _⟩ => absurd rfl hb | ⟨2, _⟩ => rfl | ⟨3, _⟩ => rfl) rfl, add_apply]

theorem cmpx_lo (h : Fits R s) (v : Blk Ideal) (a : Fin R) (i : Fin s) (j : Fin 128) :
    cmpx (F := Ideal) h v (ix2 (runRow hs a 0 i) j) = min (v (ix2 (runRow hs a 0 i) j)) (v (ix2 (runRow hs a 1 i) j)) := by
  unfold cmpx
  rw [joinF_lo, minimumf_apply, loF_apply, hiF_apply, split_apply hs, split_apply hs]

theorem cmpx_hi (h : Fits R s) (v : Blk Ideal) (a : Fin R) (i : Fin s) (j : Fin 128) :
    cmpx (F := Ideal) h v (ix2 (runRow hs a 1 i) j) = max (v (ix2 (runRow hs a 0 i) j)) (v (ix2 (runRow hs a 1 i) j)) := by
  unfold cmpx
  rw [joinF_hi, maximumf_apply, loF_apply, hiF_apply, split_apply hs, split_apply hs]

include hs in
/-- Every row is a row of a half of a run. -/
theorem exists_runRow (y : Fin 512) : ∃ a p i, y = runRow hs a p i := by
  have h0 : 0 < s := by rcases Nat.eq_zero_or_pos s with h | h; · subst h; omega
                        · exact h
  have hd : y.val / s < R * 2 := by
    rw [Nat.div_lt_iff_lt_mul h0, Nat.mul_assoc, hs]; exact y.isLt
  refine ⟨⟨y.val / s / 2, by omega⟩, ⟨y.val / s % 2, by omega⟩, ⟨y.val % s, Nat.mod_lt _ h0⟩, Fin.ext ?_⟩
  show y.val = (y.val / s / 2 * 2 + y.val / s % 2) * s + y.val % s
  rw [Nat.div_add_mod', Nat.div_add_mod']

end

/-- The comparison stage of a block is the stage of the column at the block's rows. -/
theorem acts_cmpx {R e : ℕ} (h : Fits R (2 ^ e)) (hs : R * (2 * 2 ^ e) = 512) (he : e < 15) (q : Fin 64) : Acts q (cmpx (F := Ideal) h) (stg e) := by
  intro w v j hw y
  obtain ⟨a, p, i, rfl⟩ := exists_runRow hs y
  have hp := stg_pair he v (row q (runRow hs a 0 i)) (row q (runRow hs a 1 i)) (q.val * R + a.val) i.val i.isLt
    (by show 512 * q.val + ((a.val * 2 + 0) * 2 ^ e + i.val) = _; rw [← hs]; ring)
    (by show 512 * q.val + ((a.val * 2 + 1) * 2 ^ e + i.val) = _; rw [← hs]; ring)
  match p with
  | ⟨0, _⟩ => exact (cmpx_lo hs h w a i j).trans (by rw [hw, hw]; exact hp.1.symm)
  | ⟨1, _⟩ => exact (cmpx_hi hs h w a i j).trans (by rw [hw, hw]; exact hp.2.symm)

/-! ## The negations -/

theorem negF_apply (v : Blk Ideal) (x : S512x128.Idx) : negF (F := Ideal) v x = - v x := by
  unfold negF
  rw [subf_apply]
  show Ideal.ofBits .f32 0x00000000#32 - v x = _
  rw [Ideal.ofBits_zero_f32]
  exact zero_sub _

/-- Negating the rows with a bit set. -/
theorem acts_flipRows {k : ℕ} (K : BitVec 32) (q : Fin 64)
    (hK : ∀ y : Fin 512, Scalar.cmpi .ne (Scalar.andi (BitVec.ofNat 32 y.val) K) 0#32 = BitVec.ofBool (bitAt k (row 0 y)))
    (hk : ∀ y : Fin 512, bitAt k (row q y) = bitAt k (row 0 y)) : Acts q (flipRows (F := Ideal) K) (ng (bitAt k)) := by
  intro w v j hw y
  unfold flipRows ng
  rw [hk, shapeCast_self]
  show Scalar.select (broadcastTo S512x128 _ _ (ix2 y j)) (negF (F := Ideal) w (ix2 y j)) (w (ix2 y j)) = _
  rw [broadcastTo_apply _ broadcasts_S512x1_S512x128 (ix2 y j) (ix2 y (0 : Fin 1)) (fun a => match a with
    | ⟨0, _⟩ => rfl | ⟨1, _⟩ => rfl), negF_apply, hw]
  have e : cmpi .ne (andi rowsV (broadcast S512x1 K)) (broadcast S512x1 0#32) (ix2 y (0 : Fin 1))
      = BitVec.ofBool (bitAt k (row 0 y)) := by
    rw [← hK y]
    show Scalar.cmpi .ne (Scalar.andi (rowsV (ix2 y (0 : Fin 1))) K) 0#32 = _
    unfold rowsV
    rw [iota_single_apply]
  rw [e]
  cases bitAt k (row 0 y) <;> rfl

/-- Negating a whole block. -/
theorem acts_flipAll (b : BitVec 1) (P : Fin (2 ^ 15) → Bool) (q : Fin 64) (hb : ∀ y, BitVec.ofBool (P (row q y)) = b) :
    Acts q (flipAll (F := Ideal) b) (ng P) := by
  intro w v j hw y
  unfold flipAll ng
  rw [← hb y]
  cases P (row q y)
  · exact hw y
  · show negF (F := Ideal) w (ix2 y j) = _
    rw [negF_apply, hw]; rfl

end Cert.Proof

end
-- ==== Proof.Column.lean ====
/-
  What the sort of a column buffer does to each of its columns, over the extended reals: it rearranges the column
  and leaves it ascending.
-/
module

public import proofs.«01_k».proof.Proof.Exchange

@[expose] public section

set_option maxRecDepth 16384
set_option synthInstance.maxSize 4096

noncomputable section

namespace Cert.Proof

open Idealize.ShloMosaic Idealize.SL.Sem Idealize.ShloMosaic.ValueIdx Idealize.ShloMosaic.SortNet
open Cert.KernelIdeal Cert.KernelIdeal.Gen

/-- Column `j` of a buffer. -/
def lane (g : Col Ideal) (j : Fin 128) : Line := fun r => g (ix2 ⟨r.val, r.isLt⟩ j)

/-! ## The bits of a place -/

theorem bitAt_eq (k : ℕ) (i : Fin (2 ^ 15)) : bitAt k i = i.val.testBit k := by
  unfold bitAt
  by_cases h : i.val.testBit k = false
  · rw [(and_two_pow_eq_zero_iff_testBit _ _).mpr h, h]; rfl
  · rw [Bool.not_eq_false] at h
    rw [h, decide_eq_false fun e => by rw [and_two_pow_eq_zero_iff_testBit, h] at e; cases e]; rfl

/-- A low bit is a bit of the row within the block, -/
theorem bitAt_low {k : ℕ} (hk : k < 9) (q : Fin 64) (y : Fin 512) : bitAt k (row q y) = bitAt k (row 0 y) := by
  have e (q : Fin 64) : (row q y).val = 2 ^ 9 * q.val + y.val := rfl
  rw [bitAt_eq, bitAt_eq, e, e, Nat.testBit_two_pow_mul_add _ y.isLt, Nat.testBit_two_pow_mul_add _ y.isLt, if_pos hk, if_pos hk]
/-- and a high one a bit of the block. -/
theorem bitAt_high (k : ℕ) (q : Fin 64) (y : Fin 512) : bitAt (9 + k) (row q y) = q.val.testBit k := by
  have e : (row q y).val = 2 ^ 9 * q.val + y.val := rfl
  rw [bitAt_eq, e, Nat.testBit_two_pow_mul_add _ y.isLt, if_neg (by omega), Nat.add_sub_cancel_left]

/-! ## Inside a block -/

section
variable (q : Fin 64)

theorem acts_merge1 : Acts q (merge1 (F := Ideal)) (mergeT 1) := acts_cmpx (e := 0) fits0 rfl (by decide) q
theorem acts_merge2 : Acts q (merge2 (F := Ideal)) (mergeT 2) := (acts_merge1 q).comp (acts_cmpx (e := 1) fits1 rfl (by decide) q)
theorem acts_merge3 : Acts q (merge3 (F := Ideal)) (mergeT 3) := (acts_merge2 q).comp (acts_cmpx (e := 2) fits2 rfl (by decide) q)
theorem acts_merge4 : Acts q (merge4 (F := Ideal)) (mergeT 4) := (acts_merge3 q).comp (acts_cmpx (e := 3) fits3 rfl (by decide) q)
theorem acts_merge5 : Acts q (merge5 (F := Ideal)) (mergeT 5) := (acts_merge4 q).comp (acts_cmpx (e := 4) fits4 rfl (by decide) q)
theorem acts_merge6 : Acts q (merge6 (F := Ideal)) (mergeT 6) := (acts_merge5 q).comp (acts_cmpx (e := 5) fits5 rfl (by decide) q)
theorem acts_merge7 : Acts q (merge7 (F := Ideal)) (mergeT 7) := (acts_merge6 q).comp (acts_cmpx (e := 6) fits6 rfl (by decide) q)
theorem acts_merge8 : Acts q (merge8 (F := Ideal)) (mergeT 8) := (acts_merge7 q).comp (acts_cmpx (e := 7) fits7 rfl (by decide) q)
theorem acts_merge9 : Acts q (merge9 (F := Ideal)) (mergeT 9) := (acts_merge8 q).comp (acts_cmpx (e := 8) fits8 rfl (by decide) q)

/-- One round inside a block, after the rounds before it. -/
theorem acts_round {k : ℕ} (hk : k + 1 < 9) (K : BitVec 32) {mg f : Blk Ideal → Blk Ideal}
    (hK : ∀ y : Fin 512, Scalar.cmpi .ne (Scalar.andi (BitVec.ofNat 32 y.val) K) 0#32 = BitVec.ofBool (bitAt (k + 1) (row 0 y)))
    (hm : Acts q mg (mergeT (k + 1))) (hf : Acts q f (rounds k)) :
    Acts q (fun w => flipRows (F := Ideal) K (mg (flipRows (F := Ideal) K (f w)))) (rounds (k + 1)) := by
  have hfl := acts_flipRows K q hK (fun y => bitAt_low hk q y)
  have h := hfl.comp (hm.comp (hfl.comp hf))
  have e : (fun v => ng (bitAt (k + 1)) (mergeT (k + 1) (ng (bitAt (k + 1)) (rounds k v)))) = rounds (k + 1) :=
    funext fun v => by rw [round_eq k (by omega) v, ng_ng]
  rwa [e] at h

theorem acts_chunk8 : Acts q (chunk8 (F := Ideal)) (rounds 8) :=
  acts_round q (by decide) 256#32 (by decide +kernel) (acts_merge8 q) <|
  acts_round q (by decide) 128#32 (by decide +kernel) (acts_merge7 q) <|
  acts_round q (by decide) 64#32 (by decide +kernel) (acts_merge6 q) <|
  acts_round q (by decide) 32#32 (by decide +kernel) (acts_merge5 q) <|
  acts_round q (by decide) 16#32 (by decide +kernel) (acts_merge4 q) <|
  acts_round q (by decide) 8#32 (by decide +kernel) (acts_merge3 q) <|
  acts_round q (by decide) 4#32 (by decide +kernel) (acts_merge2 q) <|
  acts_round q (k := 0) (f := fun w => w) (by decide) 2#32 (by decide +kernel) (acts_merge1 q) fun _ _ _ h => h

/-- Negating a block between two rounds: by the bits of both. -/
theorem acts_between (b b' : BitVec 1) (k : ℕ) (hb : b = BitVec.ofBool (q.val.testBit k)) (hb' : b' = BitVec.ofBool (q.val.testBit (k + 1))) :
    Acts q (flipAll (F := Ideal) (Scalar.xori b b')) (fun v => ng (bitAt (9 + k + 1)) (ng (bitAt (9 + k)) v)) := by
  have h := acts_flipAll (Scalar.xori b b') (fun r => Bool.xor (bitAt (9 + k) r) (bitAt (9 + k + 1) r)) q (fun y => by
    rw [bitAt_high, Nat.add_assoc, bitAt_high, hb, hb']
    cases q.val.testBit k <;> cases q.val.testBit (k + 1) <;> rfl)
  have e : ng (fun r => Bool.xor (bitAt (9 + k) r) (bitAt (9 + k + 1) r)) = fun v => ng (bitAt (9 + k + 1)) (ng (bitAt (9 + k)) v) :=
    funext fun v => ng_xor _ _ v
  rwa [e] at h

/-- Seeing a block under its own shape changes nothing. -/
theorem Acts.cast {f : Blk Ideal → Blk Ideal} {T : Line → Line} (h : Acts q f T) :
    Acts q (fun w => shapeCast S512x128 (f w) shapeCasts_S512x128_S512x128) T := fun w v j hw y => by
  show shapeCast S512x128 (f w) _ (ix2 y j) = _
  rw [shapeCast_self]; exact h w v j hw y

theorem acts_chunkF (hodd : oddBit (Scf.iv 0#32 1#32 q) = BitVec.ofBool (q.val.testBit 0))
    (hbit : blockBit (Scf.iv 0#32 1#32 q) 1024#32 = BitVec.ofBool (q.val.testBit 1)) :
    Acts q (chunkF (F := Ideal) (Scf.iv 0#32 1#32 q)) (fun v => ng (bitAt 10) (rounds 9 v)) := by
  have h9 := acts_flipAll (oddBit (Scf.iv 0#32 1#32 q)) (bitAt 9) q (fun y => by rw [hodd]; exact congrArg _ (bitAt_high 0 q y))
  have h := ((acts_between q _ _ 0 hodd hbit).comp ((acts_merge9 q).comp (h9.comp (acts_chunk8 q)))).cast
  have e : (fun v => ng (bitAt 10) (ng (bitAt 9) (mergeT 9 (ng (bitAt 9) (rounds 8 v))))) = fun v => ng (bitAt 10) (rounds 9 v) :=
    funext fun v => by rw [round_eq 8 (by decide) v, ng_ng]
  exact e ▸ h

theorem acts_intraF (K K' : BitVec 32) (k : ℕ) (hb : blockBit (Scf.iv 0#32 1#32 q) K = BitVec.ofBool (q.val.testBit k))
    (hb' : blockBit (Scf.iv 0#32 1#32 q) K' = BitVec.ofBool (q.val.testBit (k + 1))) :
    Acts q (intraF (F := Ideal) K K' (Scf.iv 0#32 1#32 q)) (fun v => ng (bitAt (9 + k + 1)) (ng (bitAt (9 + k)) (mergeT 9 v))) :=
  ((acts_between q _ _ k hb hb').comp (acts_merge9 q)).cast

theorem acts_lastF : Acts q (lastF (F := Ideal)) (mergeT 9) := (acts_merge9 q).cast

end

/-! ## The stages of the buffer -/

theorem lane_blockStage (f : Fin 64 → Blk Ideal → Blk Ideal) (T : Line → Line) (h : ∀ q, Acts q (f q) T) (g : Col Ideal) (j : Fin 128) :
    lane (blockStage f g) j = T (lane g j) := by
  funext r
  have hr : row (qOf (ix2 ⟨r.val, r.isLt⟩ j)) ⟨r.val % 512, Nat.mod_lt _ (by decide)⟩ = r := Fin.ext (Nat.div_add_mod r.val 512)
  exact (h (qOf (ix2 ⟨r.val, r.isLt⟩ j)) (blk g _) (lane g j) j (fun _ => rfl) ⟨r.val % 512, Nat.mod_lt _ (by decide)⟩).trans
    (congrArg (T (lane g j)) hr)

/-- Comparing blocks `2 ^ d` apart is the stage at distance `2 ^ (9 + d)`. -/
theorem lane_pairStage (d : ℕ) (hd : d < 6) (g : Col Ideal) (j : Fin 128) : lane (pairStage (2 ^ d) g) j = stg (9 + d) (lane g j) := by
  funext r
  have ht : 0 < 2 ^ d := Nat.two_pow_pos d
  have h9 : 2 ^ (9 + d) = 512 * 2 ^ d := Nat.pow_add 2 9 d
  have hq := pair_split ht (r.val / 512)
  have hm := Nat.mod_lt (r.val / 512) ht
  have hr := Nat.div_add_mod r.val 512
  have hm' := Nat.mod_lt r.val (show 512 > 0 by decide)
  have hlt := r.isLt
  have hA : ∀ p : ℕ, 2 ^ (9 + d) * (2 * (r.val / 512 / (2 * 2 ^ d)) + p) + (512 * (r.val / 512 % 2 ^ d) + r.val % 512)
      = 512 * (r.val / 512 / (2 * 2 ^ d) * (2 * 2 ^ d) + p * 2 ^ d + r.val / 512 % 2 ^ d) + r.val % 512 := fun p => by rw [h9]; ring
  have hb : 512 * (r.val / 512 % 2 ^ d) + r.val % 512 < 2 ^ (9 + d) := by rw [h9]; omega
  have hx : qOf (ix2 ⟨r.val, r.isLt⟩ j) = ⟨r.val / 512, by omega⟩ := rfl
  unfold lane pairStage
  rw [hx]
  have hg : blk g ⟨r.val / 512, by omega⟩ (inBlk (ix2 ⟨r.val, r.isLt⟩ j)) = lane g j r :=
    congrArg g (ofBlk_qOf (ix2 ⟨r.val, r.isLt⟩ j))
  by_cases hp : isHi (2 ^ d) (r.val / 512)
  · rw [if_pos hp]
    unfold isHi at hp
    rw [hp] at hq
    have hle : 2 ^ d ≤ r.val / 512 := by omega
    have h := stg_pair (show 9 + d < 15 by omega) (lane g j) ⟨r.val - 512 * 2 ^ d, by omega⟩ r (r.val / 512 / (2 * 2 ^ d)) _ hb
      (by have := hA 0; rw [Nat.add_zero] at this; rw [this]; show r.val - 512 * 2 ^ d = _; omega) (by rw [hA 1]; omega)
    refine Eq.trans ?_ h.2.symm
    unfold maxF
    rw [shapeCast_self, maximumf_apply, hg]
    congr 1
    refine congrArg g (congrArg (fun a => ix2 a j) (Fin.ext ?_))
    show 512 * (r.val / 512 - 2 ^ d) + r.val % 512 = r.val - 512 * 2 ^ d
    omega
  · rw [if_neg hp]
    unfold isHi at hp
    have hp' : r.val / 512 / 2 ^ d % 2 = 0 := by omega
    rw [hp'] at hq
    have h64 : r.val / 512 / (2 * 2 ^ d) * (2 * 2 ^ d) + 2 * 2 ^ d ≤ 64 := by
      have hdvd : 2 * 2 ^ d ∣ 64 := by
        rw [Nat.mul_comm, ← Nat.pow_succ]; exact Nat.pow_dvd_pow 2 (show d + 1 ≤ 6 by omega)
      obtain ⟨c, hc⟩ := hdvd
      have h1 : r.val / 512 / (2 * 2 ^ d) < c := by
        rw [Nat.div_lt_iff_lt_mul (by omega), Nat.mul_comm, ← hc]; omega
      have h2 := Nat.mul_le_mul_right (2 * 2 ^ d) (Nat.succ_le_of_lt h1)
      rw [Nat.succ_mul, Nat.mul_comm c, ← hc] at h2
      exact h2
    have hup : r.val / 512 + 2 ^ d < 64 := by omega
    have h := stg_pair (show 9 + d < 15 by omega) (lane g j) r ⟨r.val + 512 * 2 ^ d, by omega⟩ (r.val / 512 / (2 * 2 ^ d)) _ hb
      (by have := hA 0; rw [Nat.add_zero] at this; rw [this]; omega) (by rw [hA 1]; show r.val + 512 * 2 ^ d = _; omega)
    refine Eq.trans ?_ h.1.symm
    unfold minF
    rw [shapeCast_self, minimumf_apply, hg]
    congr 1
    refine congrArg g (congrArg (fun a => ix2 a j) (Fin.ext ?_))
    show 512 * ((r.val / 512 + 2 ^ d) % 64) + r.val % 512 = r.val + 512 * 2 ^ d
    rw [Nat.mod_eq_of_lt hup]
    omega

/-- The distances of a round, the largest first. -/
def dists : ℕ → List ℕ
  | 0 => []
  | n + 1 => 2 ^ n :: dists n

theorem lane_dists (n : ℕ) (hn : n ≤ 6) (g : Col Ideal) (j : Fin 128) :
    mergeT 9 (lane ((dists n).foldl (fun g t => pairStage t g) g) j) = mergeT (9 + n) (lane g j) := by
  induction n generalizing g with
  | zero => rfl
  | succ n ih =>
    show mergeT 9 (lane ((dists n).foldl _ (pairStage (2 ^ n) g)) j) = mergeT (9 + n) (stg (9 + n) (lane g j))
    rw [ih (by omega), lane_pairStage n (by omega)]

/-- One round of the buffer, after the rounds before it. -/
theorem lane_round (n : ℕ) (hn : n ≤ 5) (K K' : BitVec 32) (g : Col Ideal) (j : Fin 128) (v : Line)
    (hK : ∀ q : Fin 64, blockBit (Scf.iv 0#32 1#32 q) K = BitVec.ofBool (q.val.testBit n))
    (hK' : ∀ q : Fin 64, blockBit (Scf.iv 0#32 1#32 q) K' = BitVec.ofBool (q.val.testBit (n + 1)))
    (hg : lane g j = ng (bitAt (9 + n)) (rounds (8 + n) v)) :
    lane (roundStage (dists n) (mergeStage K K') g) j = ng (bitAt (9 + (n + 1))) (rounds (8 + (n + 1)) v) := by
  unfold roundStage mergeStage
  rw [lane_blockStage _ _ (fun q => acts_intraF q K K' n (hK q) (hK' q)), lane_dists n (by omega), hg]
  have e : 9 + n = 8 + n + 1 := by omega
  have h := round_eq (8 + n) (by omega) v
  rw [← e] at h
  rw [h, ng_ng]
  show _ = ng (bitAt (9 + n + 1)) (rounds (8 + n + 1) v)
  rw [← e]

/-- Column `j` of the sorted buffer. -/
theorem lane_sortCol (g : Col Ideal) (j : Fin 128) : lane (sortCol g) j = rounds 15 (lane g j) := by
  have h0 : lane (chunkStage g) j = ng (bitAt (9 + 1)) (rounds (8 + 1) (lane g j)) :=
    lane_blockStage _ _ (fun q => acts_chunkF q (by revert q; decide +kernel) (by revert q; decide +kernel)) g j
  have h1 := lane_round 1 (by decide) 1024#32 2048#32 _ j _ (by decide +kernel) (by decide +kernel) h0
  have h2 := lane_round 2 (by decide) 2048#32 4096#32 _ j _ (by decide +kernel) (by decide +kernel) h1
  have h3 := lane_round 3 (by decide) 4096#32 8192#32 _ j _ (by decide +kernel) (by decide +kernel) h2
  have h4 := lane_round 4 (by decide) 8192#32 16384#32 _ j _ (by decide +kernel) (by decide +kernel) h3
  have h5 := lane_round 5 (by decide) 16384#32 32768#32 _ j _ (by decide +kernel) (by decide +kernel) h4
  unfold sortCol
  show lane (blockStage (fun _ => lastF (F := Ideal)) ((dists 6).foldl _ _)) j = _
  rw [lane_blockStage _ _ acts_lastF, lane_dists 6 (by decide)]
  refine (congrArg (mergeT 15) h5).trans ?_
  rw [round_eq 14 (by decide) (lane g j), ng_last]

/-- Every column of the sorted buffer is the column rearranged, and ascends. -/
theorem sortCol_sorted (g : Col Ideal) (j : Fin 128) :
    Monotone (lane (sortCol g) j) ∧ ∃ σ : Equiv.Perm (Fin (2 ^ 15)), lane (sortCol g) j = lane g j ∘ σ := by
  rw [lane_sortCol]; exact rounds_sorted _

end Cert.Proof

end
-- ==== Proof.Reference.lean ====
/-
  The reference's sort, column by column, over the extended reals: it rearranges each column and leaves it ascending.
-/
module

public import proofs.«01_k».proof.Proof.Gen.ReferenceIdeal.Run
public import proofs.«01_k».proof.Proof.Net
public import Idealize.ShloMosaic.Lib.SortFacts
public import Idealize.ShloMosaic.Lib.ValueIdx
public import Idealize.ShloMosaic.PureOps.Ideal.Laws
public import Idealize.ShloMosaic.Lib.SortNet.HostSort

@[expose] public section

set_option maxRecDepth 16384

noncomputable section

namespace Cert.Proof

open Idealize.ShloMosaic Idealize.ShloMosaic.ValueIdx

/-- Column `c` of the whole array. -/
def refLane (x : Cert.ReferenceIdeal.S32768x1024.Idx → EReal) (c : Fin 1024) : Line := fun r => x (ix2 ⟨r.val, r.isLt⟩ c)

/-- The reference's comparison is the order of the extended reals. -/
theorem comparator_eq (l r : EReal) : Cert.ReferenceIdeal.comparator_f32_d0 (F := Ideal) l r = BitVec.ofBool (decide (l < r)) := by
  have h0 : ∀ l : EReal, Scalar.select (Ideal.cmp .oeq l (Ideal.ofBits .f32 0x00000000#32)) (Ideal.ofBits .f32 0x00000000#32) l = l := by
    intro l
    by_cases h : l = Ideal.ofBits .f32 0x00000000#32
    · rw [← h]; unfold Scalar.select; split <;> rfl
    · have : Ideal.cmp .oeq l (Ideal.ofBits .f32 0x00000000#32) = 0#1 := by
        show BitVec.ofBool (decide (l = _)) = _
        rw [decide_eq_false h]; rfl
      rw [this]; rfl
  have h1 : ∀ l a b : EReal, Scalar.select (Ideal.cmp .une l l) a b = b := by
    intro l a b
    have : Ideal.cmp .une l l = 0#1 := by
      show BitVec.ofBool (decide (l ≠ l)) = _
      rw [decide_eq_false fun h => h rfl]; rfl
    rw [this]; rfl
  show Ideal.cmp .olt (Scalar.select (Ideal.cmp .une l l) _ (Scalar.select (Ideal.cmp .oeq l (Ideal.ofBits .f32 0x00000000#32)) (Ideal.ofBits .f32 0x00000000#32) l))
    (Scalar.select (Ideal.cmp .une r r) _ (Scalar.select (Ideal.cmp .oeq r (Ideal.ofBits .f32 0x00000000#32)) (Ideal.ofBits .f32 0x00000000#32) r)) = _
  rw [h1, h1, h0, h0]
  rfl

/-- The stable sort of a column rearranges it and leaves it ascending. -/
theorem sortedFrom_sorted {n : ℕ} (v : Fin n → EReal) :
    Monotone (v ∘ sortedFrom fun k k' => decide (v k < v k'))
      ∧ ∃ σ : Equiv.Perm (Fin n), (v ∘ sortedFrom fun k k' => decide (v k < v k')) = v ∘ σ := by
  constructor
  · refine monotone_iff_forall_lt.mpr fun i j hij => ?_
    have h := sortedFrom_noInversion (fun k k' => decide (v k < v k')) (fun k k' => decide (v k < v k'))
      (fun a b h => decide_eq_false (not_lt.mpr (le_of_lt (of_decide_eq_true h)))) (fun a b h => h)
      (fun a b d h h' => decide_eq_false (not_lt.mpr ((not_lt.mp (of_decide_eq_false h')).trans (not_lt.mp (of_decide_eq_false h))))) i j hij
    exact not_lt.mp (of_decide_eq_false h)
  · exact ⟨Equiv.ofBijective _ ⟨sortedFrom_injective _, sortedFrom_surjective _⟩, rfl⟩

/-- The sort of an array of rows by the order of the extended reals, read at an element. -/
theorem sort_apply {N C : ℕ} (cmp : EReal → EReal → BitVec 1) (hcmp : ∀ l r, cmp l r = BitVec.ofBool (decide (l < r)))
    (x : (⟨2, ![N, C]⟩ : Shape).Idx → EReal) (r : Fin N) (c : Fin C) :
    Host.sort ⟨2, ![N, C]⟩ 0 cmp x (ix2 r c)
      = x (ix2 (sortedFrom (fun k k' => decide (x (ix2 k c) < x (ix2 k' c))) r) c) := by
  have ha : ∀ k : Fin N, Shape.Idx.along (s := ⟨2, ![N, C]⟩) (ix2 r c) 0 k = ix2 k c := by
    intro k; unfold Shape.Idx.along
    funext a
    match a with
    | ⟨0, _⟩ => rfl
    | ⟨1, _⟩ => rfl
  have hR : (fun k k' : Fin N => cmp (x (Shape.Idx.along (s := ⟨2, ![N, C]⟩) (ix2 r c) 0 k)) (x (Shape.Idx.along (s := ⟨2, ![N, C]⟩) (ix2 r c) 0 k')) == 1#1)
      = fun k k' => decide (x (ix2 k c) < x (ix2 k' c)) := by
    funext k k'
    rw [ha, ha, hcmp]
    generalize decide (x (ix2 k c) < x (ix2 k' c)) = b
    cases b <;> rfl
  exact (congrArg (fun B : Fin N → Fin N → Bool => x (Shape.Idx.along (s := ⟨2, ![N, C]⟩) (ix2 r c) 0 (sortedFrom B r))) hR).trans
    (congrArg x (ha _))

/-- Every column of the sorted array is the column rearranged, and ascends. -/
theorem sort_sorted {N C : ℕ} (cmp : EReal → EReal → BitVec 1) (hcmp : ∀ l r, cmp l r = BitVec.ofBool (decide (l < r)))
    (x : (⟨2, ![N, C]⟩ : Shape).Idx → EReal) (c : Fin C) :
    Monotone (fun r : Fin N => Host.sort ⟨2, ![N, C]⟩ 0 cmp x (ix2 r c))
      ∧ ∃ σ : Equiv.Perm (Fin N), (fun r : Fin N => Host.sort ⟨2, ![N, C]⟩ 0 cmp x (ix2 r c)) = (fun r => x (ix2 r c)) ∘ σ := by
  have e : (fun r : Fin N => Host.sort ⟨2, ![N, C]⟩ 0 cmp x (ix2 r c)) = _ := funext fun r => sort_apply cmp hcmp x r c
  rw [e]
  exact sortedFrom_sorted fun r : Fin N => x (ix2 r c)

@[inherit_doc sort_sorted]
theorem refSort_sorted (x : Cert.ReferenceIdeal.S32768x1024.Idx → EReal) (c : Fin 1024) :
    Monotone (refLane (Host.sort Cert.ReferenceIdeal.S32768x1024 0 (Cert.ReferenceIdeal.comparator_f32_d0 (F := Ideal)) x) c)
      ∧ ∃ σ : Equiv.Perm (Fin (2 ^ 15)), refLane (Host.sort Cert.ReferenceIdeal.S32768x1024 0 (Cert.ReferenceIdeal.comparator_f32_d0 (F := Ideal)) x) c
          = refLane x c ∘ σ :=
  sort_sorted (N := 32768) (C := 1024) (Cert.ReferenceIdeal.comparator_f32_d0 (F := Ideal)) comparator_eq x c

/-- Two ascending rearrangements of a column are the same. -/
theorem sorted_unique {v f g : Line} (hf : Monotone f ∧ ∃ σ : Equiv.Perm (Fin (2 ^ 15)), f = v ∘ σ)
    (hg : Monotone g ∧ ∃ σ : Equiv.Perm (Fin (2 ^ 15)), g = v ∘ σ) : f = g := by
  obtain ⟨mf, σ, rfl⟩ := hf
  obtain ⟨mg, τ, rfl⟩ := hg
  refine List.ofFn_injective (List.Perm.eq_of_pairwise (le := fun a b : EReal => a ≤ b) (fun a b _ _ h h' => le_antisymm h h') ?_ ?_
    ((Equiv.Perm.ofFn_comp_perm σ v).trans (Equiv.Perm.ofFn_comp_perm τ v).symm))
  · rw [List.pairwise_ofFn]; exact fun i j hij => mf (le_of_lt hij)
  · rw [List.pairwise_ofFn]; exact fun i j hij => mg (le_of_lt hij)

end Cert.Proof

end
-- ==== Proof.Value.lean ====
/-
  The result of the kernel is the reference's: every device ends with its rows of the whole array sorted.
-/
module

public import proofs.«01_k».proof.Proof.Common
public import proofs.«01_k».proof.Proof.Column
public import proofs.«01_k».proof.Proof.Reference
public import Idealize.ShloMosaic.Lib.Layout

@[expose] public section

set_option maxRecDepth 16384
set_option synthInstance.maxSize 4096

noncomputable section

namespace Cert.Proof

open Idealize.ShloMosaic Idealize.ShloMosaic.TcCoe Idealize.SL.Sem Idealize.ShloMosaic.ValueIdx
open Cert.KernelIdeal Cert.KernelIdeal.Gen

/-- The whole array sorted by the reference. -/
def refSort (x : Cert.ReferenceIdeal.S32768x1024.Idx → EReal) : Cert.ReferenceIdeal.S32768x1024.Idx → EReal :=
  Host.sort Cert.ReferenceIdeal.S32768x1024 0 (Cert.ReferenceIdeal.comparator_f32_d0 (F := Ideal)) x

/-- Device `c`'s rows of the whole array. -/
def rowsOf (x : Cert.ReferenceIdeal.S32768x1024.Idx → EReal) (c : Dev nD) : S8192x1024.Idx → EReal :=
  Layout.block ⟨2, ![8192, 1024]⟩ ⟨2, ![32768, 1024]⟩ 0 4 c x

theorem rowsOf_apply (x : Cert.ReferenceIdeal.S32768x1024.Idx → EReal) (c : Dev nD) (i : S8192x1024.Idx) :
    rowsOf x c i = x (ix2 ⟨8192 * c.val + (i 0).val, by have h := idx2_lt0 i; have hd : c.val < 4 := c.isLt; omega⟩ (i 1)) := by
  refine congrArg x (funext fun a => Fin.ext ?_)
  match a with
  | ⟨0, _⟩ => show c.val * 8192 + (i 0).val = 8192 * c.val + (i 0).val; omega
  | ⟨1, _⟩ => rfl

variable (m : (ℓ : Loc nD τ sig) → Buf (Elt Ideal) ℓ) (x : Cert.ReferenceIdeal.S32768x1024.Idx → EReal)

/-- A column of a gathered chunk is a column of the whole array. -/
theorem lane_gathered (hm : ∀ c : Dev nD, X m c = rowsOf x c) (d : Dev nD) (b : Fin 2) (j : Fin 128)
    (col : Fin 1024) (hc : col.val = 256 * d.val + 128 * b.val + j.val) : lane (gathered m d b) j = refLane x col := by
  funext r
  unfold lane gathered refLane
  rw [hm, rowsOf_apply]
  have hr : r.val < 32768 := r.isLt
  congr 1
  have h0 : (⟨8192 * (r.val / 8192) + r.val % 8192, by omega⟩ : Fin 32768) = ⟨r.val, hr⟩ := Fin.ext (Nat.div_add_mod _ _)
  have h1 : (⟨256 * d.val + 128 * b.val + j.val, hc ▸ col.isLt⟩ : Fin 1024) = col := Fin.ext hc.symm
  exact congrArg₂ (fun a c => ix2 a c) h0 h1

/-- Device `c`'s rows of the result are its rows of the whole array sorted. -/
theorem outOf_eq (hm : ∀ c : Dev nD, X m c = rowsOf x c) (c : Dev nD) : outOf m c = rowsOf (refSort x) c := by
  funext i
  rw [rowsOf_apply]
  have h1 := idx2_lt1 i
  have hd : (i 1).val / 256 < nD := by have : nD = 4 := rfl; omega
  have hs := sortCol_sorted (gathered m ⟨(i 1).val / 256, hd⟩ ⟨(i 1).val % 256 / 128, by omega⟩) ⟨(i 1).val % 128, Nat.mod_lt _ (by decide)⟩
  rw [lane_gathered m x hm _ _ _ (i 1) (by show (i 1).val = 256 * ((i 1).val / 256) + 128 * ((i 1).val % 256 / 128) + (i 1).val % 128; omega)] at hs
  have h := sorted_unique hs (refSort_sorted x (i 1))
  exact congrFun h ⟨8192 * c.val + (i 0).val, by have h := idx2_lt0 i; have hd : c.val < 4 := c.isLt; omega⟩

end Cert.Proof

end
-- ==== Proof.lean ====
/-
  The claims about the column sort, put together: the three frames, and that over the extended reals every device
  ends with its rows of the reference's result.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every run of the kernel ends without a fault, with its argument unchanged and all semaphores at zero. -/
theorem frame_kernel : Cert.quiescent_Kernel := fun m g _ =>
  (θ_run Cert.KernelIdeal.defs _ _).mono (fun _ h => ⟨fun c => (h.1 c).2, h.2⟩) (run_main (F := Bits) m g)

/-- So does every run of the idealized kernel, -/
theorem frame_kernelIdeal : Cert.quiescent_KernelIdeal := fun m g _ =>
  (θ_run Cert.KernelIdeal.defs _ _).mono (fun _ h => ⟨fun c => (h.1 c).2, h.2⟩) (run_main (F := Ideal) m g)

/-- and of the reference. -/
theorem frame_referenceIdeal : Cert.quiescent_ReferenceIdeal := fun m g _ =>
  (θ_run Cert.ReferenceIdeal.defs _ _).mono (fun r h => ⟨fun c => (h c).2, sem_eq_zero_of_no_sems rfl r.2⟩) (Cert.ReferenceIdeal.Value.run (F := Ideal) m g)

/-- The idealized kernel's results are the reference's rows, device by device. -/
theorem algebraic : Cert.algebraic_KernelIdeal_ReferenceIdeal := fun m g m' g' _ hm =>
  ⟨refSort (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (outOf_eq m _ hm c), (h.1 c).2⟩) (run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
